-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def preserves_Kernel_KernelIdeal : Prop :=
  IdealRules.named_const.Statement Cert.KernelIdeal.κ "log_gamma_0" .f32 0xBD020AEC#32 ((Real.log (31 / 32) : ℝ) : EReal)
  ∧ IdealRules.named_const.Statement Cert.KernelIdeal.κ "decay_state_0" .f32 0x3E063AE5#32 ((279993793990258235750468749959300213014699042596341116563305503247751586492770004816505534904321 / 2135987035920910082395021706169552114602704522356652769947041607822219725780640550022962086936576 : ℝ) : EReal)
  ∧ IdealRules.named_const.Statement Cert.KernelIdeal.κ "log_gamma_1" .f32 0xBC8102B3#32 ((Real.log (63 / 64) : ℝ) : EReal)
  ∧ IdealRules.named_const.Statement Cert.KernelIdeal.κ "decay_state_1" .f32 0x3EBADF84#32 ((14381201289858923833733732277241427911251598557516928831287151963615866190845260542210496569296551598609485715599361 / 39402006196394479212279040100143613805079739270465446667948293404245721771497210611414266254884915640806627990306816 : ℝ) : EReal)
  ∧ IdealRules.named_const.Statement Cert.KernelIdeal.κ "log_gamma_2" .f32 0xBC0080AC#32 ((Real.log (127 / 128) : ℝ) : EReal)
  ∧ IdealRules.named_const.Statement Cert.KernelIdeal.κ "decay_state_2" .f32 0x3F1AF7A1#32 ((439985273984774139364885786774155225074372621425249766976946157772109425125407741241214744259687760072793219732307971501512893104906241 / 726838724295606890549323807888004534353641360687318060281490199180639288113397923326191050713763565560762521606266177933534601628614656 : ℝ) : EReal)
  ∧ IdealRules.named_const.Statement Cert.KernelIdeal.κ "log_gamma_3" .f32 0xBB80402B#32 ((Real.log (255 / 256) : ℝ) : EReal)
  ∧ IdealRules.named_const.Statement Cert.KernelIdeal.κ "decay_state_3" .f32 0x3F474682#32 ((10436900611138725869172867285320967420499386398293333045633692797639857278619179096472846825397665828940838712011497657616843071082257665693759918212890625 / 13407807929942597099574024998205846127479365820592393377723561443721764030073546976801874298166903427690031858186486050853753882811946569946433649006084096 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v335) = v0 c
          ∧ r.2.mem ((c.tc : Thread Cert.ReferenceIdeal.nD Cert.ReferenceIdeal.τ).loc Cert.ReferenceIdeal.main_v336) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v24) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v1) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v37) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v35) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v22) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v1_0)) (v1 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1_0) = v0 c
          ∧ r.2.mem ((c.tc : Thread Cert.Kernel8Ideal.nD Cert.Kernel8Ideal.τ).loc Cert.Kernel8Ideal.main_v2) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v62) = v0 c
          ∧ r.2.mem ((c.tc : Thread Cert.Reference8Ideal.nD Cert.Reference8Ideal.τ).loc Cert.Reference8Ideal.main_v63) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Kernel.lean ====
abbrev S33792x17920 : Shape := ⟨2, ![33792, 17920]⟩
abbrev S16x4x256x256 : Shape := ⟨4, ![16, 4, 256, 256]⟩
abbrev S128 : Shape := ⟨1, ![128]⟩
abbrev S_ : Shape := ⟨0, ![]⟩
abbrev S8192 : Shape := ⟨1, ![8192]⟩
abbrev S64 : Shape := ⟨1, ![64]⟩
abbrev S8256 : Shape := ⟨1, ![8256]⟩
abbrev S8256x1 : Shape := ⟨2, ![8256, 1]⟩
abbrev S1x128 : Shape := ⟨2, ![1, 128]⟩
abbrev S8256x128 : Shape := ⟨2, ![8256, 128]⟩
abbrev S20x4x256x256 : Shape := ⟨4, ![20, 4, 256, 256]⟩
abbrev S33792x1024 : Shape := ⟨2, ![33792, 1024]⟩
abbrev S64x1024 : Shape := ⟨2, ![64, 1024]⟩
abbrev S64x128 : Shape := ⟨2, ![64, 128]⟩
abbrev S1x4x256x256 : Shape := ⟨4, ![1, 4, 256, 256]⟩
abbrev S64x64 : Shape := ⟨2, ![64, 64]⟩
abbrev S64x1 : Shape := ⟨2, ![64, 1]⟩
abbrev S64x256 : Shape := ⟨2, ![64, 256]⟩
abbrev S1x1x256x256 : Shape := ⟨4, ![1, 1, 256, 256]⟩
abbrev S256x256 : Shape := ⟨2, ![256, 256]⟩

abbrev nBuf : Space → Nat
  | .hbm => 29
  | .vmem => 18
  | .smem => 0
  | _ => 0

abbrev bufTy : (tb : Table) → Fin (tcTables nBuf tb) → BufTy
  | .hbm, ⟨0, _⟩ => ⟨S33792x17920, .f32⟩
  | .hbm, ⟨1, _⟩ => ⟨S16x4x256x256, .f32⟩
  | .hbm, ⟨2, _⟩ => ⟨S128, .f32⟩
  | .hbm, ⟨3, _⟩ => ⟨S128, .f32⟩
  | .hbm, ⟨4, _⟩ => ⟨S_, .f32⟩
  | .hbm, ⟨5, _⟩ => ⟨S128, .f32⟩
  | .hbm, ⟨6, _⟩ => ⟨S128, .f32⟩
  | .hbm, ⟨7, _⟩ => ⟨S_, .f32⟩
  | .hbm, ⟨8, _⟩ => ⟨S128, .f32⟩
  | .hbm, ⟨9, _⟩ => ⟨S128, .f32⟩
  | .hbm, ⟨10, _⟩ => ⟨S8192, .i32⟩
  | .hbm, ⟨11, _⟩ => ⟨S64, .i32⟩
  | .hbm, ⟨12, _⟩ => ⟨S_, .i32⟩
  | .hbm, ⟨13, _⟩ => ⟨S64, .i32⟩
  | .hbm, ⟨14, _⟩ => ⟨S64, .i32⟩
  | .hbm, ⟨15, _⟩ => ⟨S8256, .i32⟩
  | .hbm, ⟨16, _⟩ => ⟨S8256, .f32⟩
  | .hbm, ⟨17, _⟩ => ⟨S8256x1, .f32⟩
  | .hbm, ⟨18, _⟩ => ⟨S1x128, .f32⟩
  | .hbm, ⟨19, _⟩ => ⟨S8256x128, .f32⟩
  | .hbm, ⟨20, _⟩ => ⟨S8256x128, .f32⟩
  | .hbm, ⟨21, _⟩ => ⟨S8256x128, .f32⟩
  | .hbm, ⟨22, _⟩ => ⟨S8256x128, .f32⟩
  | .hbm, ⟨23, _⟩ => ⟨S8256x128, .f32⟩
  | .hbm, ⟨24, _⟩ => ⟨S_, .i32⟩
  | .hbm, ⟨25, _⟩ => ⟨S_, .f32⟩
  | .hbm, ⟨26, _⟩ => ⟨S20x4x256x256, .f32⟩
  | .hbm, ⟨27, _⟩ => ⟨S33792x1024, .bf16⟩
  | .hbm, ⟨28, _⟩ => ⟨S20x4x256x256, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x128, .f32⟩
  | .local _ .vmem, ⟨9, _⟩ => ⟨S64x128, .f32⟩
  | .local _ .vmem, ⟨10, _⟩ => ⟨S64x128, .f32⟩
  | .local _ .vmem, ⟨11, _⟩ => ⟨S64x128, .f32⟩
  | .local _ .vmem, ⟨12, _⟩ => ⟨S1x4x256x256, .f32⟩
  | .local _ .vmem, ⟨13, _⟩ => ⟨S1x4x256x256, .f32⟩
  | .local _ .vmem, ⟨14, _⟩ => ⟨S64x1024, .bf16⟩
  | .local _ .vmem, ⟨15, _⟩ => ⟨S64x1024, .bf16⟩
  | .local _ .vmem, ⟨16, _⟩ => ⟨S1x4x256x256, .f32⟩
  | .local _ .vmem, ⟨17, _⟩ => ⟨S1x4x256x256, .f32⟩
  | _, _ => ⟨S33792x17920, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_c_1 : Ref sig .tc := ⟨.hbm, 24, rfl⟩
abbrev main_call0_v0 : Ref sig .tc := ⟨.hbm, 25, rfl⟩
abbrev main_v19 : Ref sig .tc := ⟨.hbm, 26, rfl⟩
abbrev main_v20_0 : Ref sig .tc := ⟨.hbm, 27, rfl⟩
abbrev main_v20_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![528], ![false]⟩

def cc0_transform_0 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_1 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_2 (i : grid0.Coords) : Fin 2 → Nat :=
  let arg0 : BitVec 32 := BitVec.ofNat 32 (i 0).val
  let c15_i32 : BitVec 32 := 15#32
  let c0_i32 : BitVec 32 := 0#32
  ![arg0.toNat, c15_i32.toNat]

def cc0_transform_3 (i : grid0.Coords) : Fin 2 → Nat :=
  let arg0 : BitVec 32 := BitVec.ofNat 32 (i 0).val
  let c16_i32 : BitVec 32 := 16#32
  let c0_i32 : BitVec 32 := 0#32
  ![arg0.toNat, c16_i32.toNat]

def cc0_transform_4 (i : grid0.Coords) : Fin 2 → Nat :=
  let arg0 : BitVec 32 := BitVec.ofNat 32 (i 0).val
  let c512_i32 : BitVec 32 := 512#32
  let v0 : BitVec 1 := Scalar.cmpi .slt arg0 c512_i32
  let c512_i32_0 : BitVec 32 := 512#32
  let v1 : BitVec 32 := Scalar.subi arg0 c512_i32_0
  let c128_i32 : BitVec 32 := 128#32
  let v2 : BitVec 32 := Scalar.divsi arg0 c128_i32
  let c0_i32 : BitVec 32 := 0#32
  let v3 : BitVec 1 := Scalar.cmpi .sgt arg0 c0_i32
  let v4 : BitVec 32 := Scalar.extui v3
  let c0_i32_1 : BitVec 32 := 0#32
  let v5 : BitVec 1 := Scalar.cmpi .slt arg0 c0_i32_1
  let v6 : BitVec 32 := Scalar.extui v5
  let v7 : BitVec 32 := Scalar.subi v4 v6
  let c0_i32_2 : BitVec 32 := 0#32
  let v8 : BitVec 1 := Scalar.cmpi .sgt c128_i32 c0_i32_2
  let v9 : BitVec 32 := Scalar.extui v8
  let c0_i32_3 : BitVec 32 := 0#32
  let v10 : BitVec 1 := Scalar.cmpi .slt c128_i32 c0_i32_3
  let v11 : BitVec 32 := Scalar.extui v10
  let v12 : BitVec 32 := Scalar.subi v9 v11
  let v13 : BitVec 1 := Scalar.cmpi .ne v7 v12
  let v14 : BitVec 32 := Scalar.remsi arg0 c128_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.divsi v1 c1_i32_5
  let c0_i32_6 : BitVec 32 := 0#32
  let v20 : BitVec 1 := Scalar.cmpi .sgt v1 c0_i32_6
  let v21 : BitVec 32 := Scalar.extui v20
  let c0_i32_7 : BitVec 32 := 0#32
  let v22 : BitVec 1 := Scalar.cmpi .slt v1 c0_i32_7
  let v23 : BitVec 32 := Scalar.extui v22
  let v24 : BitVec 32 := Scalar.subi v21 v23
  let c0_i32_8 : BitVec 32 := 0#32
  let v25 : BitVec 1 := Scalar.cmpi .sgt c1_i32_5 c0_i32_8
  let v26 : BitVec 32 := Scalar.extui v25
  let c0_i32_9 : BitVec 32 := 0#32
  let v27 : BitVec 1 := Scalar.cmpi .slt c1_i32_5 c0_i32_9
  let v28 : BitVec 32 := Scalar.extui v27
  let v29 : BitVec 32 := Scalar.subi v26 v28
  let v30 : BitVec 1 := Scalar.cmpi .ne v24 v29
  let v31 : BitVec 32 := Scalar.remsi v1 c1_i32_5
  let c0_i32_10 : BitVec 32 := 0#32
  let v32 : BitVec 1 := Scalar.cmpi .ne v31 c0_i32_10
  let v33 : BitVec 1 := Scalar.andi v30 v32
  let c1_i32_11 : BitVec 32 := 1#32
  let v34 : BitVec 32 := Scalar.subi v19 c1_i32_11
  let v35 : BitVec 32 := Scalar.select v33 v34 v19
  let c4_i32 : BitVec 32 := 4#32
  let v36 : BitVec 32 := Scalar.addi c4_i32 v35
  let v37 : BitVec 32 := Scalar.select v0 v18 v36
  let c128_i32_12 : BitVec 32 := 128#32
  let c0_i32_13 : BitVec 32 := 0#32
  let v38 : BitVec 1 := Scalar.cmpi .eq c128_i32_12 c0_i32_13
  let c1_i32_14 : BitVec 32 := 1#32
  let v39 : BitVec 32 := Scalar.select v38 c1_i32_14 c128_i32_12
  let v40 : BitVec 32 := Scalar.remsi arg0 v39
  let c0_i32_15 : BitVec 32 := 0#32
  let v41 : BitVec 1 := Scalar.cmpi .ne v40 c0_i32_15
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let v45 : BitVec 1 := Scalar.andi v44 v41
  let v46 : BitVec 32 := Scalar.addi v40 v39
  let v47 : BitVec 32 := Scalar.select v45 v46 v40
  let c1_i32_18 : BitVec 32 := 1#32
  let c0_i32_19 : BitVec 32 := 0#32
  let v48 : BitVec 1 := Scalar.cmpi .eq c1_i32_18 c0_i32_19
  let c1_i32_20 : BitVec 32 := 1#32
  let v49 : BitVec 32 := Scalar.select v48 c1_i32_20 c1_i32_18
  let v50 : BitVec 32 := Scalar.remsi v1 v49
  let c0_i32_21 : BitVec 32 := 0#32
  let v51 : BitVec 1 := Scalar.cmpi .ne v50 c0_i32_21
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let v55 : BitVec 1 := Scalar.andi v54 v51
  let v56 : BitVec 32 := Scalar.addi v50 v49
  let v57 : BitVec 32 := Scalar.select v55 v56 v50
  let v58 : BitVec 32 := Scalar.select v0 v47 v57
  let c128_i32_24 : BitVec 32 := 128#32
  let v59 : BitVec 32 := Scalar.addi c128_i32_24 v58
  let v60 : BitVec 32 := Scalar.select v0 v58 v59
  let c0_i32_25 : BitVec 32 := 0#32
  let c0_i32_26 : BitVec 32 := 0#32
  ![v60.toNat, c0_i32_25.toNat]

def cc0_transform_5 (i : grid0.Coords) : Fin 2 → Nat :=
  let arg0 : BitVec 32 := BitVec.ofNat 32 (i 0).val
  let c512_i32 : BitVec 32 := 512#32
  let v0 : BitVec 1 := Scalar.cmpi .slt arg0 c512_i32
  let c512_i32_0 : BitVec 32 := 512#32
  let v1 : BitVec 32 := Scalar.subi arg0 c512_i32_0
  let c128_i32 : BitVec 32 := 128#32
  let v2 : BitVec 32 := Scalar.divsi arg0 c128_i32
  let c0_i32 : BitVec 32 := 0#32
  let v3 : BitVec 1 := Scalar.cmpi .sgt arg0 c0_i32
  let v4 : BitVec 32 := Scalar.extui v3
  let c0_i32_1 : BitVec 32 := 0#32
  let v5 : BitVec 1 := Scalar.cmpi .slt arg0 c0_i32_1
  let v6 : BitVec 32 := Scalar.extui v5
  let v7 : BitVec 32 := Scalar.subi v4 v6
  let c0_i32_2 : BitVec 32 := 0#32
  let v8 : BitVec 1 := Scalar.cmpi .sgt c128_i32 c0_i32_2
  let v9 : BitVec 32 := Scalar.extui v8
  let c0_i32_3 : BitVec 32 := 0#32
  let v10 : BitVec 1 := Scalar.cmpi .slt c128_i32 c0_i32_3
  let v11 : BitVec 32 := Scalar.extui v10
  let v12 : BitVec 32 := Scalar.subi v9 v11
  let v13 : BitVec 1 := Scalar.cmpi .ne v7 v12
  let v14 : BitVec 32 := Scalar.remsi arg0 c128_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.divsi v1 c1_i32_5
  let c0_i32_6 : BitVec 32 := 0#32
  let v20 : BitVec 1 := Scalar.cmpi .sgt v1 c0_i32_6
  let v21 : BitVec 32 := Scalar.extui v20
  let c0_i32_7 : BitVec 32 := 0#32
  let v22 : BitVec 1 := Scalar.cmpi .slt v1 c0_i32_7
  let v23 : BitVec 32 := Scalar.extui v22
  let v24 : BitVec 32 := Scalar.subi v21 v23
  let c0_i32_8 : BitVec 32 := 0#32
  let v25 : BitVec 1 := Scalar.cmpi .sgt c1_i32_5 c0_i32_8
  let v26 : BitVec 32 := Scalar.extui v25
  let c0_i32_9 : BitVec 32 := 0#32
  let v27 : BitVec 1 := Scalar.cmpi .slt c1_i32_5 c0_i32_9
  let v28 : BitVec 32 := Scalar.extui v27
  let v29 : BitVec 32 := Scalar.subi v26 v28
  let v30 : BitVec 1 := Scalar.cmpi .ne v24 v29
  let v31 : BitVec 32 := Scalar.remsi v1 c1_i32_5
  let c0_i32_10 : BitVec 32 := 0#32
  let v32 : BitVec 1 := Scalar.cmpi .ne v31 c0_i32_10
  let v33 : BitVec 1 := Scalar.andi v30 v32
  let c1_i32_11 : BitVec 32 := 1#32
  let v34 : BitVec 32 := Scalar.subi v19 c1_i32_11
  let v35 : BitVec 32 := Scalar.select v33 v34 v19
  let c4_i32 : BitVec 32 := 4#32
  let v36 : BitVec 32 := Scalar.addi c4_i32 v35
  let v37 : BitVec 32 := Scalar.select v0 v18 v36
  let c128_i32_12 : BitVec 32 := 128#32
  let c0_i32_13 : BitVec 32 := 0#32
  let v38 : BitVec 1 := Scalar.cmpi .eq c128_i32_12 c0_i32_13
  let c1_i32_14 : BitVec 32 := 1#32
  let v39 : BitVec 32 := Scalar.select v38 c1_i32_14 c128_i32_12
  let v40 : BitVec 32 := Scalar.remsi arg0 v39
  let c0_i32_15 : BitVec 32 := 0#32
  let v41 : BitVec 1 := Scalar.cmpi .ne v40 c0_i32_15
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let v45 : BitVec 1 := Scalar.andi v44 v41
  let v46 : BitVec 32 := Scalar.addi v40 v39
  let v47 : BitVec 32 := Scalar.select v45 v46 v40
  let c1_i32_18 : BitVec 32 := 1#32
  let c0_i32_19 : BitVec 32 := 0#32
  let v48 : BitVec 1 := Scalar.cmpi .eq c1_i32_18 c0_i32_19
  let c1_i32_20 : BitVec 32 := 1#32
  let v49 : BitVec 32 := Scalar.select v48 c1_i32_20 c1_i32_18
  let v50 : BitVec 32 := Scalar.remsi v1 v49
  let c0_i32_21 : BitVec 32 := 0#32
  let v51 : BitVec 1 := Scalar.cmpi .ne v50 c0_i32_21
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let v55 : BitVec 1 := Scalar.andi v54 v51
  let v56 : BitVec 32 := Scalar.addi v50 v49
  let v57 : BitVec 32 := Scalar.select v55 v56 v50
  let v58 : BitVec 32 := Scalar.select v0 v47 v57
  let c128_i32_24 : BitVec 32 := 128#32
  let v59 : BitVec 32 := Scalar.addi c128_i32_24 v58
  let v60 : BitVec 32 := Scalar.select v0 v58 v59
  let c0_i32_25 : BitVec 32 := 0#32
  let c0_i32_26 : BitVec 32 := 0#32
  ![v60.toNat, c0_i32_25.toNat]

def cc0_transform_6 (i : grid0.Coords) : Fin 4 → Nat :=
  let arg0 : BitVec 32 := BitVec.ofNat 32 (i 0).val
  let c512_i32 : BitVec 32 := 512#32
  let v0 : BitVec 1 := Scalar.cmpi .slt arg0 c512_i32
  let c512_i32_0 : BitVec 32 := 512#32
  let v1 : BitVec 32 := Scalar.subi arg0 c512_i32_0
  let c128_i32 : BitVec 32 := 128#32
  let v2 : BitVec 32 := Scalar.divsi arg0 c128_i32
  let c0_i32 : BitVec 32 := 0#32
  let v3 : BitVec 1 := Scalar.cmpi .sgt arg0 c0_i32
  let v4 : BitVec 32 := Scalar.extui v3
  let c0_i32_1 : BitVec 32 := 0#32
  let v5 : BitVec 1 := Scalar.cmpi .slt arg0 c0_i32_1
  let v6 : BitVec 32 := Scalar.extui v5
  let v7 : BitVec 32 := Scalar.subi v4 v6
  let c0_i32_2 : BitVec 32 := 0#32
  let v8 : BitVec 1 := Scalar.cmpi .sgt c128_i32 c0_i32_2
  let v9 : BitVec 32 := Scalar.extui v8
  let c0_i32_3 : BitVec 32 := 0#32
  let v10 : BitVec 1 := Scalar.cmpi .slt c128_i32 c0_i32_3
  let v11 : BitVec 32 := Scalar.extui v10
  let v12 : BitVec 32 := Scalar.subi v9 v11
  let v13 : BitVec 1 := Scalar.cmpi .ne v7 v12
  let v14 : BitVec 32 := Scalar.remsi arg0 c128_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.divsi v1 c1_i32_5
  let c0_i32_6 : BitVec 32 := 0#32
  let v20 : BitVec 1 := Scalar.cmpi .sgt v1 c0_i32_6
  let v21 : BitVec 32 := Scalar.extui v20
  let c0_i32_7 : BitVec 32 := 0#32
  let v22 : BitVec 1 := Scalar.cmpi .slt v1 c0_i32_7
  let v23 : BitVec 32 := Scalar.extui v22
  let v24 : BitVec 32 := Scalar.subi v21 v23
  let c0_i32_8 : BitVec 32 := 0#32
  let v25 : BitVec 1 := Scalar.cmpi .sgt c1_i32_5 c0_i32_8
  let v26 : BitVec 32 := Scalar.extui v25
  let c0_i32_9 : BitVec 32 := 0#32
  let v27 : BitVec 1 := Scalar.cmpi .slt c1_i32_5 c0_i32_9
  let v28 : BitVec 32 := Scalar.extui v27
  let v29 : BitVec 32 := Scalar.subi v26 v28
  let v30 : BitVec 1 := Scalar.cmpi .ne v24 v29
  let v31 : BitVec 32 := Scalar.remsi v1 c1_i32_5
  let c0_i32_10 : BitVec 32 := 0#32
  let v32 : BitVec 1 := Scalar.cmpi .ne v31 c0_i32_10
  let v33 : BitVec 1 := Scalar.andi v30 v32
  let c1_i32_11 : BitVec 32 := 1#32
  let v34 : BitVec 32 := Scalar.subi v19 c1_i32_11
  let v35 : BitVec 32 := Scalar.select v33 v34 v19
  let c4_i32 : BitVec 32 := 4#32
  let v36 : BitVec 32 := Scalar.addi c4_i32 v35
  let v37 : BitVec 32 := Scalar.select v0 v18 v36
  let c128_i32_12 : BitVec 32 := 128#32
  let c0_i32_13 : BitVec 32 := 0#32
  let v38 : BitVec 1 := Scalar.cmpi .eq c128_i32_12 c0_i32_13
  let c1_i32_14 : BitVec 32 := 1#32
  let v39 : BitVec 32 := Scalar.select v38 c1_i32_14 c128_i32_12
  let v40 : BitVec 32 := Scalar.remsi arg0 v39
  let c0_i32_15 : BitVec 32 := 0#32
  let v41 : BitVec 1 := Scalar.cmpi .ne v40 c0_i32_15
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let v45 : BitVec 1 := Scalar.andi v44 v41
  let v46 : BitVec 32 := Scalar.addi v40 v39
  let v47 : BitVec 32 := Scalar.select v45 v46 v40
  let c1_i32_18 : BitVec 32 := 1#32
  let c0_i32_19 : BitVec 32 := 0#32
  let v48 : BitVec 1 := Scalar.cmpi .eq c1_i32_18 c0_i32_19
  let c1_i32_20 : BitVec 32 := 1#32
  let v49 : BitVec 32 := Scalar.select v48 c1_i32_20 c1_i32_18
  let v50 : BitVec 32 := Scalar.remsi v1 v49
  let c0_i32_21 : BitVec 32 := 0#32
  let v51 : BitVec 1 := Scalar.cmpi .ne v50 c0_i32_21
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let v55 : BitVec 1 := Scalar.andi v54 v51
  let v56 : BitVec 32 := Scalar.addi v50 v49
  let v57 : BitVec 32 := Scalar.select v55 v56 v50
  let v58 : BitVec 32 := Scalar.select v0 v47 v57
  let c0_i32_24 : BitVec 32 := 0#32
  let c0_i32_25 : BitVec 32 := 0#32
  let c0_i32_26 : BitVec 32 := 0#32
  let c0_i32_27 : BitVec 32 := 0#32
  ![v37.toNat, c0_i32_24.toNat, c0_i32_25.toNat, c0_i32_26.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let c512_i32 : BitVec 32 := 512#32
  let v0 : BitVec 1 := Scalar.cmpi .slt arg0 c512_i32
  let c512_i32_0 : BitVec 32 := 512#32
  let v1 : BitVec 32 := Scalar.subi arg0 c512_i32_0
  let c128_i32 : BitVec 32 := 128#32
  let v2 : BitVec 32 := Scalar.divsi arg0 c128_i32
  let c0_i32 : BitVec 32 := 0#32
  let v3 : BitVec 1 := Scalar.cmpi .sgt arg0 c0_i32
  let v4 : BitVec 32 := Scalar.extui v3
  let c0_i32_1 : BitVec 32 := 0#32
  let v5 : BitVec 1 := Scalar.cmpi .slt arg0 c0_i32_1
  let v6 : BitVec 32 := Scalar.extui v5
  let v7 : BitVec 32 := Scalar.subi v4 v6
  let c0_i32_2 : BitVec 32 := 0#32
  let v8 : BitVec 1 := Scalar.cmpi .sgt c128_i32 c0_i32_2
  let v9 : BitVec 32 := Scalar.extui v8
  let c0_i32_3 : BitVec 32 := 0#32
  let v10 : BitVec 1 := Scalar.cmpi .slt c128_i32 c0_i32_3
  let v11 : BitVec 32 := Scalar.extui v10
  let v12 : BitVec 32 := Scalar.subi v9 v11
  let v13 : BitVec 1 := Scalar.cmpi .ne v7 v12
  let v14 : BitVec 32 := Scalar.remsi arg0 c128_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.divsi v1 c1_i32_5
  let c0_i32_6 : BitVec 32 := 0#32
  let v20 : BitVec 1 := Scalar.cmpi .sgt v1 c0_i32_6
  let v21 : BitVec 32 := Scalar.extui v20
  let c0_i32_7 : BitVec 32 := 0#32
  let v22 : BitVec 1 := Scalar.cmpi .slt v1 c0_i32_7
  let v23 : BitVec 32 := Scalar.extui v22
  let v24 : BitVec 32 := Scalar.subi v21 v23
  let c0_i32_8 : BitVec 32 := 0#32
  let v25 : BitVec 1 := Scalar.cmpi .sgt c1_i32_5 c0_i32_8
  let v26 : BitVec 32 := Scalar.extui v25
  let c0_i32_9 : BitVec 32 := 0#32
  let v27 : BitVec 1 := Scalar.cmpi .slt c1_i32_5 c0_i32_9
  let v28 : BitVec 32 := Scalar.extui v27
  let v29 : BitVec 32 := Scalar.subi v26 v28
  let v30 : BitVec 1 := Scalar.cmpi .ne v24 v29
  let v31 : BitVec 32 := Scalar.remsi v1 c1_i32_5
  let c0_i32_10 : BitVec 32 := 0#32
  let v32 : BitVec 1 := Scalar.cmpi .ne v31 c0_i32_10
  let v33 : BitVec 1 := Scalar.andi v30 v32
  let c1_i32_11 : BitVec 32 := 1#32
  let v34 : BitVec 32 := Scalar.subi v19 c1_i32_11
  let v35 : BitVec 32 := Scalar.select v33 v34 v19
  let c4_i32 : BitVec 32 := 4#32
  let v36 : BitVec 32 := Scalar.addi c4_i32 v35
  let v37 : BitVec 32 := Scalar.select v0 v18 v36
  let c128_i32_12 : BitVec 32 := 128#32
  let c0_i32_13 : BitVec 32 := 0#32
  let v38 : BitVec 1 := Scalar.cmpi .eq c128_i32_12 c0_i32_13
  let c1_i32_14 : BitVec 32 := 1#32
  let v39 : BitVec 32 := Scalar.select v38 c1_i32_14 c128_i32_12
  let v40 : BitVec 32 := Scalar.remsi arg0 v39
  let c0_i32_15 : BitVec 32 := 0#32
  let v41 : BitVec 1 := Scalar.cmpi .ne v40 c0_i32_15
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let v45 : BitVec 1 := Scalar.andi v44 v41
  let v46 : BitVec 32 := Scalar.addi v40 v39
  let v47 : BitVec 32 := Scalar.select v45 v46 v40
  let c1_i32_18 : BitVec 32 := 1#32
  let c0_i32_19 : BitVec 32 := 0#32
  let v48 : BitVec 1 := Scalar.cmpi .eq c1_i32_18 c0_i32_19
  let c1_i32_20 : BitVec 32 := 1#32
  let v49 : BitVec 32 := Scalar.select v48 c1_i32_20 c1_i32_18
  let v50 : BitVec 32 := Scalar.remsi v1 v49
  let c0_i32_21 : BitVec 32 := 0#32
  let v51 : BitVec 1 := Scalar.cmpi .ne v50 c0_i32_21
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let v55 : BitVec 1 := Scalar.andi v54 v51
  let v56 : BitVec 32 := Scalar.addi v50 v49
  let v57 : BitVec 32 := Scalar.select v55 v56 v50
  let v58 : BitVec 32 := Scalar.select v0 v47 v57
  let c0_i32_24 : BitVec 32 := 0#32
  let c0_i32_25 : BitVec 32 := 0#32
  let c0_i32_26 : BitVec 32 := 0#32
  let c0_i32_27 : BitVec 32 := 0#32
  ![v37.toNat, c0_i32_24.toNat, c0_i32_25.toNat, c0_i32_26.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x4x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "decay_state_0" => some ((279993793990258235750468749959300213014699042596341116563305503247751586492770004816505534904321 / 2135987035920910082395021706169552114602704522356652769947041607822219725780640550022962086936576 : ℝ) : EReal)
  | "decay_state_1" => some ((14381201289858923833733732277241427911251598557516928831287151963615866190845260542210496569296551598609485715599361 / 39402006196394479212279040100143613805079739270465446667948293404245721771497210611414266254884915640806627990306816 : ℝ) : EReal)
  | "decay_state_2" => some ((439985273984774139364885786774155225074372621425249766976946157772109425125407741241214744259687760072793219732307971501512893104906241 / 726838724295606890549323807888004534353641360687318060281490199180639288113397923326191050713763565560762521606266177933534601628614656 : ℝ) : EReal)
  | "decay_state_3" => some ((10436900611138725869172867285320967420499386398293333045633692797639857278619179096472846825397665828940838712011497657616843071082257665693759918212890625 / 13407807929942597099574024998205846127479365820592393377723561443721764030073546976801874298166903427690031858186486050853753882811946569946433649006084096 : ℝ) : EReal)
  | "log_gamma_0" => some ((Real.log (31 / 32) : ℝ) : EReal)
  | "log_gamma_1" => some ((Real.log (63 / 64) : ℝ) : EReal)
  | "log_gamma_2" => some ((Real.log (127 / 128) : ℝ) : EReal)
  | "log_gamma_3" => some ((Real.log (255 / 256) : ℝ) : EReal)
  | _ => none
-- ==== ReferenceIdeal.lean ====
abbrev S33792x17920 : Shape := ⟨2, ![33792, 17920]⟩
abbrev S16x4x256x256 : Shape := ⟨4, ![16, 4, 256, 256]⟩
abbrev S32768x17920 : Shape := ⟨2, ![32768, 17920]⟩
abbrev S32768x1024 : Shape := ⟨2, ![32768, 1024]⟩
abbrev S4x8192x4x256 : Shape := ⟨4, ![4, 8192, 4, 256]⟩
abbrev S8192 : Shape := ⟨1, ![8192]⟩
abbrev S_ : Shape := ⟨0, ![]⟩
abbrev S128 : Shape := ⟨1, ![128]⟩
abbrev S8192x1 : Shape := ⟨2, ![8192, 1]⟩
abbrev S1x128 : Shape := ⟨2, ![1, 128]⟩
abbrev S8192x128 : Shape := ⟨2, ![8192, 128]⟩
abbrev S8192x1x128 : Shape := ⟨3, ![8192, 1, 128]⟩
abbrev S4x8192x4x128 : Shape := ⟨4, ![4, 8192, 4, 128]⟩
abbrev S1x8192x1x128 : Shape := ⟨4, ![1, 8192, 1, 128]⟩
abbrev S4x4x256x256 : Shape := ⟨4, ![4, 4, 256, 256]⟩
abbrev S4 : Shape := ⟨1, ![4]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S4x1x1 : Shape := ⟨3, ![4, 1, 1]⟩
abbrev S1x64x64 : Shape := ⟨3, ![1, 64, 64]⟩
abbrev S4x64x64 : Shape := ⟨3, ![4, 64, 64]⟩
abbrev S4x1 : Shape := ⟨2, ![4, 1]⟩
abbrev S4x64 : Shape := ⟨2, ![4, 64]⟩
abbrev S4x128x64x4x256 : Shape := ⟨5, ![4, 128, 64, 4, 256]⟩
abbrev S128x4x4x64x256 : Shape := ⟨5, ![128, 4, 4, 64, 256]⟩
abbrev S1x4x4x64x256 : Shape := ⟨5, ![1, 4, 4, 64, 256]⟩
abbrev S4x4x64x256 : Shape := ⟨4, ![4, 4, 64, 256]⟩
abbrev S4x4x64x64 : Shape := ⟨4, ![4, 4, 64, 64]⟩
abbrev S1x4x64x64 : Shape := ⟨4, ![1, 4, 64, 64]⟩
abbrev S4x64x1 : Shape := ⟨3, ![4, 64, 1]⟩
abbrev S1x4x64x1 : Shape := ⟨4, ![1, 4, 64, 1]⟩
abbrev S1x4x1x1 : Shape := ⟨4, ![1, 4, 1, 1]⟩
abbrev S4x8192x4 : Shape := ⟨3, ![4, 8192, 4]⟩
abbrev S4x8192x4x1 : Shape := ⟨4, ![4, 8192, 4, 1]⟩
abbrev S1024x17920 : Shape := ⟨2, ![1024, 17920]⟩
abbrev S1024x1024 : Shape := ⟨2, ![1024, 1024]⟩
abbrev S16x64x4x256 : Shape := ⟨4, ![16, 64, 4, 256]⟩
abbrev S64x128 : Shape := ⟨2, ![64, 128]⟩
abbrev S64x1x128 : Shape := ⟨3, ![64, 1, 128]⟩
abbrev S16x64x4x128 : Shape := ⟨4, ![16, 64, 4, 128]⟩
abbrev S1x64x1x128 : Shape := ⟨4, ![1, 64, 1, 128]⟩
abbrev S16x4x64x256 : Shape := ⟨4, ![16, 4, 64, 256]⟩
abbrev S16x4x64x64 : Shape := ⟨4, ![16, 4, 64, 64]⟩
abbrev S16x64x4 : Shape := ⟨3, ![16, 64, 4]⟩
abbrev S16x64x4x1 : Shape := ⟨4, ![16, 64, 4, 1]⟩
abbrev S33792x1024 : Shape := ⟨2, ![33792, 1024]⟩
abbrev S20x4x256x256 : Shape := ⟨4, ![20, 4, 256, 256]⟩

abbrev nBuf : Space → Nat
  | .hbm => 460
  | .vmem => 0
  | .smem => 0
  | _ => 0

abbrev hbmTy0_0 (i : Nat) : BufTy := match i % 128 with
  | 0 => ⟨S33792x17920, .f32⟩
  | 1 => ⟨S16x4x256x256, .f32⟩
  | 2 => ⟨S32768x17920, .f32⟩
  | 3 => ⟨S32768x1024, .f32⟩
  | 4 => ⟨S4x8192x4x256, .f32⟩
  | 5 => ⟨S32768x1024, .f32⟩
  | 6 => ⟨S4x8192x4x256, .f32⟩
  | 7 => ⟨S32768x1024, .f32⟩
  | 8 => ⟨S4x8192x4x256, .f32⟩
  | 9 => ⟨S8192, .i32⟩
  | 10 => ⟨S_, .i32⟩
  | 11 => ⟨S8192, .i32⟩
  | 12 => ⟨S8192, .i32⟩
  | 13 => ⟨S128, .f32⟩
  | 14 => ⟨S128, .f32⟩
  | 15 => ⟨S_, .f32⟩
  | 16 => ⟨S128, .f32⟩
  | 17 => ⟨S128, .f32⟩
  | 18 => ⟨S_, .f32⟩
  | 19 => ⟨S128, .f32⟩
  | 20 => ⟨S128, .f32⟩
  | 21 => ⟨S8192, .f32⟩
  | 22 => ⟨S8192x1, .f32⟩
  | 23 => ⟨S1x128, .f32⟩
  | 24 => ⟨S8192x128, .f32⟩
  | 25 => ⟨S8192x128, .f32⟩
  | 26 => ⟨S8192x128, .f32⟩
  | 27 => ⟨S8192x128, .f32⟩
  | 28 => ⟨S8192x1x128, .f32⟩
  | 29 => ⟨S8192x128, .f32⟩
  | 30 => ⟨S8192x1x128, .f32⟩
  | 31 => ⟨S4x8192x4x128, .f32⟩
  | 32 => ⟨S4x8192x4x128, .f32⟩
  | 33 => ⟨S1x8192x1x128, .f32⟩
  | 34 => ⟨S4x8192x4x128, .f32⟩
  | 35 => ⟨S4x8192x4x128, .f32⟩
  | 36 => ⟨S1x8192x1x128, .f32⟩
  | 37 => ⟨S4x8192x4x128, .f32⟩
  | 38 => ⟨S4x8192x4x128, .f32⟩
  | 39 => ⟨S4x8192x4x128, .f32⟩
  | 40 => ⟨S1x8192x1x128, .f32⟩
  | 41 => ⟨S4x8192x4x128, .f32⟩
  | 42 => ⟨S4x8192x4x128, .f32⟩
  | 43 => ⟨S1x8192x1x128, .f32⟩
  | 44 => ⟨S4x8192x4x128, .f32⟩
  | 45 => ⟨S4x8192x4x128, .f32⟩
  | 46 => ⟨S4x8192x4x128, .f32⟩
  | 47 => ⟨S4x8192x4x256, .f32⟩
  | 48 => ⟨S128, .f32⟩
  | 49 => ⟨S128, .f32⟩
  | 50 => ⟨S_, .f32⟩
  | 51 => ⟨S128, .f32⟩
  | 52 => ⟨S128, .f32⟩
  | 53 => ⟨S_, .f32⟩
  | 54 => ⟨S128, .f32⟩
  | 55 => ⟨S128, .f32⟩
  | 56 => ⟨S8192, .f32⟩
  | 57 => ⟨S8192x1, .f32⟩
  | 58 => ⟨S1x128, .f32⟩
  | 59 => ⟨S8192x128, .f32⟩
  | 60 => ⟨S8192x128, .f32⟩
  | 61 => ⟨S8192x128, .f32⟩
  | 62 => ⟨S8192x128, .f32⟩
  | 63 => ⟨S8192x1x128, .f32⟩
  | 64 => ⟨S8192x128, .f32⟩
  | 65 => ⟨S8192x1x128, .f32⟩
  | 66 => ⟨S4x8192x4x128, .f32⟩
  | 67 => ⟨S4x8192x4x128, .f32⟩
  | 68 => ⟨S1x8192x1x128, .f32⟩
  | 69 => ⟨S4x8192x4x128, .f32⟩
  | 70 => ⟨S4x8192x4x128, .f32⟩
  | 71 => ⟨S1x8192x1x128, .f32⟩
  | 72 => ⟨S4x8192x4x128, .f32⟩
  | 73 => ⟨S4x8192x4x128, .f32⟩
  | 74 => ⟨S4x8192x4x128, .f32⟩
  | 75 => ⟨S1x8192x1x128, .f32⟩
  | 76 => ⟨S4x8192x4x128, .f32⟩
  | 77 => ⟨S4x8192x4x128, .f32⟩
  | 78 => ⟨S1x8192x1x128, .f32⟩
  | 79 => ⟨S4x8192x4x128, .f32⟩
  | 80 => ⟨S4x8192x4x128, .f32⟩
  | 81 => ⟨S4x8192x4x128, .f32⟩
  | 82 => ⟨S4x8192x4x256, .f32⟩
  | 83 => ⟨S_, .f32⟩
  | 84 => ⟨S4x8192x4x256, .f32⟩
  | 85 => ⟨S4x8192x4x256, .f32⟩
  | 86 => ⟨S_, .f32⟩
  | 87 => ⟨S4x4x256x256, .f32⟩
  | 88 => ⟨S4, .f32⟩
  | 89 => ⟨S_, .f32⟩
  | 90 => ⟨S4, .f32⟩
  | 91 => ⟨S4, .f32⟩
  | 92 => ⟨S_, .f32⟩
  | 93 => ⟨S4, .f32⟩
  | 94 => ⟨S4, .f32⟩
  | 95 => ⟨S_, .f32⟩
  | 96 => ⟨S4, .f32⟩
  | 97 => ⟨S4, .f32⟩
  | 98 => ⟨S4, .f32⟩
  | 99 => ⟨S64, .i32⟩
  | 100 => ⟨S64, .f32⟩
  | 101 => ⟨S64x1, .f32⟩
  | 102 => ⟨S1x64, .f32⟩
  | 103 => ⟨S64x64, .f32⟩
  | 104 => ⟨S64x64, .f32⟩
  | 105 => ⟨S64x64, .f32⟩
  | 106 => ⟨S64x1, .i32⟩
  | 107 => ⟨S1x64, .i32⟩
  | 108 => ⟨S64x64, .i32⟩
  | 109 => ⟨S64x64, .i32⟩
  | 110 => ⟨S64x64, .i1⟩
  | 111 => ⟨S4x1x1, .f32⟩
  | 112 => ⟨S_, .f32⟩
  | 113 => ⟨S64x64, .f32⟩
  | 114 => ⟨S64x64, .f32⟩
  | 115 => ⟨S1x64x64, .f32⟩
  | 116 => ⟨S4x64x64, .f32⟩
  | 117 => ⟨S4x64x64, .f32⟩
  | 118 => ⟨S4x64x64, .f32⟩
  | 119 => ⟨S4x64x64, .f32⟩
  | 120 => ⟨S_, .f32⟩
  | 121 => ⟨S_, .f32⟩
  | 122 => ⟨S4x64x64, .i1⟩
  | 123 => ⟨S4x64x64, .f32⟩
  | 124 => ⟨S4x64x64, .f32⟩
  | 125 => ⟨S4x1, .f32⟩
  | 126 => ⟨S_, .f32⟩
  | 127 => ⟨S64, .f32⟩
  | _ => ⟨S33792x17920, .f32⟩

abbrev hbmTy0_1 (i : Nat) : BufTy := match i % 128 with
  | 0 => ⟨S64, .f32⟩
  | 1 => ⟨S1x64, .f32⟩
  | 2 => ⟨S4x64, .f32⟩
  | 3 => ⟨S4x64, .f32⟩
  | 4 => ⟨S4x64, .f32⟩
  | 5 => ⟨S4x64, .f32⟩
  | 6 => ⟨S4x1, .f32⟩
  | 7 => ⟨S_, .f32⟩
  | 8 => ⟨S64, .f32⟩
  | 9 => ⟨S64, .f32⟩
  | 10 => ⟨S1x64, .f32⟩
  | 11 => ⟨S4x64, .f32⟩
  | 12 => ⟨S4x64, .f32⟩
  | 13 => ⟨S4x64, .f32⟩
  | 14 => ⟨S4x64, .f32⟩
  | 15 => ⟨S_, .f32⟩
  | 16 => ⟨S4, .f32⟩
  | 17 => ⟨S4, .f32⟩
  | 18 => ⟨S4, .f32⟩
  | 19 => ⟨S4x128x64x4x256, .f32⟩
  | 20 => ⟨S128x4x4x64x256, .f32⟩
  | 21 => ⟨S4x128x64x4x256, .f32⟩
  | 22 => ⟨S128x4x4x64x256, .f32⟩
  | 23 => ⟨S4x128x64x4x256, .f32⟩
  | 24 => ⟨S128x4x4x64x256, .f32⟩
  | 25 => ⟨S_, .f32⟩
  | 26 => ⟨S128x4x4x64x256, .f32⟩
  | 27 => ⟨S_, .i32⟩
  | 28 => ⟨S128x4x4x64x256, .f32⟩
  | 29 => ⟨S128x4x4x64x256, .f32⟩
  | 30 => ⟨S128x4x4x64x256, .f32⟩
  | 31 => ⟨S4x64x64, .f32⟩
  | 32 => ⟨S4x64, .f32⟩
  | 33 => ⟨S4, .f32⟩
  | 34 => ⟨S4x64, .f32⟩
  | 35 => ⟨S_, .i32⟩
  | 36 => ⟨S4x4x256x256, .f32⟩
  | 37 => ⟨S128x4x4x64x256, .f32⟩
  | 38 => ⟨S_, .i32⟩
  | 39 => ⟨S_, .i1⟩
  | 40 => ⟨S_, .i32⟩
  | 41 => ⟨S_, .i32⟩
  | 42 => ⟨S_, .i32⟩
  | 43 => ⟨S_, .i32⟩
  | 44 => ⟨S1x4x4x64x256, .f32⟩
  | 45 => ⟨S4x4x64x256, .f32⟩
  | 46 => ⟨S_, .i32⟩
  | 47 => ⟨S_, .i32⟩
  | 48 => ⟨S_, .i32⟩
  | 49 => ⟨S_, .i32⟩
  | 50 => ⟨S1x4x4x64x256, .f32⟩
  | 51 => ⟨S4x4x64x256, .f32⟩
  | 52 => ⟨S_, .i32⟩
  | 53 => ⟨S_, .i32⟩
  | 54 => ⟨S_, .i32⟩
  | 55 => ⟨S_, .i32⟩
  | 56 => ⟨S1x4x4x64x256, .f32⟩
  | 57 => ⟨S4x4x64x256, .f32⟩
  | 58 => ⟨S4x4x64x64, .f32⟩
  | 59 => ⟨S1x4x64x64, .f32⟩
  | 60 => ⟨S4x4x64x64, .f32⟩
  | 61 => ⟨S4x4x64x64, .f32⟩
  | 62 => ⟨S4x4x64x256, .f32⟩
  | 63 => ⟨S4x64x1, .f32⟩
  | 64 => ⟨S4x4x64x256, .f32⟩
  | 65 => ⟨S1x4x64x1, .f32⟩
  | 66 => ⟨S4x4x64x256, .f32⟩
  | 67 => ⟨S4x4x64x256, .f32⟩
  | 68 => ⟨S4x4x64x256, .f32⟩
  | 69 => ⟨S4x1x1, .f32⟩
  | 70 => ⟨S1x4x1x1, .f32⟩
  | 71 => ⟨S4x4x256x256, .f32⟩
  | 72 => ⟨S4x4x256x256, .f32⟩
  | 73 => ⟨S4x64x1, .f32⟩
  | 74 => ⟨S1x4x64x1, .f32⟩
  | 75 => ⟨S4x4x64x256, .f32⟩
  | 76 => ⟨S4x4x64x256, .f32⟩
  | 77 => ⟨S4x4x256x256, .f32⟩
  | 78 => ⟨S4x4x256x256, .f32⟩
  | 79 => ⟨S1x4x4x64x256, .f32⟩
  | 80 => ⟨S_, .i32⟩
  | 81 => ⟨S_, .i32⟩
  | 82 => ⟨S_, .i32⟩
  | 83 => ⟨S_, .i32⟩
  | 84 => ⟨S128x4x4x64x256, .f32⟩
  | 85 => ⟨S_, .i32⟩
  | 86 => ⟨S_, .i32⟩
  | 87 => ⟨S4x128x64x4x256, .f32⟩
  | 88 => ⟨S4x8192x4x256, .f32⟩
  | 89 => ⟨S32768x17920, .f32⟩
  | 90 => ⟨S32768x1024, .f32⟩
  | 91 => ⟨S_, .f32⟩
  | 92 => ⟨S4x8192x4, .f32⟩
  | 93 => ⟨S4x8192x4x1, .f32⟩
  | 94 => ⟨S_, .f32⟩
  | 95 => ⟨S4x8192x4x1, .f32⟩
  | 96 => ⟨S4x8192x4x1, .f32⟩
  | 97 => ⟨S4x8192x4x256, .f32⟩
  | 98 => ⟨S4x8192x4x256, .f32⟩
  | 99 => ⟨S4x8192x4x256, .f32⟩
  | 100 => ⟨S_, .f32⟩
  | 101 => ⟨S4x8192x4, .f32⟩
  | 102 => ⟨S4x8192x4x1, .f32⟩
  | 103 => ⟨S_, .f32⟩
  | 104 => ⟨S4x8192x4x1, .f32⟩
  | 105 => ⟨S4x8192x4x1, .f32⟩
  | 106 => ⟨S4x8192x4x256, .f32⟩
  | 107 => ⟨S4x8192x4x256, .f32⟩
  | 108 => ⟨S_, .f32⟩
  | 109 => ⟨S4x8192x4x1, .f32⟩
  | 110 => ⟨S4x8192x4x1, .f32⟩
  | 111 => ⟨S4x8192x4x1, .f32⟩
  | 112 => ⟨S4x8192x4x256, .f32⟩
  | 113 => ⟨S4x8192x4x256, .f32⟩
  | 114 => ⟨S32768x1024, .f32⟩
  | 115 => ⟨S32768x1024, .f32⟩
  | 116 => ⟨S32768x1024, .f32⟩
  | 117 => ⟨S_, .f32⟩
  | 118 => ⟨S32768x1024, .f32⟩
  | 119 => ⟨S32768x1024, .f32⟩
  | 120 => ⟨S_, .f32⟩
  | 121 => ⟨S32768x1024, .f32⟩
  | 122 => ⟨S32768x1024, .f32⟩
  | 123 => ⟨S32768x1024, .f32⟩
  | 124 => ⟨S32768x1024, .f32⟩
  | 125 => ⟨S1024x17920, .f32⟩
  | 126 => ⟨S1024x1024, .f32⟩
  | 127 => ⟨S16x64x4x256, .f32⟩
  | _ => ⟨S33792x17920, .f32⟩

abbrev hbmTy0_2 (i : Nat) : BufTy := match i % 128 with
  | 0 => ⟨S1024x1024, .f32⟩
  | 1 => ⟨S16x64x4x256, .f32⟩
  | 2 => ⟨S1024x1024, .f32⟩
  | 3 => ⟨S16x64x4x256, .f32⟩
  | 4 => ⟨S64, .i32⟩
  | 5 => ⟨S_, .i32⟩
  | 6 => ⟨S64, .i32⟩
  | 7 => ⟨S64, .i32⟩
  | 8 => ⟨S128, .f32⟩
  | 9 => ⟨S128, .f32⟩
  | 10 => ⟨S_, .f32⟩
  | 11 => ⟨S128, .f32⟩
  | 12 => ⟨S128, .f32⟩
  | 13 => ⟨S_, .f32⟩
  | 14 => ⟨S128, .f32⟩
  | 15 => ⟨S128, .f32⟩
  | 16 => ⟨S64, .f32⟩
  | 17 => ⟨S64x1, .f32⟩
  | 18 => ⟨S1x128, .f32⟩
  | 19 => ⟨S64x128, .f32⟩
  | 20 => ⟨S64x128, .f32⟩
  | 21 => ⟨S64x128, .f32⟩
  | 22 => ⟨S64x128, .f32⟩
  | 23 => ⟨S64x1x128, .f32⟩
  | 24 => ⟨S64x128, .f32⟩
  | 25 => ⟨S64x1x128, .f32⟩
  | 26 => ⟨S16x64x4x128, .f32⟩
  | 27 => ⟨S16x64x4x128, .f32⟩
  | 28 => ⟨S1x64x1x128, .f32⟩
  | 29 => ⟨S16x64x4x128, .f32⟩
  | 30 => ⟨S16x64x4x128, .f32⟩
  | 31 => ⟨S1x64x1x128, .f32⟩
  | 32 => ⟨S16x64x4x128, .f32⟩
  | 33 => ⟨S16x64x4x128, .f32⟩
  | 34 => ⟨S16x64x4x128, .f32⟩
  | 35 => ⟨S1x64x1x128, .f32⟩
  | 36 => ⟨S16x64x4x128, .f32⟩
  | 37 => ⟨S16x64x4x128, .f32⟩
  | 38 => ⟨S1x64x1x128, .f32⟩
  | 39 => ⟨S16x64x4x128, .f32⟩
  | 40 => ⟨S16x64x4x128, .f32⟩
  | 41 => ⟨S16x64x4x128, .f32⟩
  | 42 => ⟨S16x64x4x256, .f32⟩
  | 43 => ⟨S128, .f32⟩
  | 44 => ⟨S128, .f32⟩
  | 45 => ⟨S_, .f32⟩
  | 46 => ⟨S128, .f32⟩
  | 47 => ⟨S128, .f32⟩
  | 48 => ⟨S_, .f32⟩
  | 49 => ⟨S128, .f32⟩
  | 50 => ⟨S128, .f32⟩
  | 51 => ⟨S64, .f32⟩
  | 52 => ⟨S64x1, .f32⟩
  | 53 => ⟨S1x128, .f32⟩
  | 54 => ⟨S64x128, .f32⟩
  | 55 => ⟨S64x128, .f32⟩
  | 56 => ⟨S64x128, .f32⟩
  | 57 => ⟨S64x128, .f32⟩
  | 58 => ⟨S64x1x128, .f32⟩
  | 59 => ⟨S64x128, .f32⟩
  | 60 => ⟨S64x1x128, .f32⟩
  | 61 => ⟨S16x64x4x128, .f32⟩
  | 62 => ⟨S16x64x4x128, .f32⟩
  | 63 => ⟨S1x64x1x128, .f32⟩
  | 64 => ⟨S16x64x4x128, .f32⟩
  | 65 => ⟨S16x64x4x128, .f32⟩
  | 66 => ⟨S1x64x1x128, .f32⟩
  | 67 => ⟨S16x64x4x128, .f32⟩
  | 68 => ⟨S16x64x4x128, .f32⟩
  | 69 => ⟨S16x64x4x128, .f32⟩
  | 70 => ⟨S1x64x1x128, .f32⟩
  | 71 => ⟨S16x64x4x128, .f32⟩
  | 72 => ⟨S16x64x4x128, .f32⟩
  | 73 => ⟨S1x64x1x128, .f32⟩
  | 74 => ⟨S16x64x4x128, .f32⟩
  | 75 => ⟨S16x64x4x128, .f32⟩
  | 76 => ⟨S16x64x4x128, .f32⟩
  | 77 => ⟨S16x64x4x256, .f32⟩
  | 78 => ⟨S_, .f32⟩
  | 79 => ⟨S16x64x4x256, .f32⟩
  | 80 => ⟨S16x64x4x256, .f32⟩
  | 81 => ⟨S16x4x64x256, .f32⟩
  | 82 => ⟨S16x4x64x256, .f32⟩
  | 83 => ⟨S16x4x64x256, .f32⟩
  | 84 => ⟨S4, .f32⟩
  | 85 => ⟨S_, .f32⟩
  | 86 => ⟨S4, .f32⟩
  | 87 => ⟨S4, .f32⟩
  | 88 => ⟨S_, .f32⟩
  | 89 => ⟨S4, .f32⟩
  | 90 => ⟨S4, .f32⟩
  | 91 => ⟨S_, .f32⟩
  | 92 => ⟨S4, .f32⟩
  | 93 => ⟨S4, .f32⟩
  | 94 => ⟨S4, .f32⟩
  | 95 => ⟨S64, .i32⟩
  | 96 => ⟨S64, .f32⟩
  | 97 => ⟨S64x1, .f32⟩
  | 98 => ⟨S1x64, .f32⟩
  | 99 => ⟨S64x64, .f32⟩
  | 100 => ⟨S64x64, .f32⟩
  | 101 => ⟨S64x64, .f32⟩
  | 102 => ⟨S64x1, .i32⟩
  | 103 => ⟨S1x64, .i32⟩
  | 104 => ⟨S64x64, .i32⟩
  | 105 => ⟨S64x64, .i32⟩
  | 106 => ⟨S64x64, .i1⟩
  | 107 => ⟨S4x1x1, .f32⟩
  | 108 => ⟨S_, .f32⟩
  | 109 => ⟨S64x64, .f32⟩
  | 110 => ⟨S64x64, .f32⟩
  | 111 => ⟨S1x64x64, .f32⟩
  | 112 => ⟨S4x64x64, .f32⟩
  | 113 => ⟨S4x64x64, .f32⟩
  | 114 => ⟨S4x64x64, .f32⟩
  | 115 => ⟨S4x64x64, .f32⟩
  | 116 => ⟨S_, .f32⟩
  | 117 => ⟨S_, .f32⟩
  | 118 => ⟨S4x64x64, .i1⟩
  | 119 => ⟨S4x64x64, .f32⟩
  | 120 => ⟨S4x64x64, .f32⟩
  | 121 => ⟨S4x1, .f32⟩
  | 122 => ⟨S_, .f32⟩
  | 123 => ⟨S64, .f32⟩
  | 124 => ⟨S64, .f32⟩
  | 125 => ⟨S1x64, .f32⟩
  | 126 => ⟨S4x64, .f32⟩
  | 127 => ⟨S4x64, .f32⟩
  | _ => ⟨S33792x17920, .f32⟩

abbrev hbmTy0_3 (i : Nat) : BufTy := match i % 128 with
  | 0 => ⟨S4x64, .f32⟩
  | 1 => ⟨S4x64, .f32⟩
  | 2 => ⟨S4x1, .f32⟩
  | 3 => ⟨S_, .f32⟩
  | 4 => ⟨S64, .f32⟩
  | 5 => ⟨S64, .f32⟩
  | 6 => ⟨S1x64, .f32⟩
  | 7 => ⟨S4x64, .f32⟩
  | 8 => ⟨S4x64, .f32⟩
  | 9 => ⟨S4x64, .f32⟩
  | 10 => ⟨S4x64, .f32⟩
  | 11 => ⟨S_, .f32⟩
  | 12 => ⟨S4, .f32⟩
  | 13 => ⟨S4, .f32⟩
  | 14 => ⟨S4, .f32⟩
  | 15 => ⟨S16x4x64x64, .f32⟩
  | 16 => ⟨S1x4x64x64, .f32⟩
  | 17 => ⟨S16x4x64x64, .f32⟩
  | 18 => ⟨S16x4x64x64, .f32⟩
  | 19 => ⟨S16x4x64x256, .f32⟩
  | 20 => ⟨S4x64x1, .f32⟩
  | 21 => ⟨S16x4x64x256, .f32⟩
  | 22 => ⟨S1x4x64x1, .f32⟩
  | 23 => ⟨S16x4x64x256, .f32⟩
  | 24 => ⟨S16x4x64x256, .f32⟩
  | 25 => ⟨S16x4x64x256, .f32⟩
  | 26 => ⟨S4x1x1, .f32⟩
  | 27 => ⟨S1x4x1x1, .f32⟩
  | 28 => ⟨S16x4x256x256, .f32⟩
  | 29 => ⟨S16x4x256x256, .f32⟩
  | 30 => ⟨S4x64x1, .f32⟩
  | 31 => ⟨S1x4x64x1, .f32⟩
  | 32 => ⟨S16x4x64x256, .f32⟩
  | 33 => ⟨S16x4x64x256, .f32⟩
  | 34 => ⟨S16x4x256x256, .f32⟩
  | 35 => ⟨S16x4x256x256, .f32⟩
  | 36 => ⟨S16x64x4x256, .f32⟩
  | 37 => ⟨S1024x17920, .f32⟩
  | 38 => ⟨S1024x1024, .f32⟩
  | 39 => ⟨S_, .f32⟩
  | 40 => ⟨S16x64x4, .f32⟩
  | 41 => ⟨S16x64x4x1, .f32⟩
  | 42 => ⟨S_, .f32⟩
  | 43 => ⟨S16x64x4x1, .f32⟩
  | 44 => ⟨S16x64x4x1, .f32⟩
  | 45 => ⟨S16x64x4x256, .f32⟩
  | 46 => ⟨S16x64x4x256, .f32⟩
  | 47 => ⟨S16x64x4x256, .f32⟩
  | 48 => ⟨S_, .f32⟩
  | 49 => ⟨S16x64x4, .f32⟩
  | 50 => ⟨S16x64x4x1, .f32⟩
  | 51 => ⟨S_, .f32⟩
  | 52 => ⟨S16x64x4x1, .f32⟩
  | 53 => ⟨S16x64x4x1, .f32⟩
  | 54 => ⟨S16x64x4x256, .f32⟩
  | 55 => ⟨S16x64x4x256, .f32⟩
  | 56 => ⟨S_, .f32⟩
  | 57 => ⟨S16x64x4x1, .f32⟩
  | 58 => ⟨S16x64x4x1, .f32⟩
  | 59 => ⟨S16x64x4x1, .f32⟩
  | 60 => ⟨S16x64x4x256, .f32⟩
  | 61 => ⟨S16x64x4x256, .f32⟩
  | 62 => ⟨S1024x1024, .f32⟩
  | 63 => ⟨S1024x1024, .f32⟩
  | 64 => ⟨S1024x1024, .f32⟩
  | 65 => ⟨S_, .f32⟩
  | 66 => ⟨S1024x1024, .f32⟩
  | 67 => ⟨S1024x1024, .f32⟩
  | 68 => ⟨S_, .f32⟩
  | 69 => ⟨S1024x1024, .f32⟩
  | 70 => ⟨S1024x1024, .f32⟩
  | 71 => ⟨S1024x1024, .f32⟩
  | 72 => ⟨S1024x1024, .f32⟩
  | 73 => ⟨S33792x1024, .f32⟩
  | 74 => ⟨S33792x1024, .bf16⟩
  | 75 => ⟨S20x4x256x256, .f32⟩
  | _ => ⟨S33792x17920, .f32⟩

abbrev hbmTy (i : Nat) : BufTy := match i / 128 with
  | 0 => hbmTy0_0 i
  | 1 => hbmTy0_1 i
  | 2 => hbmTy0_2 i
  | 3 => hbmTy0_3 i
  | _ => ⟨S33792x17920, .f32⟩

abbrev bufTy : (tb : Table) → Fin (tcTables nBuf tb) → BufTy
  | .hbm, ⟨i, _⟩ => hbmTy i
  | _, _ => ⟨S33792x17920, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_cst_1 : Ref sig .tc := ⟨.hbm, 50, rfl⟩
abbrev main_v45 : Ref sig .tc := ⟨.hbm, 51, rfl⟩
abbrev main_v46 : Ref sig .tc := ⟨.hbm, 52, rfl⟩
abbrev main_cst_2 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_cst_3 : Ref sig .tc := ⟨.hbm, 83, rfl⟩
abbrev main_v76 : Ref sig .tc := ⟨.hbm, 84, rfl⟩
abbrev main_v77 : Ref sig .tc := ⟨.hbm, 85, rfl⟩
abbrev main_cst_4 : Ref sig .tc := ⟨.hbm, 86, rfl⟩
abbrev main_v78 : Ref sig .tc := ⟨.hbm, 87, rfl⟩
abbrev main_v79 : Ref sig .tc := ⟨.hbm, 88, rfl⟩
abbrev main_cst_5 : Ref sig .tc := ⟨.hbm, 89, rfl⟩
abbrev main_v80 : Ref sig .tc := ⟨.hbm, 90, rfl⟩
abbrev main_v81 : Ref sig .tc := ⟨.hbm, 91, rfl⟩
abbrev main_cst_6 : Ref sig .tc := ⟨.hbm, 92, rfl⟩
abbrev main_v82 : Ref sig .tc := ⟨.hbm, 93, rfl⟩
abbrev main_v83 : Ref sig .tc := ⟨.hbm, 94, rfl⟩
abbrev main_cst_7 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_cst_8 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_cst_9 : Ref sig .tc := ⟨.hbm, 120, rfl⟩
abbrev main_call0_v0 : Ref sig .tc := ⟨.hbm, 121, rfl⟩
abbrev main_call0_v1 : Ref sig .tc := ⟨.hbm, 122, rfl⟩
abbrev main_call0_v2 : Ref sig .tc := ⟨.hbm, 123, rfl⟩
abbrev main_v107 : Ref sig .tc := ⟨.hbm, 124, rfl⟩
abbrev main_v108 : Ref sig .tc := ⟨.hbm, 125, rfl⟩
abbrev main_cst_10 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_cst_11 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_cst_12 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_cst_13 : Ref sig .tc := ⟨.hbm, 153, rfl⟩
abbrev main_v133 : Ref sig .tc := ⟨.hbm, 154, rfl⟩
abbrev main_c_14 : Ref sig .tc := ⟨.hbm, 155, rfl⟩
abbrev main_v134_0 : Ref sig .tc := ⟨.hbm, 156, rfl⟩
abbrev main_v134_1 : Ref sig .tc := ⟨.hbm, 157, rfl⟩
abbrev main_v134_2 : Ref sig .tc := ⟨.hbm, 158, rfl⟩
abbrev main_v134_3 : Ref sig .tc := ⟨.hbm, 159, rfl⟩
abbrev main_v134_4 : Ref sig .tc := ⟨.hbm, 160, rfl⟩
abbrev main_v134_5 : Ref sig .tc := ⟨.hbm, 161, rfl⟩
abbrev main_v134_6 : Ref sig .tc := ⟨.hbm, 162, rfl⟩
abbrev main_v134_7 : Ref sig .tc := ⟨.hbm, 163, rfl⟩
abbrev main_v134_8 : Ref sig .tc := ⟨.hbm, 164, rfl⟩
abbrev main_v134_9 : Ref sig .tc := ⟨.hbm, 165, rfl⟩
abbrev main_while0c_c_48 : Ref sig .tc := ⟨.hbm, 166, rfl⟩
abbrev main_while0c_v337 : Ref sig .tc := ⟨.hbm, 167, rfl⟩
abbrev main_while0b_call1_c : Ref sig .tc := ⟨.hbm, 168, rfl⟩
abbrev main_while0b_call1_c_0 : Ref sig .tc := ⟨.hbm, 169, rfl⟩
abbrev main_while0b_call1_c_1 : Ref sig .tc := ⟨.hbm, 170, rfl⟩
abbrev main_while0b_call1_c_2 : Ref sig .tc := ⟨.hbm, 171, rfl⟩
abbrev main_while0b_call1_v0 : Ref sig .tc := ⟨.hbm, 172, rfl⟩
abbrev main_while0b_v337 : Ref sig .tc := ⟨.hbm, 173, rfl⟩
abbrev main_while0b_call2_c : Ref sig .tc := ⟨.hbm, 174, rfl⟩
abbrev main_while0b_call2_c_0 : Ref sig .tc := ⟨.hbm, 175, rfl⟩
abbrev main_while0b_call2_c_1 : Ref sig .tc := ⟨.hbm, 176, rfl⟩
abbrev main_while0b_call2_c_2 : Ref sig .tc := ⟨.hbm, 177, rfl⟩
abbrev main_while0b_call2_v0 : Ref sig .tc := ⟨.hbm, 178, rfl⟩
abbrev main_while0b_v338 : Ref sig .tc := ⟨.hbm, 179, rfl⟩
abbrev main_while0b_call3_c : Ref sig .tc := ⟨.hbm, 180, rfl⟩
abbrev main_while0b_call3_c_0 : Ref sig .tc := ⟨.hbm, 181, rfl⟩
abbrev main_while0b_call3_c_1 : Ref sig .tc := ⟨.hbm, 182, rfl⟩
abbrev main_while0b_call3_c_2 : Ref sig .tc := ⟨.hbm, 183, rfl⟩
abbrev main_while0b_call3_v0 : Ref sig .tc := ⟨.hbm, 184, rfl⟩
abbrev main_while0b_v339 : Ref sig .tc := ⟨.hbm, 185, rfl⟩
abbrev main_while0b_v340 : Ref sig .tc := ⟨.hbm, 186, rfl⟩
abbrev main_while0b_v341 : Ref sig .tc := ⟨.hbm, 187, rfl⟩
abbrev main_while0b_v342 : Ref sig .tc := ⟨.hbm, 188, rfl⟩
abbrev main_while0b_v343 : Ref sig .tc := ⟨.hbm, 189, rfl⟩
abbrev main_while0b_v344 : Ref sig .tc := ⟨.hbm, 190, rfl⟩
abbrev main_while0b_v345 : Ref sig .tc := ⟨.hbm, 191, rfl⟩
abbrev main_while0b_v346 : Ref sig .tc := ⟨.hbm, 192, rfl⟩
abbrev main_while0b_v347 : Ref sig .tc := ⟨.hbm, 193, rfl⟩
abbrev main_while0b_v348 : Ref sig .tc := ⟨.hbm, 194, rfl⟩
abbrev main_while0b_v349 : Ref sig .tc := ⟨.hbm, 195, rfl⟩
abbrev main_while0b_v350 : Ref sig .tc := ⟨.hbm, 196, rfl⟩
abbrev main_while0b_v351 : Ref sig .tc := ⟨.hbm, 197, rfl⟩
abbrev main_while0b_v352 : Ref sig .tc := ⟨.hbm, 198, rfl⟩
abbrev main_while0b_v353 : Ref sig .tc := ⟨.hbm, 199, rfl⟩
abbrev main_while0b_v354 : Ref sig .tc := ⟨.hbm, 200, rfl⟩
abbrev main_while0b_v355 : Ref sig .tc := ⟨.hbm, 201, rfl⟩
abbrev main_while0b_v356 : Ref sig .tc := ⟨.hbm, 202, rfl⟩
abbrev main_while0b_v357 : Ref sig .tc := ⟨.hbm, 203, rfl⟩
abbrev main_while0b_v358 : Ref sig .tc := ⟨.hbm, 204, rfl⟩
abbrev main_while0b_v359 : Ref sig .tc := ⟨.hbm, 205, rfl⟩
abbrev main_while0b_v360 : Ref sig .tc := ⟨.hbm, 206, rfl⟩
abbrev main_while0b_call4_v0 : Ref sig .tc := ⟨.hbm, 207, rfl⟩
abbrev main_while0b_call4_c : Ref sig .tc := ⟨.hbm, 208, rfl⟩
abbrev main_while0b_call4_c_0 : Ref sig .tc := ⟨.hbm, 209, rfl⟩
abbrev main_while0b_call4_c_1 : Ref sig .tc := ⟨.hbm, 210, rfl⟩
abbrev main_while0b_call4_c_2 : Ref sig .tc := ⟨.hbm, 211, rfl⟩
abbrev main_while0b_v361 : Ref sig .tc := ⟨.hbm, 212, rfl⟩
abbrev main_while0b_c_48 : Ref sig .tc := ⟨.hbm, 213, rfl⟩
abbrev main_while0b_v362 : Ref sig .tc := ⟨.hbm, 214, rfl⟩
abbrev main_v135 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_cst_15 : Ref sig .tc := ⟨.hbm, 219, rfl⟩
abbrev main_v139 : Ref sig .tc := ⟨.hbm, 220, rfl⟩
abbrev main_v140 : Ref sig .tc := ⟨.hbm, 221, rfl⟩
abbrev main_cst_16 : Ref sig .tc := ⟨.hbm, 222, rfl⟩
abbrev main_v141 : Ref sig .tc := ⟨.hbm, 223, rfl⟩
abbrev main_v142 : Ref sig .tc := ⟨.hbm, 224, rfl⟩
abbrev main_v143 : Ref sig .tc := ⟨.hbm, 225, rfl⟩
abbrev main_v144 : Ref sig .tc := ⟨.hbm, 226, rfl⟩
abbrev main_v145 : Ref sig .tc := ⟨.hbm, 227, rfl⟩
abbrev main_cst_17 : Ref sig .tc := ⟨.hbm, 228, rfl⟩
abbrev main_v146 : Ref sig .tc := ⟨.hbm, 229, rfl⟩
abbrev main_v147 : Ref sig .tc := ⟨.hbm, 230, rfl⟩
abbrev main_cst_18 : Ref sig .tc := ⟨.hbm, 231, rfl⟩
abbrev main_v148 : Ref sig .tc := ⟨.hbm, 232, rfl⟩
abbrev main_v149 : Ref sig .tc := ⟨.hbm, 233, rfl⟩
abbrev main_v150 : Ref sig .tc := ⟨.hbm, 234, rfl⟩
abbrev main_v151 : Ref sig .tc := ⟨.hbm, 235, rfl⟩
abbrev main_cst_19 : Ref sig .tc := ⟨.hbm, 236, rfl⟩
abbrev main_v152 : Ref sig .tc := ⟨.hbm, 237, rfl⟩
abbrev main_v153 : Ref sig .tc := ⟨.hbm, 238, rfl⟩
abbrev main_v154 : Ref sig .tc := ⟨.hbm, 239, rfl⟩
abbrev main_v155 : Ref sig .tc := ⟨.hbm, 240, rfl⟩
abbrev main_v156 : Ref sig .tc := ⟨.hbm, 241, rfl⟩
abbrev main_v157 : Ref sig .tc := ⟨.hbm, 242, rfl⟩
abbrev main_call5_v0 : Ref sig .tc := ⟨.hbm, 243, rfl⟩
abbrev main_call5_v1 : Ref sig .tc := ⟨.hbm, 244, rfl⟩
abbrev main_call5_cst : Ref sig .tc := ⟨.hbm, 245, rfl⟩
abbrev main_call5_v2 : Ref sig .tc := ⟨.hbm, 246, rfl⟩
abbrev main_call5_v3 : Ref sig .tc := ⟨.hbm, 247, rfl⟩
abbrev main_call5_cst_0 : Ref sig .tc := ⟨.hbm, 248, rfl⟩
abbrev main_call5_v4 : Ref sig .tc := ⟨.hbm, 249, rfl⟩
abbrev main_call5_v5 : Ref sig .tc := ⟨.hbm, 250, rfl⟩
abbrev main_v158 : Ref sig .tc := ⟨.hbm, 251, rfl⟩
abbrev main_v159 : Ref sig .tc := ⟨.hbm, 252, rfl⟩
abbrev main_v160 : Ref sig .tc := ⟨.hbm, 253, rfl⟩
abbrev main_v161 : Ref sig .tc := ⟨.hbm, 254, rfl⟩
abbrev main_v162 : Ref sig .tc := ⟨.hbm, 255, rfl⟩
abbrev main_v163 : Ref sig .tc := ⟨.hbm, 256, rfl⟩
abbrev main_v164 : Ref sig .tc := ⟨.hbm, 257, rfl⟩
abbrev main_v165 : Ref sig .tc := ⟨.hbm, 258, rfl⟩
abbrev main_v166 : Ref sig .tc := ⟨.hbm, 259, rfl⟩
abbrev main_v167 : Ref sig .tc := ⟨.hbm, 260, rfl⟩
abbrev main_c_20 : Ref sig .tc := ⟨.hbm, 261, rfl⟩
abbrev main_v168 : Ref sig .tc := ⟨.hbm, 262, rfl⟩
abbrev main_v169 : Ref sig .tc := ⟨.hbm, 263, rfl⟩
abbrev main_v170 : Ref sig .tc := ⟨.hbm, 264, rfl⟩
abbrev main_v171 : Ref sig .tc := ⟨.hbm, 265, rfl⟩
abbrev main_cst_21 : Ref sig .tc := ⟨.hbm, 266, rfl⟩
abbrev main_v172 : Ref sig .tc := ⟨.hbm, 267, rfl⟩
abbrev main_v173 : Ref sig .tc := ⟨.hbm, 268, rfl⟩
abbrev main_cst_22 : Ref sig .tc := ⟨.hbm, 269, rfl⟩
abbrev main_v174 : Ref sig .tc := ⟨.hbm, 270, rfl⟩
abbrev main_v175 : Ref sig .tc := ⟨.hbm, 271, rfl⟩
abbrev main_v176 : Ref sig .tc := ⟨.hbm, 272, rfl⟩
abbrev main_v177 : Ref sig .tc := ⟨.hbm, 273, rfl⟩
abbrev main_v178 : Ref sig .tc := ⟨.hbm, 274, rfl⟩
abbrev main_v179 : Ref sig .tc := ⟨.hbm, 275, rfl⟩
abbrev main_v180 : Ref sig .tc := ⟨.hbm, 276, rfl⟩
abbrev main_v181 : Ref sig .tc := ⟨.hbm, 277, rfl⟩
abbrev main_v182 : Ref sig .tc := ⟨.hbm, 278, rfl⟩
abbrev main_v183 : Ref sig .tc := ⟨.hbm, 279, rfl⟩
abbrev main_v184 : Ref sig .tc := ⟨.hbm, 280, rfl⟩
abbrev main_v185 : Ref sig .tc := ⟨.hbm, 281, rfl⟩
abbrev main_v186 : Ref sig .tc := ⟨.hbm, 282, rfl⟩
abbrev main_v187 : Ref sig .tc := ⟨.hbm, 283, rfl⟩
abbrev main_v188 : Ref sig .tc := ⟨.hbm, 284, rfl⟩
abbrev main_v189 : Ref sig .tc := ⟨.hbm, 285, rfl⟩
abbrev main_v190 : Ref sig .tc := ⟨.hbm, 286, rfl⟩
abbrev main_v191 : Ref sig .tc := ⟨.hbm, 287, rfl⟩
abbrev main_v192 : Ref sig .tc := ⟨.hbm, 288, rfl⟩
abbrev main_v193 : Ref sig .tc := ⟨.hbm, 289, rfl⟩
abbrev main_v194 : Ref sig .tc := ⟨.hbm, 290, rfl⟩
abbrev main_v195 : Ref sig .tc := ⟨.hbm, 291, rfl⟩
abbrev main_v196 : Ref sig .tc := ⟨.hbm, 292, rfl⟩
abbrev main_v197 : Ref sig .tc := ⟨.hbm, 293, rfl⟩
abbrev main_v198 : Ref sig .tc := ⟨.hbm, 294, rfl⟩
abbrev main_v199 : Ref sig .tc := ⟨.hbm, 295, rfl⟩
abbrev main_v200 : Ref sig .tc := ⟨.hbm, 296, rfl⟩
abbrev main_v201 : Ref sig .tc := ⟨.hbm, 297, rfl⟩
abbrev main_v202 : Ref sig .tc := ⟨.hbm, 298, rfl⟩
abbrev main_v203 : Ref sig .tc := ⟨.hbm, 299, rfl⟩
abbrev main_v204 : Ref sig .tc := ⟨.hbm, 300, rfl⟩
abbrev main_cst_23 : Ref sig .tc := ⟨.hbm, 301, rfl⟩
abbrev main_v205 : Ref sig .tc := ⟨.hbm, 302, rfl⟩
abbrev main_v206 : Ref sig .tc := ⟨.hbm, 303, rfl⟩
abbrev main_cst_24 : Ref sig .tc := ⟨.hbm, 304, rfl⟩
abbrev main_v207 : Ref sig .tc := ⟨.hbm, 305, rfl⟩
abbrev main_v208 : Ref sig .tc := ⟨.hbm, 306, rfl⟩
abbrev main_v209 : Ref sig .tc := ⟨.hbm, 307, rfl⟩
abbrev main_v210 : Ref sig .tc := ⟨.hbm, 308, rfl⟩
abbrev main_v211 : Ref sig .tc := ⟨.hbm, 309, rfl⟩
abbrev main_v212 : Ref sig .tc := ⟨.hbm, 310, rfl⟩
abbrev main_v213 : Ref sig .tc := ⟨.hbm, 311, rfl⟩
abbrev main_v214 : Ref sig .tc := ⟨.hbm, 312, rfl⟩
abbrev main_v215 : Ref sig .tc := ⟨.hbm, 313, rfl⟩
abbrev main_v216 : Ref sig .tc := ⟨.hbm, 314, rfl⟩
abbrev main_v217 : Ref sig .tc := ⟨.hbm, 315, rfl⟩
abbrev main_v218 : Ref sig .tc := ⟨.hbm, 316, rfl⟩
abbrev main_v219 : Ref sig .tc := ⟨.hbm, 317, rfl⟩
abbrev main_v220 : Ref sig .tc := ⟨.hbm, 318, rfl⟩
abbrev main_v221 : Ref sig .tc := ⟨.hbm, 319, rfl⟩
abbrev main_v222 : Ref sig .tc := ⟨.hbm, 320, rfl⟩
abbrev main_v223 : Ref sig .tc := ⟨.hbm, 321, rfl⟩
abbrev main_v224 : Ref sig .tc := ⟨.hbm, 322, rfl⟩
abbrev main_v225 : Ref sig .tc := ⟨.hbm, 323, rfl⟩
abbrev main_v226 : Ref sig .tc := ⟨.hbm, 324, rfl⟩
abbrev main_v227 : Ref sig .tc := ⟨.hbm, 325, rfl⟩
abbrev main_v228 : Ref sig .tc := ⟨.hbm, 326, rfl⟩
abbrev main_v229 : Ref sig .tc := ⟨.hbm, 327, rfl⟩
abbrev main_v230 : Ref sig .tc := ⟨.hbm, 328, rfl⟩
abbrev main_v231 : Ref sig .tc := ⟨.hbm, 329, rfl⟩
abbrev main_v232 : Ref sig .tc := ⟨.hbm, 330, rfl⟩
abbrev main_v233 : Ref sig .tc := ⟨.hbm, 331, rfl⟩
abbrev main_v234 : Ref sig .tc := ⟨.hbm, 332, rfl⟩
abbrev main_v235 : Ref sig .tc := ⟨.hbm, 333, rfl⟩
abbrev main_cst_25 : Ref sig .tc := ⟨.hbm, 334, rfl⟩
abbrev main_v236 : Ref sig .tc := ⟨.hbm, 335, rfl⟩
abbrev main_v237 : Ref sig .tc := ⟨.hbm, 336, rfl⟩
abbrev main_v238 : Ref sig .tc := ⟨.hbm, 337, rfl⟩
abbrev main_v239 : Ref sig .tc := ⟨.hbm, 338, rfl⟩
abbrev main_v240 : Ref sig .tc := ⟨.hbm, 339, rfl⟩
abbrev main_v241 : Ref sig .tc := ⟨.hbm, 340, rfl⟩
abbrev main_cst_26 : Ref sig .tc := ⟨.hbm, 341, rfl⟩
abbrev main_v242 : Ref sig .tc := ⟨.hbm, 342, rfl⟩
abbrev main_v243 : Ref sig .tc := ⟨.hbm, 343, rfl⟩
abbrev main_cst_27 : Ref sig .tc := ⟨.hbm, 344, rfl⟩
abbrev main_v244 : Ref sig .tc := ⟨.hbm, 345, rfl⟩
abbrev main_v245 : Ref sig .tc := ⟨.hbm, 346, rfl⟩
abbrev main_cst_28 : Ref sig .tc := ⟨.hbm, 347, rfl⟩
abbrev main_v246 : Ref sig .tc := ⟨.hbm, 348, rfl⟩
abbrev main_v247 : Ref sig .tc := ⟨.hbm, 349, rfl⟩
abbrev main_v248 : Ref sig .tc := ⟨.hbm, 350, rfl⟩
abbrev main_v249 : Ref sig .tc := ⟨.hbm, 351, rfl⟩
abbrev main_v250 : Ref sig .tc := ⟨.hbm, 352, rfl⟩
abbrev main_v251 : Ref sig .tc := ⟨.hbm, 353, rfl⟩
abbrev main_v252 : Ref sig .tc := ⟨.hbm, 354, rfl⟩
abbrev main_v253 : Ref sig .tc := ⟨.hbm, 355, rfl⟩
abbrev main_v254 : Ref sig .tc := ⟨.hbm, 356, rfl⟩
abbrev main_v255 : Ref sig .tc := ⟨.hbm, 357, rfl⟩
abbrev main_v256 : Ref sig .tc := ⟨.hbm, 358, rfl⟩
abbrev main_v257 : Ref sig .tc := ⟨.hbm, 359, rfl⟩
abbrev main_v258 : Ref sig .tc := ⟨.hbm, 360, rfl⟩
abbrev main_v259 : Ref sig .tc := ⟨.hbm, 361, rfl⟩
abbrev main_v260 : Ref sig .tc := ⟨.hbm, 362, rfl⟩
abbrev main_v261 : Ref sig .tc := ⟨.hbm, 363, rfl⟩
abbrev main_cst_29 : Ref sig .tc := ⟨.hbm, 364, rfl⟩
abbrev main_v262 : Ref sig .tc := ⟨.hbm, 365, rfl⟩
abbrev main_v263 : Ref sig .tc := ⟨.hbm, 366, rfl⟩
abbrev main_v264 : Ref sig .tc := ⟨.hbm, 367, rfl⟩
abbrev main_v265 : Ref sig .tc := ⟨.hbm, 368, rfl⟩
abbrev main_v266 : Ref sig .tc := ⟨.hbm, 369, rfl⟩
abbrev main_v267 : Ref sig .tc := ⟨.hbm, 370, rfl⟩
abbrev main_v268 : Ref sig .tc := ⟨.hbm, 371, rfl⟩
abbrev main_cst_30 : Ref sig .tc := ⟨.hbm, 372, rfl⟩
abbrev main_call6_v0 : Ref sig .tc := ⟨.hbm, 373, rfl⟩
abbrev main_call6_v1 : Ref sig .tc := ⟨.hbm, 374, rfl⟩
abbrev main_call6_v2 : Ref sig .tc := ⟨.hbm, 375, rfl⟩
abbrev main_v269 : Ref sig .tc := ⟨.hbm, 376, rfl⟩
abbrev main_v270 : Ref sig .tc := ⟨.hbm, 377, rfl⟩
abbrev main_cst_31 : Ref sig .tc := ⟨.hbm, 378, rfl⟩
abbrev main_v271 : Ref sig .tc := ⟨.hbm, 379, rfl⟩
abbrev main_v272 : Ref sig .tc := ⟨.hbm, 380, rfl⟩
abbrev main_v273 : Ref sig .tc := ⟨.hbm, 381, rfl⟩
abbrev main_v274 : Ref sig .tc := ⟨.hbm, 382, rfl⟩
abbrev main_v275 : Ref sig .tc := ⟨.hbm, 383, rfl⟩
abbrev main_v276 : Ref sig .tc := ⟨.hbm, 384, rfl⟩
abbrev main_v277 : Ref sig .tc := ⟨.hbm, 385, rfl⟩
abbrev main_v278 : Ref sig .tc := ⟨.hbm, 386, rfl⟩
abbrev main_cst_32 : Ref sig .tc := ⟨.hbm, 387, rfl⟩
abbrev main_v279 : Ref sig .tc := ⟨.hbm, 388, rfl⟩
abbrev main_v280 : Ref sig .tc := ⟨.hbm, 389, rfl⟩
abbrev main_v281 : Ref sig .tc := ⟨.hbm, 390, rfl⟩
abbrev main_v282 : Ref sig .tc := ⟨.hbm, 391, rfl⟩
abbrev main_v283 : Ref sig .tc := ⟨.hbm, 392, rfl⟩
abbrev main_v284 : Ref sig .tc := ⟨.hbm, 393, rfl⟩
abbrev main_v285 : Ref sig .tc := ⟨.hbm, 394, rfl⟩
abbrev main_cst_33 : Ref sig .tc := ⟨.hbm, 395, rfl⟩
abbrev main_v286 : Ref sig .tc := ⟨.hbm, 396, rfl⟩
abbrev main_v287 : Ref sig .tc := ⟨.hbm, 397, rfl⟩
abbrev main_v288 : Ref sig .tc := ⟨.hbm, 398, rfl⟩
abbrev main_v289 : Ref sig .tc := ⟨.hbm, 399, rfl⟩
abbrev main_v290 : Ref sig .tc := ⟨.hbm, 400, rfl⟩
abbrev main_v291 : Ref sig .tc := ⟨.hbm, 401, rfl⟩
abbrev main_v292 : Ref sig .tc := ⟨.hbm, 402, rfl⟩
abbrev main_v293 : Ref sig .tc := ⟨.hbm, 403, rfl⟩
abbrev main_v294 : Ref sig .tc := ⟨.hbm, 404, rfl⟩
abbrev main_v295 : Ref sig .tc := ⟨.hbm, 405, rfl⟩
abbrev main_v296 : Ref sig .tc := ⟨.hbm, 406, rfl⟩
abbrev main_v297 : Ref sig .tc := ⟨.hbm, 407, rfl⟩
abbrev main_v298 : Ref sig .tc := ⟨.hbm, 408, rfl⟩
abbrev main_v299 : Ref sig .tc := ⟨.hbm, 409, rfl⟩
abbrev main_v300 : Ref sig .tc := ⟨.hbm, 410, rfl⟩
abbrev main_v301 : Ref sig .tc := ⟨.hbm, 411, rfl⟩
abbrev main_v302 : Ref sig .tc := ⟨.hbm, 412, rfl⟩
abbrev main_v303 : Ref sig .tc := ⟨.hbm, 413, rfl⟩
abbrev main_v304 : Ref sig .tc := ⟨.hbm, 414, rfl⟩
abbrev main_v305 : Ref sig .tc := ⟨.hbm, 415, rfl⟩
abbrev main_v306 : Ref sig .tc := ⟨.hbm, 416, rfl⟩
abbrev main_v307 : Ref sig .tc := ⟨.hbm, 417, rfl⟩
abbrev main_v308 : Ref sig .tc := ⟨.hbm, 418, rfl⟩
abbrev main_v309 : Ref sig .tc := ⟨.hbm, 419, rfl⟩
abbrev main_v310 : Ref sig .tc := ⟨.hbm, 420, rfl⟩
abbrev main_v311 : Ref sig .tc := ⟨.hbm, 421, rfl⟩
abbrev main_v312 : Ref sig .tc := ⟨.hbm, 422, rfl⟩
abbrev main_cst_34 : Ref sig .tc := ⟨.hbm, 423, rfl⟩
abbrev main_v313 : Ref sig .tc := ⟨.hbm, 424, rfl⟩
abbrev main_v314 : Ref sig .tc := ⟨.hbm, 425, rfl⟩
abbrev main_cst_35 : Ref sig .tc := ⟨.hbm, 426, rfl⟩
abbrev main_v315 : Ref sig .tc := ⟨.hbm, 427, rfl⟩
abbrev main_v316 : Ref sig .tc := ⟨.hbm, 428, rfl⟩
abbrev main_v317 : Ref sig .tc := ⟨.hbm, 429, rfl⟩
abbrev main_v318 : Ref sig .tc := ⟨.hbm, 430, rfl⟩
abbrev main_v319 : Ref sig .tc := ⟨.hbm, 431, rfl⟩
abbrev main_cst_36 : Ref sig .tc := ⟨.hbm, 432, rfl⟩
abbrev main_v320 : Ref sig .tc := ⟨.hbm, 433, rfl⟩
abbrev main_v321 : Ref sig .tc := ⟨.hbm, 434, rfl⟩
abbrev main_cst_37 : Ref sig .tc := ⟨.hbm, 435, rfl⟩
abbrev main_v322 : Ref sig .tc := ⟨.hbm, 436, rfl⟩
abbrev main_v323 : Ref sig .tc := ⟨.hbm, 437, rfl⟩
abbrev main_v324 : Ref sig .tc := ⟨.hbm, 438, rfl⟩
abbrev main_v325 : Ref sig .tc := ⟨.hbm, 439, rfl⟩
abbrev main_cst_38 : Ref sig .tc := ⟨.hbm, 440, rfl⟩
abbrev main_v326 : Ref sig .tc := ⟨.hbm, 441, rfl⟩
abbrev main_v327 : Ref sig .tc := ⟨.hbm, 442, rfl⟩
abbrev main_v328 : Ref sig .tc := ⟨.hbm, 443, rfl⟩
abbrev main_v329 : Ref sig .tc := ⟨.hbm, 444, rfl⟩
abbrev main_v330 : Ref sig .tc := ⟨.hbm, 445, rfl⟩
abbrev main_v331 : Ref sig .tc := ⟨.hbm, 446, rfl⟩
abbrev main_call7_v0 : Ref sig .tc := ⟨.hbm, 447, rfl⟩
abbrev main_call7_v1 : Ref sig .tc := ⟨.hbm, 448, rfl⟩
abbrev main_call7_cst : Ref sig .tc := ⟨.hbm, 449, rfl⟩
abbrev main_call7_v2 : Ref sig .tc := ⟨.hbm, 450, rfl⟩
abbrev main_call7_v3 : Ref sig .tc := ⟨.hbm, 451, rfl⟩
abbrev main_call7_cst_0 : Ref sig .tc := ⟨.hbm, 452, rfl⟩
abbrev main_call7_v4 : Ref sig .tc := ⟨.hbm, 453, rfl⟩
abbrev main_call7_v5 : Ref sig .tc := ⟨.hbm, 454, rfl⟩
abbrev main_v332 : Ref sig .tc := ⟨.hbm, 455, rfl⟩
abbrev main_v333 : Ref sig .tc := ⟨.hbm, 456, rfl⟩
abbrev main_v334 : Ref sig .tc := ⟨.hbm, 457, rfl⟩
abbrev main_v335 : Ref sig .tc := ⟨.hbm, 458, rfl⟩
abbrev main_v336 : Ref sig .tc := ⟨.hbm, 459, rfl⟩

abbrev nD : Nat := 1
abbrev τ : Topo := Topo.v7x

variable {F : FTy → Type} [FloatOps F]

abbrev main_while0_count : Scf.Loop 32 := ⟨0#32, 128#32, 1#32⟩
-- ==== Kernel2.lean ====
abbrev S33792x2048 : Shape := ⟨2, ![33792, 2048]⟩
abbrev S2048 : Shape := ⟨1, ![2048]⟩
abbrev S2048x17704 : Shape := ⟨2, ![2048, 17704]⟩
abbrev S1x2048 : Shape := ⟨2, ![1, 2048]⟩
abbrev S2048x6144 : Shape := ⟨2, ![2048, 6144]⟩
abbrev S2048x3072 : Shape := ⟨2, ![2048, 3072]⟩
abbrev S2048x4096 : Shape := ⟨2, ![2048, 4096]⟩
abbrev S2048x288 : Shape := ⟨2, ![2048, 288]⟩
abbrev S_ : Shape := ⟨0, ![]⟩
abbrev S2048x96 : Shape := ⟨2, ![2048, 96]⟩
abbrev S2048x8 : Shape := ⟨2, ![2048, 8]⟩
abbrev S2048x120 : Shape := ⟨2, ![2048, 120]⟩
abbrev S2048x17920 : Shape := ⟨2, ![2048, 17920]⟩
abbrev S33792x17920 : Shape := ⟨2, ![33792, 17920]⟩
abbrev S1024x2048 : Shape := ⟨2, ![1024, 2048]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 17
  | .vmem => 8
  | .smem => 0
  | _ => 0

abbrev bufTy : (tb : Table) → Fin (tcTables nBuf tb) → BufTy
  | .hbm, ⟨0, _⟩ => ⟨S33792x2048, .f32⟩
  | .hbm, ⟨1, _⟩ => ⟨S2048, .f32⟩
  | .hbm, ⟨2, _⟩ => ⟨S2048x17704, .f32⟩
  | .hbm, ⟨3, _⟩ => ⟨S1x2048, .f32⟩
  | .hbm, ⟨4, _⟩ => ⟨S2048x6144, .f32⟩
  | .hbm, ⟨5, _⟩ => ⟨S2048x3072, .f32⟩
  | .hbm, ⟨6, _⟩ => ⟨S2048x4096, .f32⟩
  | .hbm, ⟨7, _⟩ => ⟨S2048x4096, .f32⟩
  | .hbm, ⟨8, _⟩ => ⟨S2048x288, .f32⟩
  | .hbm, ⟨9, _⟩ => ⟨S_, .f32⟩
  | .hbm, ⟨10, _⟩ => ⟨S2048x96, .f32⟩
  | .hbm, ⟨11, _⟩ => ⟨S2048x8, .f32⟩
  | .hbm, ⟨12, _⟩ => ⟨S_, .f32⟩
  | .hbm, ⟨13, _⟩ => ⟨S2048x120, .f32⟩
  | .hbm, ⟨14, _⟩ => ⟨S2048x17920, .f32⟩
  | .hbm, ⟨15, _⟩ => ⟨S2048x17920, .bf16⟩
  | .hbm, ⟨16, _⟩ => ⟨S33792x17920, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1024x512, .f32⟩
  | .local _ .vmem, ⟨6, _⟩ => ⟨S1024x512, .f32⟩
  | .local _ .vmem, ⟨7, _⟩ => ⟨S1024x2048, .bf16⟩
  | _, _ => ⟨S33792x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![33, 35], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S33792x2048 : Shape := ⟨2, ![33792, 2048]⟩
abbrev S2048 : Shape := ⟨1, ![2048]⟩
abbrev S2048x17704 : Shape := ⟨2, ![2048, 17704]⟩
abbrev S_ : Shape := ⟨0, ![]⟩
abbrev S33792 : Shape := ⟨1, ![33792]⟩
abbrev S33792x1 : Shape := ⟨2, ![33792, 1]⟩
abbrev S1x2048 : Shape := ⟨2, ![1, 2048]⟩
abbrev S33792x17704 : Shape := ⟨2, ![33792, 17704]⟩
abbrev S33792x3360 : Shape := ⟨2, ![33792, 3360]⟩
abbrev S33792x4104 : Shape := ⟨2, ![33792, 4104]⟩
abbrev S33792x4096 : Shape := ⟨2, ![33792, 4096]⟩
abbrev S33792x6144 : Shape := ⟨2, ![33792, 6144]⟩
abbrev S33792x3072 : Shape := ⟨2, ![33792, 3072]⟩
abbrev S33792x288 : Shape := ⟨2, ![33792, 288]⟩
abbrev S33792x96 : Shape := ⟨2, ![33792, 96]⟩
abbrev S33792x8 : Shape := ⟨2, ![33792, 8]⟩
abbrev S33792x120 : Shape := ⟨2, ![33792, 120]⟩
abbrev S33792x17920 : Shape := ⟨2, ![33792, 17920]⟩

abbrev nBuf : Space → Nat
  | .hbm => 33
  | .vmem => 0
  | .smem => 0
  | _ => 0

abbrev bufTy : (tb : Table) → Fin (tcTables nBuf tb) → BufTy
  | .hbm, ⟨0, _⟩ => ⟨S33792x2048, .f32⟩
  | .hbm, ⟨1, _⟩ => ⟨S2048, .f32⟩
  | .hbm, ⟨2, _⟩ => ⟨S2048x17704, .f32⟩
  | .hbm, ⟨3, _⟩ => ⟨S33792x2048, .f32⟩
  | .hbm, ⟨4, _⟩ => ⟨S_, .f32⟩
  | .hbm, ⟨5, _⟩ => ⟨S33792, .f32⟩
  | .hbm, ⟨6, _⟩ => ⟨S33792x1, .f32⟩
  | .hbm, ⟨7, _⟩ => ⟨S_, .f32⟩
  | .hbm, ⟨8, _⟩ => ⟨S33792x1, .f32⟩
  | .hbm, ⟨9, _⟩ => ⟨S33792x1, .f32⟩
  | .hbm, ⟨10, _⟩ => ⟨S_, .f32⟩
  | .hbm, ⟨11, _⟩ => ⟨S33792x1, .f32⟩
  | .hbm, ⟨12, _⟩ => ⟨S33792x1, .f32⟩
  | .hbm, ⟨13, _⟩ => ⟨S33792x1, .f32⟩
  | .hbm, ⟨14, _⟩ => ⟨S33792x2048, .f32⟩
  | .hbm, ⟨15, _⟩ => ⟨S33792x2048, .f32⟩
  | .hbm, ⟨16, _⟩ => ⟨S1x2048, .f32⟩
  | .hbm, ⟨17, _⟩ => ⟨S33792x2048, .f32⟩
  | .hbm, ⟨18, _⟩ => ⟨S33792x2048, .f32⟩
  | .hbm, ⟨19, _⟩ => ⟨S33792x17704, .f32⟩
  | .hbm, ⟨20, _⟩ => ⟨S33792x3360, .f32⟩
  | .hbm, ⟨21, _⟩ => ⟨S33792x4104, .f32⟩
  | .hbm, ⟨22, _⟩ => ⟨S33792x4096, .f32⟩
  | .hbm, ⟨23, _⟩ => ⟨S33792x6144, .f32⟩
  | .hbm, ⟨24, _⟩ => ⟨S33792x3072, .f32⟩
  | .hbm, ⟨25, _⟩ => ⟨S33792x4096, .f32⟩
  | .hbm, ⟨26, _⟩ => ⟨S33792x288, .f32⟩
  | .hbm, ⟨27, _⟩ => ⟨S_, .f32⟩
  | .hbm, ⟨28, _⟩ => ⟨S33792x96, .f32⟩
  | .hbm, ⟨29, _⟩ => ⟨S33792x8, .f32⟩
  | .hbm, ⟨30, _⟩ => ⟨S_, .f32⟩
  | .hbm, ⟨31, _⟩ => ⟨S33792x120, .f32⟩
  | .hbm, ⟨32, _⟩ => ⟨S33792x17920, .f32⟩
  | _, _ => ⟨S33792x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Kernel3.lean ====
abbrev S33792x2048 : Shape := ⟨2, ![33792, 2048]⟩
abbrev S2048 : Shape := ⟨1, ![2048]⟩
abbrev S2048x11264 : Shape := ⟨2, ![2048, 11264]⟩
abbrev S1x2048 : Shape := ⟨2, ![1, 2048]⟩
abbrev S33792x11264 : Shape := ⟨2, ![33792, 11264]⟩
abbrev S1024x2048 : Shape := ⟨2, ![1024, 2048]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S33792x2048, .f32⟩
  | .hbm, ⟨1, _⟩ => ⟨S2048, .f32⟩
  | .hbm, ⟨2, _⟩ => ⟨S2048x11264, .f32⟩
  | .hbm, ⟨3, _⟩ => ⟨S1x2048, .f32⟩
  | .hbm, ⟨4, _⟩ => ⟨S2048x11264, .bf16⟩
  | .hbm, ⟨5, _⟩ => ⟨S33792x11264, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1024x512, .f32⟩
  | .local _ .vmem, ⟨6, _⟩ => ⟨S1024x512, .f32⟩
  | .local _ .vmem, ⟨7, _⟩ => ⟨S1024x2048, .bf16⟩
  | _, _ => ⟨S33792x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![33, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S33792x2048 : Shape := ⟨2, ![33792, 2048]⟩
abbrev S2048 : Shape := ⟨1, ![2048]⟩
abbrev S2048x11264 : Shape := ⟨2, ![2048, 11264]⟩
abbrev S_ : Shape := ⟨0, ![]⟩
abbrev S33792 : Shape := ⟨1, ![33792]⟩
abbrev S33792x1 : Shape := ⟨2, ![33792, 1]⟩
abbrev S1x2048 : Shape := ⟨2, ![1, 2048]⟩
abbrev S33792x11264 : Shape := ⟨2, ![33792, 11264]⟩

abbrev nBuf : Space → Nat
  | .hbm => 20
  | .vmem => 0
  | .smem => 0
  | _ => 0

abbrev bufTy : (tb : Table) → Fin (tcTables nBuf tb) → BufTy
  | .hbm, ⟨0, _⟩ => ⟨S33792x2048, .f32⟩
  | .hbm, ⟨1, _⟩ => ⟨S2048, .f32⟩
  | .hbm, ⟨2, _⟩ => ⟨S2048x11264, .f32⟩
  | .hbm, ⟨3, _⟩ => ⟨S33792x2048, .f32⟩
  | .hbm, ⟨4, _⟩ => ⟨S_, .f32⟩
  | .hbm, ⟨5, _⟩ => ⟨S33792, .f32⟩
  | .hbm, ⟨6, _⟩ => ⟨S33792x1, .f32⟩
  | .hbm, ⟨7, _⟩ => ⟨S_, .f32⟩
  | .hbm, ⟨8, _⟩ => ⟨S33792x1, .f32⟩
  | .hbm, ⟨9, _⟩ => ⟨S33792x1, .f32⟩
  | .hbm, ⟨10, _⟩ => ⟨S_, .f32⟩
  | .hbm, ⟨11, _⟩ => ⟨S33792x1, .f32⟩
  | .hbm, ⟨12, _⟩ => ⟨S33792x1, .f32⟩
  | .hbm, ⟨13, _⟩ => ⟨S33792x1, .f32⟩
  | .hbm, ⟨14, _⟩ => ⟨S33792x2048, .f32⟩
  | .hbm, ⟨15, _⟩ => ⟨S33792x2048, .f32⟩
  | .hbm, ⟨16, _⟩ => ⟨S1x2048, .f32⟩
  | .hbm, ⟨17, _⟩ => ⟨S33792x2048, .f32⟩
  | .hbm, ⟨18, _⟩ => ⟨S33792x2048, .f32⟩
  | .hbm, ⟨19, _⟩ => ⟨S33792x11264, .f32⟩
  | _, _ => ⟨S33792x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel4.lean ====
abbrev S33792x5632 : Shape := ⟨2, ![33792, 5632]⟩
abbrev S5632x2048 : Shape := ⟨2, ![5632, 2048]⟩
abbrev S33792x2048 : Shape := ⟨2, ![33792, 2048]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S33792x5632, .f32⟩
  | .hbm, ⟨1, _⟩ => ⟨S5632x2048, .f32⟩
  | .hbm, ⟨2, _⟩ => ⟨S33792x2048, .f32⟩
  | .hbm, ⟨3, _⟩ => ⟨S33792x5632, .bf16⟩
  | .hbm, ⟨4, _⟩ => ⟨S5632x2048, .bf16⟩
  | .hbm, ⟨5, _⟩ => ⟨S33792x2048, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S33792x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![33, 2, 11], ![false, false, false]⟩

def k0_cond2 (i : grid0.Coords) : BitVec 1 :=
  let arg2 : BitVec 32 := BitVec.ofNat 32 (i 2).val
  let c10_i32 : BitVec 32 := 10#32
  let v13 : BitVec 1 := Scalar.cmpi .eq arg2 c10_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference4Ideal.lean ====
abbrev S33792x5632 : Shape := ⟨2, ![33792, 5632]⟩
abbrev S5632x2048 : Shape := ⟨2, ![5632, 2048]⟩
abbrev S33792x2048 : Shape := ⟨2, ![33792, 2048]⟩

abbrev nBuf : Space → Nat
  | .hbm => 5
  | .vmem => 0
  | .smem => 0
  | _ => 0

abbrev bufTy : (tb : Table) → Fin (tcTables nBuf tb) → BufTy
  | .hbm, ⟨0, _⟩ => ⟨S33792x5632, .f32⟩
  | .hbm, ⟨1, _⟩ => ⟨S5632x2048, .f32⟩
  | .hbm, ⟨2, _⟩ => ⟨S33792x2048, .f32⟩
  | .hbm, ⟨3, _⟩ => ⟨S33792x2048, .f32⟩
  | .hbm, ⟨4, _⟩ => ⟨S33792x2048, .f32⟩
  | _, _ => ⟨S33792x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel5.lean ====
abbrev S33792x2048 : Shape := ⟨2, ![33792, 2048]⟩
abbrev S33792x17920 : Shape := ⟨2, ![33792, 17920]⟩
abbrev S33792x1024 : Shape := ⟨2, ![33792, 1024]⟩
abbrev S3x1024x2048 : Shape := ⟨3, ![3, 1024, 2048]⟩
abbrev S2048x2048 : Shape := ⟨2, ![2048, 2048]⟩
abbrev S256x2048 : Shape := ⟨2, ![256, 2048]⟩
abbrev S256x1024 : Shape := ⟨2, ![256, 1024]⟩
abbrev S256x512 : Shape := ⟨2, ![256, 512]⟩
abbrev S1x1024x512 : Shape := ⟨3, ![1, 1024, 512]⟩
abbrev S1024x512 : Shape := ⟨2, ![1024, 512]⟩
abbrev S2048x512 : Shape := ⟨2, ![2048, 512]⟩

abbrev nBuf : Space → Nat
  | .hbm => 13
  | .vmem => 19
  | .smem => 0
  | _ => 0

abbrev bufTy : (tb : Table) → Fin (tcTables nBuf tb) → BufTy
  | .hbm, ⟨0, _⟩ => ⟨S33792x2048, .f32⟩
  | .hbm, ⟨1, _⟩ => ⟨S33792x17920, .f32⟩
  | .hbm, ⟨2, _⟩ => ⟨S33792x1024, .f32⟩
  | .hbm, ⟨3, _⟩ => ⟨S33792x1024, .f32⟩
  | .hbm, ⟨4, _⟩ => ⟨S33792x1024, .f32⟩
  | .hbm, ⟨5, _⟩ => ⟨S3x1024x2048, .f32⟩
  | .hbm, ⟨6, _⟩ => ⟨S2048x2048, .f32⟩
  | .hbm, ⟨7, _⟩ => ⟨S33792x1024, .bf16⟩
  | .hbm, ⟨8, _⟩ => ⟨S33792x1024, .bf16⟩
  | .hbm, ⟨9, _⟩ => ⟨S33792x1024, .bf16⟩
  | .hbm, ⟨10, _⟩ => ⟨S3x1024x2048, .bf16⟩
  | .hbm, ⟨11, _⟩ => ⟨S2048x2048, .bf16⟩
  | .hbm, ⟨12, _⟩ => ⟨S33792x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S3x1024x2048, .bf16⟩
  | .local _ .vmem, ⟨15, _⟩ => ⟨S2048x2048, .bf16⟩
  | .local _ .vmem, ⟨16, _⟩ => ⟨S256x2048, .f32⟩
  | .local _ .vmem, ⟨17, _⟩ => ⟨S256x2048, .f32⟩
  | .local _ .vmem, ⟨18, _⟩ => ⟨S256x2048, .bf16⟩
  | _, _ => ⟨S33792x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![132], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference5Ideal.lean ====
abbrev S33792x2048 : Shape := ⟨2, ![33792, 2048]⟩
abbrev S33792x17920 : Shape := ⟨2, ![33792, 17920]⟩
abbrev S33792x1024 : Shape := ⟨2, ![33792, 1024]⟩
abbrev S3x1024x2048 : Shape := ⟨3, ![3, 1024, 2048]⟩
abbrev S2048x2048 : Shape := ⟨2, ![2048, 2048]⟩
abbrev S33792x6144 : Shape := ⟨2, ![33792, 6144]⟩
abbrev S_ : Shape := ⟨0, ![]⟩
abbrev S1x1024x2048 : Shape := ⟨3, ![1, 1024, 2048]⟩
abbrev S1024x2048 : Shape := ⟨2, ![1024, 2048]⟩

abbrev nBuf : Space → Nat
  | .hbm => 51
  | .vmem => 0
  | .smem => 0
  | _ => 0

abbrev bufTy : (tb : Table) → Fin (tcTables nBuf tb) → BufTy
  | .hbm, ⟨0, _⟩ => ⟨S33792x2048, .f32⟩
  | .hbm, ⟨1, _⟩ => ⟨S33792x17920, .f32⟩
  | .hbm, ⟨2, _⟩ => ⟨S33792x1024, .f32⟩
  | .hbm, ⟨3, _⟩ => ⟨S33792x1024, .f32⟩
  | .hbm, ⟨4, _⟩ => ⟨S33792x1024, .f32⟩
  | .hbm, ⟨5, _⟩ => ⟨S3x1024x2048, .f32⟩
  | .hbm, ⟨6, _⟩ => ⟨S2048x2048, .f32⟩
  | .hbm, ⟨7, _⟩ => ⟨S33792x6144, .f32⟩
  | .hbm, ⟨8, _⟩ => ⟨S33792x2048, .f32⟩
  | .hbm, ⟨9, _⟩ => ⟨S33792x2048, .f32⟩
  | .hbm, ⟨10, _⟩ => ⟨S33792x2048, .f32⟩
  | .hbm, ⟨11, _⟩ => ⟨S_, .f32⟩
  | .hbm, ⟨12, _⟩ => ⟨S33792x2048, .f32⟩
  | .hbm, ⟨13, _⟩ => ⟨S33792x2048, .f32⟩
  | .hbm, ⟨14, _⟩ => ⟨S_, .f32⟩
  | .hbm, ⟨15, _⟩ => ⟨S33792x2048, .f32⟩
  | .hbm, ⟨16, _⟩ => ⟨S33792x2048, .f32⟩
  | .hbm, ⟨17, _⟩ => ⟨S1x1024x2048, .f32⟩
  | .hbm, ⟨18, _⟩ => ⟨S1024x2048, .f32⟩
  | .hbm, ⟨19, _⟩ => ⟨S33792x2048, .f32⟩
  | .hbm, ⟨20, _⟩ => ⟨S33792x2048, .f32⟩
  | .hbm, ⟨21, _⟩ => ⟨S33792x2048, .f32⟩
  | .hbm, ⟨22, _⟩ => ⟨S33792x2048, .f32⟩
  | .hbm, ⟨23, _⟩ => ⟨S33792x2048, .f32⟩
  | .hbm, ⟨24, _⟩ => ⟨S_, .f32⟩
  | .hbm, ⟨25, _⟩ => ⟨S33792x2048, .f32⟩
  | .hbm, ⟨26, _⟩ => ⟨S33792x2048, .f32⟩
  | .hbm, ⟨27, _⟩ => ⟨S_, .f32⟩
  | .hbm, ⟨28, _⟩ => ⟨S33792x2048, .f32⟩
  | .hbm, ⟨29, _⟩ => ⟨S33792x2048, .f32⟩
  | .hbm, ⟨30, _⟩ => ⟨S1x1024x2048, .f32⟩
  | .hbm, ⟨31, _⟩ => ⟨S1024x2048, .f32⟩
  | .hbm, ⟨32, _⟩ => ⟨S33792x2048, .f32⟩
  | .hbm, ⟨33, _⟩ => ⟨S33792x2048, .f32⟩
  | .hbm, ⟨34, _⟩ => ⟨S33792x2048, .f32⟩
  | .hbm, ⟨35, _⟩ => ⟨S33792x2048, .f32⟩
  | .hbm, ⟨36, _⟩ => ⟨S33792x2048, .f32⟩
  | .hbm, ⟨37, _⟩ => ⟨S33792x2048, .f32⟩
  | .hbm, ⟨38, _⟩ => ⟨S_, .f32⟩
  | .hbm, ⟨39, _⟩ => ⟨S33792x2048, .f32⟩
  | .hbm, ⟨40, _⟩ => ⟨S33792x2048, .f32⟩
  | .hbm, ⟨41, _⟩ => ⟨S_, .f32⟩
  | .hbm, ⟨42, _⟩ => ⟨S33792x2048, .f32⟩
  | .hbm, ⟨43, _⟩ => ⟨S33792x2048, .f32⟩
  | .hbm, ⟨44, _⟩ => ⟨S1x1024x2048, .f32⟩
  | .hbm, ⟨45, _⟩ => ⟨S1024x2048, .f32⟩
  | .hbm, ⟨46, _⟩ => ⟨S33792x2048, .f32⟩
  | .hbm, ⟨47, _⟩ => ⟨S33792x2048, .f32⟩
  | .hbm, ⟨48, _⟩ => ⟨S33792x2048, .f32⟩
  | .hbm, ⟨49, _⟩ => ⟨S33792x2048, .f32⟩
  | .hbm, ⟨50, _⟩ => ⟨S33792x2048, .f32⟩
  | _, _ => ⟨S33792x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel6.lean ====
abbrev S33792x2048 : Shape := ⟨2, ![33792, 2048]⟩
abbrev S2048 : Shape := ⟨1, ![2048]⟩
abbrev S2048x2048 : Shape := ⟨2, ![2048, 2048]⟩
abbrev S33792x256 : Shape := ⟨2, ![33792, 256]⟩
abbrev S256x2048 : Shape := ⟨2, ![256, 2048]⟩
abbrev S1x2048 : Shape := ⟨2, ![1, 2048]⟩
abbrev S512x2048 : Shape := ⟨2, ![512, 2048]⟩
abbrev S512x256 : Shape := ⟨2, ![512, 256]⟩
abbrev S512 : Shape := ⟨1, ![512]⟩
abbrev S512x1 : Shape := ⟨2, ![512, 1]⟩

abbrev nBuf : Space → Nat
  | .hbm => 11
  | .vmem => 10
  | .smem => 0
  | _ => 0

abbrev bufTy : (tb : Table) → Fin (tcTables nBuf tb) → BufTy
  | .hbm, ⟨0, _⟩ => ⟨S33792x2048, .f32⟩
  | .hbm, ⟨1, _⟩ => ⟨S2048, .f32⟩
  | .hbm, ⟨2, _⟩ => ⟨S2048x2048, .f32⟩
  | .hbm, ⟨3, _⟩ => ⟨S33792x256, .f32⟩
  | .hbm, ⟨4, _⟩ => ⟨S256x2048, .f32⟩
  | .hbm, ⟨5, _⟩ => ⟨S2048, .f32⟩
  | .hbm, ⟨6, _⟩ => ⟨S1x2048, .f32⟩
  | .hbm, ⟨7, _⟩ => ⟨S2048x2048, .bf16⟩
  | .hbm, ⟨8, _⟩ => ⟨S256x2048, .bf16⟩
  | .hbm, ⟨9, _⟩ => ⟨S1x2048, .f32⟩
  | .hbm, ⟨10, _⟩ => ⟨S33792x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x2048, .bf16⟩
  | .local _ .vmem, ⟨4, _⟩ => ⟨S512x256, .f32⟩
  | .local _ .vmem, ⟨5, _⟩ => ⟨S512x256, .f32⟩
  | .local _ .vmem, ⟨6, _⟩ => ⟨S256x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S33792x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S33792x2048 : Shape := ⟨2, ![33792, 2048]⟩
abbrev S2048 : Shape := ⟨1, ![2048]⟩
abbrev S2048x2048 : Shape := ⟨2, ![2048, 2048]⟩
abbrev S33792x256 : Shape := ⟨2, ![33792, 256]⟩
abbrev S256x2048 : Shape := ⟨2, ![256, 2048]⟩
abbrev S_ : Shape := ⟨0, ![]⟩
abbrev S33792 : Shape := ⟨1, ![33792]⟩
abbrev S33792x1 : Shape := ⟨2, ![33792, 1]⟩
abbrev S1x2048 : Shape := ⟨2, ![1, 2048]⟩

abbrev nBuf : Space → Nat
  | .hbm => 50
  | .vmem => 0
  | .smem => 0
  | _ => 0

abbrev bufTy : (tb : Table) → Fin (tcTables nBuf tb) → BufTy
  | .hbm, ⟨0, _⟩ => ⟨S33792x2048, .f32⟩
  | .hbm, ⟨1, _⟩ => ⟨S2048, .f32⟩
  | .hbm, ⟨2, _⟩ => ⟨S2048x2048, .f32⟩
  | .hbm, ⟨3, _⟩ => ⟨S33792x256, .f32⟩
  | .hbm, ⟨4, _⟩ => ⟨S256x2048, .f32⟩
  | .hbm, ⟨5, _⟩ => ⟨S2048, .f32⟩
  | .hbm, ⟨6, _⟩ => ⟨S33792x2048, .f32⟩
  | .hbm, ⟨7, _⟩ => ⟨S_, .f32⟩
  | .hbm, ⟨8, _⟩ => ⟨S33792, .f32⟩
  | .hbm, ⟨9, _⟩ => ⟨S33792x1, .f32⟩
  | .hbm, ⟨10, _⟩ => ⟨S_, .f32⟩
  | .hbm, ⟨11, _⟩ => ⟨S33792x1, .f32⟩
  | .hbm, ⟨12, _⟩ => ⟨S33792x1, .f32⟩
  | .hbm, ⟨13, _⟩ => ⟨S_, .f32⟩
  | .hbm, ⟨14, _⟩ => ⟨S33792x1, .f32⟩
  | .hbm, ⟨15, _⟩ => ⟨S33792x1, .f32⟩
  | .hbm, ⟨16, _⟩ => ⟨S33792x1, .f32⟩
  | .hbm, ⟨17, _⟩ => ⟨S33792x2048, .f32⟩
  | .hbm, ⟨18, _⟩ => ⟨S33792x2048, .f32⟩
  | .hbm, ⟨19, _⟩ => ⟨S1x2048, .f32⟩
  | .hbm, ⟨20, _⟩ => ⟨S33792x2048, .f32⟩
  | .hbm, ⟨21, _⟩ => ⟨S33792x2048, .f32⟩
  | .hbm, ⟨22, _⟩ => ⟨S33792x2048, .f32⟩
  | .hbm, ⟨23, _⟩ => ⟨S33792x2048, .f32⟩
  | .hbm, ⟨24, _⟩ => ⟨S33792x2048, .f32⟩
  | .hbm, ⟨25, _⟩ => ⟨S_, .f32⟩
  | .hbm, ⟨26, _⟩ => ⟨S33792x2048, .f32⟩
  | .hbm, ⟨27, _⟩ => ⟨S33792x2048, .f32⟩
  | .hbm, ⟨28, _⟩ => ⟨S_, .f32⟩
  | .hbm, ⟨29, _⟩ => ⟨S33792x2048, .f32⟩
  | .hbm, ⟨30, _⟩ => ⟨S33792x2048, .f32⟩
  | .hbm, ⟨31, _⟩ => ⟨S33792x2048, .f32⟩
  | .hbm, ⟨32, _⟩ => ⟨S33792x2048, .f32⟩
  | .hbm, ⟨33, _⟩ => ⟨S33792x2048, .f32⟩
  | .hbm, ⟨34, _⟩ => ⟨S33792x2048, .f32⟩
  | .hbm, ⟨35, _⟩ => ⟨S_, .f32⟩
  | .hbm, ⟨36, _⟩ => ⟨S33792, .f32⟩
  | .hbm, ⟨37, _⟩ => ⟨S33792x1, .f32⟩
  | .hbm, ⟨38, _⟩ => ⟨S_, .f32⟩
  | .hbm, ⟨39, _⟩ => ⟨S33792x1, .f32⟩
  | .hbm, ⟨40, _⟩ => ⟨S33792x1, .f32⟩
  | .hbm, ⟨41, _⟩ => ⟨S_, .f32⟩
  | .hbm, ⟨42, _⟩ => ⟨S33792x1, .f32⟩
  | .hbm, ⟨43, _⟩ => ⟨S33792x1, .f32⟩
  | .hbm, ⟨44, _⟩ => ⟨S33792x1, .f32⟩
  | .hbm, ⟨45, _⟩ => ⟨S33792x2048, .f32⟩
  | .hbm, ⟨46, _⟩ => ⟨S33792x2048, .f32⟩
  | .hbm, ⟨47, _⟩ => ⟨S1x2048, .f32⟩
  | .hbm, ⟨48, _⟩ => ⟨S33792x2048, .f32⟩
  | .hbm, ⟨49, _⟩ => ⟨S33792x2048, .f32⟩
  | _, _ => ⟨S33792x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== Kernel7.lean ====
abbrev S33792x2048 : Shape := ⟨2, ![33792, 2048]⟩
abbrev S2048 : Shape := ⟨1, ![2048]⟩
abbrev S2048x2048 : Shape := ⟨2, ![2048, 2048]⟩
abbrev S33792x256 : Shape := ⟨2, ![33792, 256]⟩
abbrev S256x2048 : Shape := ⟨2, ![256, 2048]⟩
abbrev S1x2048 : Shape := ⟨2, ![1, 2048]⟩
abbrev S512x2048 : Shape := ⟨2, ![512, 2048]⟩
abbrev S512x256 : Shape := ⟨2, ![512, 256]⟩
abbrev S512 : Shape := ⟨1, ![512]⟩
abbrev S512x1 : Shape := ⟨2, ![512, 1]⟩

abbrev nBuf : Space → Nat
  | .hbm => 11
  | .vmem => 10
  | .smem => 0
  | _ => 0

abbrev bufTy : (tb : Table) → Fin (tcTables nBuf tb) → BufTy
  | .hbm, ⟨0, _⟩ => ⟨S33792x2048, .f32⟩
  | .hbm, ⟨1, _⟩ => ⟨S2048, .f32⟩
  | .hbm, ⟨2, _⟩ => ⟨S2048x2048, .f32⟩
  | .hbm, ⟨3, _⟩ => ⟨S33792x256, .f32⟩
  | .hbm, ⟨4, _⟩ => ⟨S256x2048, .f32⟩
  | .hbm, ⟨5, _⟩ => ⟨S2048, .f32⟩
  | .hbm, ⟨6, _⟩ => ⟨S1x2048, .f32⟩
  | .hbm, ⟨7, _⟩ => ⟨S2048x2048, .bf16⟩
  | .hbm, ⟨8, _⟩ => ⟨S256x2048, .bf16⟩
  | .hbm, ⟨9, _⟩ => ⟨S1x2048, .f32⟩
  | .hbm, ⟨10, _⟩ => ⟨S33792x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x2048, .bf16⟩
  | .local _ .vmem, ⟨4, _⟩ => ⟨S512x256, .f32⟩
  | .local _ .vmem, ⟨5, _⟩ => ⟨S512x256, .f32⟩
  | .local _ .vmem, ⟨6, _⟩ => ⟨S256x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S33792x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference7Ideal.lean ====
abbrev S33792x2048 : Shape := ⟨2, ![33792, 2048]⟩
abbrev S2048 : Shape := ⟨1, ![2048]⟩
abbrev S2048x2048 : Shape := ⟨2, ![2048, 2048]⟩
abbrev S33792x256 : Shape := ⟨2, ![33792, 256]⟩
abbrev S256x2048 : Shape := ⟨2, ![256, 2048]⟩
abbrev S_ : Shape := ⟨0, ![]⟩
abbrev S33792 : Shape := ⟨1, ![33792]⟩
abbrev S33792x1 : Shape := ⟨2, ![33792, 1]⟩
abbrev S1x2048 : Shape := ⟨2, ![1, 2048]⟩

abbrev nBuf : Space → Nat
  | .hbm => 34
  | .vmem => 0
  | .smem => 0
  | _ => 0

abbrev bufTy : (tb : Table) → Fin (tcTables nBuf tb) → BufTy
  | .hbm, ⟨0, _⟩ => ⟨S33792x2048, .f32⟩
  | .hbm, ⟨1, _⟩ => ⟨S2048, .f32⟩
  | .hbm, ⟨2, _⟩ => ⟨S2048x2048, .f32⟩
  | .hbm, ⟨3, _⟩ => ⟨S33792x256, .f32⟩
  | .hbm, ⟨4, _⟩ => ⟨S256x2048, .f32⟩
  | .hbm, ⟨5, _⟩ => ⟨S2048, .f32⟩
  | .hbm, ⟨6, _⟩ => ⟨S33792x2048, .f32⟩
  | .hbm, ⟨7, _⟩ => ⟨S_, .f32⟩
  | .hbm, ⟨8, _⟩ => ⟨S33792, .f32⟩
  | .hbm, ⟨9, _⟩ => ⟨S33792x1, .f32⟩
  | .hbm, ⟨10, _⟩ => ⟨S_, .f32⟩
  | .hbm, ⟨11, _⟩ => ⟨S33792x1, .f32⟩
  | .hbm, ⟨12, _⟩ => ⟨S33792x1, .f32⟩
  | .hbm, ⟨13, _⟩ => ⟨S_, .f32⟩
  | .hbm, ⟨14, _⟩ => ⟨S33792x1, .f32⟩
  | .hbm, ⟨15, _⟩ => ⟨S33792x1, .f32⟩
  | .hbm, ⟨16, _⟩ => ⟨S33792x1, .f32⟩
  | .hbm, ⟨17, _⟩ => ⟨S33792x2048, .f32⟩
  | .hbm, ⟨18, _⟩ => ⟨S33792x2048, .f32⟩
  | .hbm, ⟨19, _⟩ => ⟨S1x2048, .f32⟩
  | .hbm, ⟨20, _⟩ => ⟨S33792x2048, .f32⟩
  | .hbm, ⟨21, _⟩ => ⟨S33792x2048, .f32⟩
  | .hbm, ⟨22, _⟩ => ⟨S33792x2048, .f32⟩
  | .hbm, ⟨23, _⟩ => ⟨S33792x2048, .f32⟩
  | .hbm, ⟨24, _⟩ => ⟨S33792x2048, .f32⟩
  | .hbm, ⟨25, _⟩ => ⟨S_, .f32⟩
  | .hbm, ⟨26, _⟩ => ⟨S33792x2048, .f32⟩
  | .hbm, ⟨27, _⟩ => ⟨S33792x2048, .f32⟩
  | .hbm, ⟨28, _⟩ => ⟨S_, .f32⟩
  | .hbm, ⟨29, _⟩ => ⟨S33792x2048, .f32⟩
  | .hbm, ⟨30, _⟩ => ⟨S33792x2048, .f32⟩
  | .hbm, ⟨31, _⟩ => ⟨S33792x2048, .f32⟩
  | .hbm, ⟨32, _⟩ => ⟨S33792x2048, .f32⟩
  | .hbm, ⟨33, _⟩ => ⟨S33792x2048, .f32⟩
  | _, _ => ⟨S33792x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]
-- ==== Kernel8.lean ====
abbrev S33792x11264 : Shape := ⟨2, ![33792, 11264]⟩
abbrev S16x2x5632 : Shape := ⟨3, ![16, 2, 5632]⟩
abbrev S3x5632 : Shape := ⟨2, ![3, 5632]⟩
abbrev S_ : Shape := ⟨0, ![]⟩
abbrev S20x8x5632 : Shape := ⟨3, ![20, 8, 5632]⟩
abbrev S33792x5632 : Shape := ⟨2, ![33792, 5632]⟩
abbrev S64x5632 : Shape := ⟨2, ![64, 5632]⟩
abbrev S1x8x5632 : Shape := ⟨3, ![1, 8, 5632]⟩
abbrev S72x5632 : Shape := ⟨2, ![72, 5632]⟩
abbrev S8x5632 : Shape := ⟨2, ![8, 5632]⟩
abbrev S1x5632 : Shape := ⟨2, ![1, 5632]⟩
abbrev S20x2x5632 : Shape := ⟨3, ![20, 2, 5632]⟩

abbrev nBuf : Space → Nat
  | .hbm => 9
  | .vmem => 12
  | .smem => 0
  | _ => 0

abbrev bufTy : (tb : Table) → Fin (tcTables nBuf tb) → BufTy
  | .hbm, ⟨0, _⟩ => ⟨S33792x11264, .f32⟩
  | .hbm, ⟨1, _⟩ => ⟨S16x2x5632, .f32⟩
  | .hbm, ⟨2, _⟩ => ⟨S3x5632, .f32⟩
  | .hbm, ⟨3, _⟩ => ⟨S_, .i32⟩
  | .hbm, ⟨4, _⟩ => ⟨S_, .f32⟩
  | .hbm, ⟨5, _⟩ => ⟨S20x8x5632, .f32⟩
  | .hbm, ⟨6, _⟩ => ⟨S33792x5632, .bf16⟩
  | .hbm, ⟨7, _⟩ => ⟨S20x8x5632, .f32⟩
  | .hbm, ⟨8, _⟩ => ⟨S20x2x5632, .f32⟩
  | .local _ .vmem, ⟨0, _⟩ => ⟨S64x5632, .f32⟩
  | .local _ .vmem, ⟨1, _⟩ => ⟨S64x5632, .f32⟩
  | .local _ .vmem, ⟨2, _⟩ => ⟨S64x5632, .f32⟩
  | .local _ .vmem, ⟨3, _⟩ => ⟨S64x5632, .f32⟩
  | .local _ .vmem, ⟨4, _⟩ => ⟨S1x8x5632, .f32⟩
  | .local _ .vmem, ⟨5, _⟩ => ⟨S1x8x5632, .f32⟩
  | .local _ .vmem, ⟨6, _⟩ => ⟨S3x5632, .f32⟩
  | .local _ .vmem, ⟨7, _⟩ => ⟨S64x5632, .bf16⟩
  | .local _ .vmem, ⟨8, _⟩ => ⟨S64x5632, .bf16⟩
  | .local _ .vmem, ⟨9, _⟩ => ⟨S1x8x5632, .f32⟩
  | .local _ .vmem, ⟨10, _⟩ => ⟨S1x8x5632, .f32⟩
  | .local _ .vmem, ⟨11, _⟩ => ⟨S72x5632, .f32⟩
  | _, _ => ⟨S33792x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![528], ![false]⟩

def k0_cond2 (i : grid0.Coords) : BitVec 1 :=
  let arg0 : BitVec 32 := BitVec.ofNat 32 (i 0).val
  let c512_i32_29 : BitVec 32 := 512#32
  let v59 : BitVec 1 := Scalar.cmpi .slt arg0 c512_i32_29
  let c128_i32_31 : BitVec 32 := 128#32
  let c0_i32_32 : BitVec 32 := 0#32
  let v61 : BitVec 1 := Scalar.cmpi .eq c128_i32_31 c0_i32_32
  let c1_i32_33 : BitVec 32 := 1#32
  let v62 : BitVec 32 := Scalar.select v61 c1_i32_33 c128_i32_31
  let v63 : BitVec 32 := Scalar.remsi arg0 v62
  let c0_i32_35 : BitVec 32 := 0#32
  let v65 : BitVec 1 := Scalar.cmpi .slt v63 c0_i32_35
  let c0_i32_36 : BitVec 32 := 0#32
  let v66 : BitVec 1 := Scalar.cmpi .slt v62 c0_i32_36
  let v67 : BitVec 1 := Scalar.xori v65 v66
  let c0_i32_34 : BitVec 32 := 0#32
  let v64 : BitVec 1 := Scalar.cmpi .ne v63 c0_i32_34
  let v68 : BitVec 1 := Scalar.andi v67 v64
  let v69 : BitVec 32 := Scalar.addi v63 v62
  let v70 : BitVec 32 := Scalar.select v68 v69 v63
  let c512_i32_30 : BitVec 32 := 512#32
  let v60 : BitVec 32 := Scalar.subi arg0 c512_i32_30
  let c1_i32_37 : BitVec 32 := 1#32
  let c0_i32_38 : BitVec 32 := 0#32
  let v71 : BitVec 1 := Scalar.cmpi .eq c1_i32_37 c0_i32_38
  let c1_i32_39 : BitVec 32 := 1#32
  let v72 : BitVec 32 := Scalar.select v71 c1_i32_39 c1_i32_37
  let v73 : BitVec 32 := Scalar.remsi v60 v72
  let c0_i32_41 : BitVec 32 := 0#32
  let v75 : BitVec 1 := Scalar.cmpi .slt v73 c0_i32_41
  let c0_i32_42 : BitVec 32 := 0#32
  let v76 : BitVec 1 := Scalar.cmpi .slt v72 c0_i32_42
  let v77 : BitVec 1 := Scalar.xori v75 v76
  let c0_i32_40 : BitVec 32 := 0#32
  let v74 : BitVec 1 := Scalar.cmpi .ne v73 c0_i32_40
  let v78 : BitVec 1 := Scalar.andi v77 v74
  let v79 : BitVec 32 := Scalar.addi v73 v72
  let v80 : BitVec 32 := Scalar.select v78 v79 v73
  let v81 : BitVec 32 := Scalar.select v59 v70 v80
  let c127_i32 : BitVec 32 := 127#32
  let c0_i32_43 : BitVec 32 := 0#32
  let v82 : BitVec 32 := Scalar.select v59 c127_i32 c0_i32_43
  let v83 : BitVec 1 := Scalar.cmpi .eq v81 v82
  let v84 : BitVec 32 := Scalar.extui v83
  let c0_i32_44 : BitVec 32 := 0#32
  let v85 : BitVec 1 := Scalar.cmpi .ne v84 c0_i32_44
  v85

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 3 → Nat :=
  let arg0 : BitVec 32 := BitVec.ofNat 32 (i 0).val
  let c512_i32 : BitVec 32 := 512#32
  let v0 : BitVec 1 := Scalar.cmpi .slt arg0 c512_i32
  let c512_i32_0 : BitVec 32 := 512#32
  let v1 : BitVec 32 := Scalar.subi arg0 c512_i32_0
  let c128_i32 : BitVec 32 := 128#32
  let v2 : BitVec 32 := Scalar.divsi arg0 c128_i32
  let c0_i32 : BitVec 32 := 0#32
  let v3 : BitVec 1 := Scalar.cmpi .sgt arg0 c0_i32
  let v4 : BitVec 32 := Scalar.extui v3
  let c0_i32_1 : BitVec 32 := 0#32
  let v5 : BitVec 1 := Scalar.cmpi .slt arg0 c0_i32_1
  let v6 : BitVec 32 := Scalar.extui v5
  let v7 : BitVec 32 := Scalar.subi v4 v6
  let c0_i32_2 : BitVec 32 := 0#32
  let v8 : BitVec 1 := Scalar.cmpi .sgt c128_i32 c0_i32_2
  let v9 : BitVec 32 := Scalar.extui v8
  let c0_i32_3 : BitVec 32 := 0#32
  let v10 : BitVec 1 := Scalar.cmpi .slt c128_i32 c0_i32_3
  let v11 : BitVec 32 := Scalar.extui v10
  let v12 : BitVec 32 := Scalar.subi v9 v11
  let v13 : BitVec 1 := Scalar.cmpi .ne v7 v12
  let v14 : BitVec 32 := Scalar.remsi arg0 c128_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.divsi v1 c1_i32_5
  let c0_i32_6 : BitVec 32 := 0#32
  let v20 : BitVec 1 := Scalar.cmpi .sgt v1 c0_i32_6
  let v21 : BitVec 32 := Scalar.extui v20
  let c0_i32_7 : BitVec 32 := 0#32
  let v22 : BitVec 1 := Scalar.cmpi .slt v1 c0_i32_7
  let v23 : BitVec 32 := Scalar.extui v22
  let v24 : BitVec 32 := Scalar.subi v21 v23
  let c0_i32_8 : BitVec 32 := 0#32
  let v25 : BitVec 1 := Scalar.cmpi .sgt c1_i32_5 c0_i32_8
  let v26 : BitVec 32 := Scalar.extui v25
  let c0_i32_9 : BitVec 32 := 0#32
  let v27 : BitVec 1 := Scalar.cmpi .slt c1_i32_5 c0_i32_9
  let v28 : BitVec 32 := Scalar.extui v27
  let v29 : BitVec 32 := Scalar.subi v26 v28
  let v30 : BitVec 1 := Scalar.cmpi .ne v24 v29
  let v31 : BitVec 32 := Scalar.remsi v1 c1_i32_5
  let c0_i32_10 : BitVec 32 := 0#32
  let v32 : BitVec 1 := Scalar.cmpi .ne v31 c0_i32_10
  let v33 : BitVec 1 := Scalar.andi v30 v32
  let c1_i32_11 : BitVec 32 := 1#32
  let v34 : BitVec 32 := Scalar.subi v19 c1_i32_11
  let v35 : BitVec 32 := Scalar.select v33 v34 v19
  let c4_i32 : BitVec 32 := 4#32
  let v36 : BitVec 32 := Scalar.addi c4_i32 v35
  let v37 : BitVec 32 := Scalar.select v0 v18 v36
  let c128_i32_12 : BitVec 32 := 128#32
  let c0_i32_13 : BitVec 32 := 0#32
  let v38 : BitVec 1 := Scalar.cmpi .eq c128_i32_12 c0_i32_13
  let c1_i32_14 : BitVec 32 := 1#32
  let v39 : BitVec 32 := Scalar.select v38 c1_i32_14 c128_i32_12
  let v40 : BitVec 32 := Scalar.remsi arg0 v39
  let c0_i32_15 : BitVec 32 := 0#32
  let v41 : BitVec 1 := Scalar.cmpi .ne v40 c0_i32_15
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let v45 : BitVec 1 := Scalar.andi v44 v41
  let v46 : BitVec 32 := Scalar.addi v40 v39
  let v47 : BitVec 32 := Scalar.select v45 v46 v40
  let c1_i32_18 : BitVec 32 := 1#32
  let c0_i32_19 : BitVec 32 := 0#32
  let v48 : BitVec 1 := Scalar.cmpi .eq c1_i32_18 c0_i32_19
  let c1_i32_20 : BitVec 32 := 1#32
  let v49 : BitVec 32 := Scalar.select v48 c1_i32_20 c1_i32_18
  let v50 : BitVec 32 := Scalar.remsi v1 v49
  let c0_i32_21 : BitVec 32 := 0#32
  let v51 : BitVec 1 := Scalar.cmpi .ne v50 c0_i32_21
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let v55 : BitVec 1 := Scalar.andi v54 v51
  let v56 : BitVec 32 := Scalar.addi v50 v49
  let v57 : BitVec 32 := Scalar.select v55 v56 v50
  let v58 : BitVec 32 := Scalar.select v0 v47 v57
  let c0_i32_24 : BitVec 32 := 0#32
  let c0_i32_25 : BitVec 32 := 0#32
  let c0_i32_26 : BitVec 32 := 0#32
  ![v37.toNat, c0_i32_24.toNat, c0_i32_25.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c512_i32 : BitVec 32 := 512#32
  let v0 : BitVec 1 := Scalar.cmpi .slt arg0 c512_i32
  let c512_i32_0 : BitVec 32 := 512#32
  let v1 : BitVec 32 := Scalar.subi arg0 c512_i32_0
  let c128_i32 : BitVec 32 := 128#32
  let v2 : BitVec 32 := Scalar.divsi arg0 c128_i32
  let c0_i32 : BitVec 32 := 0#32
  let v3 : BitVec 1 := Scalar.cmpi .sgt arg0 c0_i32
  let v4 : BitVec 32 := Scalar.extui v3
  let c0_i32_1 : BitVec 32 := 0#32
  let v5 : BitVec 1 := Scalar.cmpi .slt arg0 c0_i32_1
  let v6 : BitVec 32 := Scalar.extui v5
  let v7 : BitVec 32 := Scalar.subi v4 v6
  let c0_i32_2 : BitVec 32 := 0#32
  let v8 : BitVec 1 := Scalar.cmpi .sgt c128_i32 c0_i32_2
  let v9 : BitVec 32 := Scalar.extui v8
  let c0_i32_3 : BitVec 32 := 0#32
  let v10 : BitVec 1 := Scalar.cmpi .slt c128_i32 c0_i32_3
  let v11 : BitVec 32 := Scalar.extui v10
  let v12 : BitVec 32 := Scalar.subi v9 v11
  let v13 : BitVec 1 := Scalar.cmpi .ne v7 v12
  let v14 : BitVec 32 := Scalar.remsi arg0 c128_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.divsi v1 c1_i32_5
  let c0_i32_6 : BitVec 32 := 0#32
  let v20 : BitVec 1 := Scalar.cmpi .sgt v1 c0_i32_6
  let v21 : BitVec 32 := Scalar.extui v20
  let c0_i32_7 : BitVec 32 := 0#32
  let v22 : BitVec 1 := Scalar.cmpi .slt v1 c0_i32_7
  let v23 : BitVec 32 := Scalar.extui v22
  let v24 : BitVec 32 := Scalar.subi v21 v23
  let c0_i32_8 : BitVec 32 := 0#32
  let v25 : BitVec 1 := Scalar.cmpi .sgt c1_i32_5 c0_i32_8
  let v26 : BitVec 32 := Scalar.extui v25
  let c0_i32_9 : BitVec 32 := 0#32
  let v27 : BitVec 1 := Scalar.cmpi .slt c1_i32_5 c0_i32_9
  let v28 : BitVec 32 := Scalar.extui v27
  let v29 : BitVec 32 := Scalar.subi v26 v28
  let v30 : BitVec 1 := Scalar.cmpi .ne v24 v29
  let v31 : BitVec 32 := Scalar.remsi v1 c1_i32_5
  let c0_i32_10 : BitVec 32 := 0#32
  let v32 : BitVec 1 := Scalar.cmpi .ne v31 c0_i32_10
  let v33 : BitVec 1 := Scalar.andi v30 v32
  let c1_i32_11 : BitVec 32 := 1#32
  let v34 : BitVec 32 := Scalar.subi v19 c1_i32_11
  let v35 : BitVec 32 := Scalar.select v33 v34 v19
  let c4_i32 : BitVec 32 := 4#32
  let v36 : BitVec 32 := Scalar.addi c4_i32 v35
  let v37 : BitVec 32 := Scalar.select v0 v18 v36
  let c128_i32_12 : BitVec 32 := 128#32
  let c0_i32_13 : BitVec 32 := 0#32
  let v38 : BitVec 1 := Scalar.cmpi .eq c128_i32_12 c0_i32_13
  let c1_i32_14 : BitVec 32 := 1#32
  let v39 : BitVec 32 := Scalar.select v38 c1_i32_14 c128_i32_12
  let v40 : BitVec 32 := Scalar.remsi arg0 v39
  let c0_i32_15 : BitVec 32 := 0#32
  let v41 : BitVec 1 := Scalar.cmpi .ne v40 c0_i32_15
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let v45 : BitVec 1 := Scalar.andi v44 v41
  let v46 : BitVec 32 := Scalar.addi v40 v39
  let v47 : BitVec 32 := Scalar.select v45 v46 v40
  let c1_i32_18 : BitVec 32 := 1#32
  let c0_i32_19 : BitVec 32 := 0#32
  let v48 : BitVec 1 := Scalar.cmpi .eq c1_i32_18 c0_i32_19
  let c1_i32_20 : BitVec 32 := 1#32
  let v49 : BitVec 32 := Scalar.select v48 c1_i32_20 c1_i32_18
  let v50 : BitVec 32 := Scalar.remsi v1 v49
  let c0_i32_21 : BitVec 32 := 0#32
  let v51 : BitVec 1 := Scalar.cmpi .ne v50 c0_i32_21
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let v55 : BitVec 1 := Scalar.andi v54 v51
  let v56 : BitVec 32 := Scalar.addi v50 v49
  let v57 : BitVec 32 := Scalar.select v55 v56 v50
  let v58 : BitVec 32 := Scalar.select v0 v47 v57
  let c0_i32_24 : BitVec 32 := 0#32
  let c0_i32_25 : BitVec 32 := 0#32
  let c0_i32_26 : BitVec 32 := 0#32
  ![v37.toNat, c0_i32_24.toNat, c0_i32_25.toNat]

abbrev stage0_0 : Fin 2 → Memref sig .tc .vmem S64x5632 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x5632 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x5632 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S64x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x5632 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference8Ideal.lean ====
abbrev S33792x11264 : Shape := ⟨2, ![33792, 11264]⟩
abbrev S16x2x5632 : Shape := ⟨3, ![16, 2, 5632]⟩
abbrev S3x5632 : Shape := ⟨2, ![3, 5632]⟩
abbrev S33792x5632 : Shape := ⟨2, ![33792, 5632]⟩
abbrev S32768x5632 : Shape := ⟨2, ![32768, 5632]⟩
abbrev S4x8192x5632 : Shape := ⟨3, ![4, 8192, 5632]⟩
abbrev S_ : Shape := ⟨0, ![]⟩
abbrev S4x2x5632 : Shape := ⟨3, ![4, 2, 5632]⟩
abbrev S4x8194x5632 : Shape := ⟨3, ![4, 8194, 5632]⟩
abbrev S1x5632 : Shape := ⟨2, ![1, 5632]⟩
abbrev S5632 : Shape := ⟨1, ![5632]⟩
abbrev S1x1x5632 : Shape := ⟨3, ![1, 1, 5632]⟩
abbrev S1024x5632 : Shape := ⟨2, ![1024, 5632]⟩
abbrev S16x64x5632 : Shape := ⟨3, ![16, 64, 5632]⟩
abbrev S16x66x5632 : Shape := ⟨3, ![16, 66, 5632]⟩
abbrev S20x2x5632 : Shape := ⟨3, ![20, 2, 5632]⟩

abbrev nBuf : Space → Nat
  | .hbm => 70
  | .vmem => 0
  | .smem => 0
  | _ => 0

abbrev bufTy : (tb : Table) → Fin (tcTables nBuf tb) → BufTy
  | .hbm, ⟨0, _⟩ => ⟨S33792x11264, .f32⟩
  | .hbm, ⟨1, _⟩ => ⟨S16x2x5632, .f32⟩
  | .hbm, ⟨2, _⟩ => ⟨S3x5632, .f32⟩
  | .hbm, ⟨3, _⟩ => ⟨S33792x5632, .f32⟩
  | .hbm, ⟨4, _⟩ => ⟨S33792x5632, .f32⟩
  | .hbm, ⟨5, _⟩ => ⟨S32768x5632, .f32⟩
  | .hbm, ⟨6, _⟩ => ⟨S4x8192x5632, .f32⟩
  | .hbm, ⟨7, _⟩ => ⟨S_, .f32⟩
  | .hbm, ⟨8, _⟩ => ⟨S4x2x5632, .f32⟩
  | .hbm, ⟨9, _⟩ => ⟨S4x8194x5632, .f32⟩
  | .hbm, ⟨10, _⟩ => ⟨S4x8192x5632, .f32⟩
  | .hbm, ⟨11, _⟩ => ⟨S1x5632, .f32⟩
  | .hbm, ⟨12, _⟩ => ⟨S5632, .f32⟩
  | .hbm, ⟨13, _⟩ => ⟨S1x1x5632, .f32⟩
  | .hbm, ⟨14, _⟩ => ⟨S4x8192x5632, .f32⟩
  | .hbm, ⟨15, _⟩ => ⟨S4x8192x5632, .f32⟩
  | .hbm, ⟨16, _⟩ => ⟨S4x8192x5632, .f32⟩
  | .hbm, ⟨17, _⟩ => ⟨S1x5632, .f32⟩
  | .hbm, ⟨18, _⟩ => ⟨S5632, .f32⟩
  | .hbm, ⟨19, _⟩ => ⟨S1x1x5632, .f32⟩
  | .hbm, ⟨20, _⟩ => ⟨S4x8192x5632, .f32⟩
  | .hbm, ⟨21, _⟩ => ⟨S4x8192x5632, .f32⟩
  | .hbm, ⟨22, _⟩ => ⟨S4x8192x5632, .f32⟩
  | .hbm, ⟨23, _⟩ => ⟨S4x8192x5632, .f32⟩
  | .hbm, ⟨24, _⟩ => ⟨S1x5632, .f32⟩
  | .hbm, ⟨25, _⟩ => ⟨S5632, .f32⟩
  | .hbm, ⟨26, _⟩ => ⟨S1x1x5632, .f32⟩
  | .hbm, ⟨27, _⟩ => ⟨S4x8192x5632, .f32⟩
  | .hbm, ⟨28, _⟩ => ⟨S4x8192x5632, .f32⟩
  | .hbm, ⟨29, _⟩ => ⟨S4x8192x5632, .f32⟩
  | .hbm, ⟨30, _⟩ => ⟨S4x2x5632, .f32⟩
  | .hbm, ⟨31, _⟩ => ⟨S1024x5632, .f32⟩
  | .hbm, ⟨32, _⟩ => ⟨S16x64x5632, .f32⟩
  | .hbm, ⟨33, _⟩ => ⟨S16x66x5632, .f32⟩
  | .hbm, ⟨34, _⟩ => ⟨S16x64x5632, .f32⟩
  | .hbm, ⟨35, _⟩ => ⟨S1x5632, .f32⟩
  | .hbm, ⟨36, _⟩ => ⟨S5632, .f32⟩
  | .hbm, ⟨37, _⟩ => ⟨S1x1x5632, .f32⟩
  | .hbm, ⟨38, _⟩ => ⟨S16x64x5632, .f32⟩
  | .hbm, ⟨39, _⟩ => ⟨S16x64x5632, .f32⟩
  | .hbm, ⟨40, _⟩ => ⟨S16x64x5632, .f32⟩
  | .hbm, ⟨41, _⟩ => ⟨S1x5632, .f32⟩
  | .hbm, ⟨42, _⟩ => ⟨S5632, .f32⟩
  | .hbm, ⟨43, _⟩ => ⟨S1x1x5632, .f32⟩
  | .hbm, ⟨44, _⟩ => ⟨S16x64x5632, .f32⟩
  | .hbm, ⟨45, _⟩ => ⟨S16x64x5632, .f32⟩
  | .hbm, ⟨46, _⟩ => ⟨S16x64x5632, .f32⟩
  | .hbm, ⟨47, _⟩ => ⟨S16x64x5632, .f32⟩
  | .hbm, ⟨48, _⟩ => ⟨S1x5632, .f32⟩
  | .hbm, ⟨49, _⟩ => ⟨S5632, .f32⟩
  | .hbm, ⟨50, _⟩ => ⟨S1x1x5632, .f32⟩
  | .hbm, ⟨51, _⟩ => ⟨S16x64x5632, .f32⟩
  | .hbm, ⟨52, _⟩ => ⟨S16x64x5632, .f32⟩
  | .hbm, ⟨53, _⟩ => ⟨S16x64x5632, .f32⟩
  | .hbm, ⟨54, _⟩ => ⟨S16x2x5632, .f32⟩
  | .hbm, ⟨55, _⟩ => ⟨S32768x5632, .f32⟩
  | .hbm, ⟨56, _⟩ => ⟨S1024x5632, .f32⟩
  | .hbm, ⟨57, _⟩ => ⟨S33792x5632, .f32⟩
  | .hbm, ⟨58, _⟩ => ⟨S_, .f32⟩
  | .hbm, ⟨59, _⟩ => ⟨S33792x5632, .f32⟩
  | .hbm, ⟨60, _⟩ => ⟨S33792x5632, .f32⟩
  | .hbm, ⟨61, _⟩ => ⟨S33792x5632, .f32⟩
  | .hbm, ⟨62, _⟩ => ⟨S_, .f32⟩
  | .hbm, ⟨63, _⟩ => ⟨S33792x5632, .f32⟩
  | .hbm, ⟨64, _⟩ => ⟨S33792x5632, .f32⟩
  | .hbm, ⟨65, _⟩ => ⟨S33792x5632, .f32⟩
  | .hbm, ⟨66, _⟩ => ⟨S33792x5632, .f32⟩
  | .hbm, ⟨67, _⟩ => ⟨S33792x5632, .f32⟩
  | .hbm, ⟨68, _⟩ => ⟨S33792x5632, .bf16⟩
  | .hbm, ⟨69, _⟩ => ⟨S20x2x5632, .f32⟩
  | _, _ => ⟨S33792x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_cst_0 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_cst_1 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩

abbrev nD : Nat := 1
abbrev τ : Topo := Topo.v7x

variable {F : FTy → Type} [FloatOps F]
-- ==== Proof.Retention.Head.lean ====
/-
  One head of one chunk of the retention call, as array operations over the blocks it reads.

  The kernel's body repeats the same operations for its four heads, with another slice of the blocks and other decay
  constants each time. Here that text stands once, with the two decay constants as parameters (`headOut`, `headState`), and
  for each head the stored value is that text at the head's constants and slices.
-/
module

public import proofs.«01_k».proof.Proof.Gen.KernelIdeal.Skeleton

@[expose] public section

set_option maxRecDepth 16384

noncomputable section

namespace Cert.KernelIdeal.Retention

open Idealize.ShloMosaic Cert.KernelIdeal Cert.KernelIdeal.Gen

variable {F : FTy → Type} [FloatOps F] [Named F]

/-- A block of rows rotated by the rotary table: the first half of the columns turned against the second. -/
def rotated (co si : FVec F S64x128 .f32) (x : FVec F S64x256 .f32) : FVec F S64x256 .f32 :=
  concatenate S64x256 1
    [⟨S64x128, subf (mulf (extractStridedSlice S64x128 ![0, 0] x slices_S64x256_o0_0_S64x128) co)
        (mulf (extractStridedSlice S64x128 ![0, 128] x slices_S64x256_o0_128_S64x128) si)⟩,
     ⟨S64x128, addf (mulf (extractStridedSlice S64x128 ![0, 0] x slices_S64x256_o0_0_S64x128) si)
        (mulf (extractStridedSlice S64x128 ![0, 128] x slices_S64x256_o0_128_S64x128) co)⟩]
    concatenates_S64x128_S64x128_S64x256_d1

/-- The keys: rotated, and scaled by one sixteenth. -/
def scaled (co si : FVec F S64x128 .f32) (x : FVec F S64x256 .f32) : FVec F S64x256 .f32 :=
  mulf (rotated co si x) (broadcast S64x256 (Scalar.ofBits .f32 0x3D800000#32))

/-- The decay from key row to query row within the chunk: `exp (lg · (t − s))`, nothing for a later key. -/
def decayIn (lg : F .f32) : FVec F S64x64 .f32 :=
  select (cmpf .oge (k0_pay4 (F := F)) (broadcast S64x64 (Scalar.ofBits .f32 0x00000000#32)))
    (exp (mulf (broadcast S64x64 lg) (maximumf k0_pay4 (broadcast S64x64 (Scalar.ofBits .f32 0x00000000#32)))))
    (broadcast S64x64 (Scalar.ofBits .f32 0x00000000#32))

/-- The decay of the incoming state at each query row: `exp (lg · (t + 1))`. -/
def decayQ (lg : F .f32) : FVec F S64x1 .f32 :=
  exp (mulf (broadcast S64x1 lg) (addf k0_pay5 (broadcast S64x1 (Scalar.ofBits .f32 0x3F800000#32))))

/-- The decay of each key row at the end of the chunk: `exp (lg · (63 − t))`. -/
def decayK (lg : F .f32) : FVec F S64x1 .f32 :=
  exp (mulf (broadcast S64x1 lg) (subf (broadcast S64x1 (Scalar.ofBits .f32 0x427C0000#32)) k0_pay5))

/-- The state a chunk leaves in one head. -/
def headState (lg ds : F .f32) (co si : FVec F S64x128 .f32) (k v : FVec F S64x256 .f32) (r : FVec F S1x1x256x256 .f32) :
    FVec F S1x1x256x256 .f32 :=
  shapeCast S1x1x256x256
    (addf (mulf (broadcast S256x256 ds) (shapeCast S256x256 r shapeCasts_S1x1x256x256_S256x256))
      (matmul dot_S64x256_S64x256_S256x256_0_0_1_1_n_n none
        (truncf .bf16 (mulf (scaled co si k) (broadcastTo S64x256 (decayK lg) broadcasts_S64x1_S64x256)) bitsLt_bf16_f32)
        (truncf .bf16 v bitsLt_bf16_f32) (constant S256x256 .f32 0x00000000#32)))
    shapeCasts_S256x256_S1x1x256x256

/-- The decayed scores of a chunk's queries against its keys. -/
def scores (lg : F .f32) (co si : FVec F S64x128 .f32) (q k : FVec F S64x256 .f32) : FVec F S64x64 .f32 :=
  mulf (matmul dot_S64x256_S64x256_S64x64_1_1_0_0_n_n none (truncf .bf16 (rotated co si q) bitsLt_bf16_f32)
      (truncf .bf16 (scaled co si k) bitsLt_bf16_f32) (constant S64x64 .f32 0x00000000#32))
    (decayIn lg)

/-- The retention of a chunk's queries over its own keys and over the incoming state. -/
def retained (lg : F .f32) (co si : FVec F S64x128 .f32) (q k v : FVec F S64x256 .f32) (r : FVec F S1x1x256x256 .f32) :
    FVec F S64x256 .f32 :=
  addf
    (matmul dot_S64x64_S64x256_S64x256_1_0_0_1_n_n none (truncf .bf16 (scores lg co si q k) bitsLt_bf16_f32)
      (truncf .bf16 v bitsLt_bf16_f32) (constant S64x256 .f32 0x00000000#32))
    (mulf (broadcastTo S64x256 (decayQ lg) broadcasts_S64x1_S64x256)
      (matmul dot_S64x256_S256x256_S64x256_1_0_0_1_n_n none (truncf .bf16 (rotated co si q) bitsLt_bf16_f32)
        (truncf .bf16 (shapeCast S256x256 r shapeCasts_S1x1x256x256_S256x256) bitsLt_bf16_f32)
        (constant S64x256 .f32 0x00000000#32)))

/-- The mean of each row, as a column. -/
def rowMean (x : FVec F S64x256 .f32) : FVec F S64x1 .f32 :=
  divf (shapeCast S64x1 (multiReduction .add [1] S64 x 0x00000000#32 reduces_S64x256_S64 (.inl rfl) rfl) shapeCasts_S64_S64x1)
    (broadcast S64x1 (Scalar.ofBits .f32 0x43800000#32))

/-- Each row less its mean. -/
def centred (x : FVec F S64x256 .f32) : FVec F S64x256 .f32 :=
  subf x (broadcastTo S64x256 (rowMean x) broadcasts_S64x1_S64x256)

/-- Each row centred and divided by its standard deviation. -/
def normed (x : FVec F S64x256 .f32) : FVec F S64x256 .f32 :=
  mulf (centred x)
    (broadcastTo S64x256
      (rsqrt (addf (rowMean (mulf (centred x) (centred x))) (broadcast S64x1 (Scalar.ofBits .f32 0x3727C5AC#32))))
      broadcasts_S64x1_S64x256)

/-- The rows gated: `x · (g · 1 / (1 + exp (0 − g)))`. -/
def gatedBy (g x : FVec F S64x256 .f32) : FVec F S64x256 .bf16 :=
  truncf .bf16
    (mulf x (mulf g (divf (broadcast S64x256 (Scalar.ofBits .f32 0x3F800000#32))
      (addf (broadcast S64x256 (Scalar.ofBits .f32 0x3F800000#32))
        (exp (subf (broadcast S64x256 (Scalar.ofBits .f32 0x00000000#32)) g))))))
    bitsLt_bf16_f32

/-- What a chunk stores of one head. -/
def headOut (lg : F .f32) (co si : FVec F S64x128 .f32) (q k v g : FVec F S64x256 .f32) (r : FVec F S1x1x256x256 .f32) :
    FVec F S64x256 .bf16 :=
  gatedBy g (normed (retained lg co si q k v r))

/-! ## The four heads' stored values are that text -/

variable (co si : Vec F S64x128 .f32) (q k v g : Vec F S64x256 .f32) (r : Vec F S1x1x256x256 .f32)

/-- Head 0's state. -/
theorem state_0 : k0_pay15 (k0_pay9 k0_pay5) (k0_pay10 (k0_pay2 co) (k0_pay3 si) k) (k0_pay12 v) r
    = headState (Named.named κ "log_gamma_0" 0xBD020AEC#32) (Named.named κ "decay_state_0" 0x3E063AE5#32)
        (k0_pay2 co) (k0_pay3 si) k v r := rfl

/-- Head 1's state. -/
theorem state_1 : k0_pay30 (k0_pay2 co) (k0_pay3 si) (k0_pay21 k0_pay5) (k0_pay23 k) (k0_pay24 k)
      (k0_pay25 (k0_pay2 co) k) (k0_pay26 (k0_pay3 si) k) v r
    = headState (Named.named κ "log_gamma_1" 0xBC8102B3#32) (Named.named κ "decay_state_1" 0x3EBADF84#32)
        (k0_pay2 co) (k0_pay3 si) k v r := rfl

/-- Head 2's state. -/
theorem state_2 : k0_pay41 (k0_pay40 (k0_pay2 co) (k0_pay3 si) (k0_pay35 k0_pay5) k v r)
    = headState (Named.named κ "log_gamma_2" 0xBC0080AC#32) (Named.named κ "decay_state_2" 0x3F1AF7A1#32)
        (k0_pay2 co) (k0_pay3 si) k v r := rfl

/-- Head 3's state. -/
theorem state_3 : k0_pay52 (k0_pay45 k0_pay5) (k0_pay46 (k0_pay2 co) (k0_pay3 si) k) (k0_pay48 v) (k0_pay49 r)
    = headState (Named.named κ "log_gamma_3" 0xBB80402B#32) (Named.named κ "decay_state_3" 0x3F474682#32)
        (k0_pay2 co) (k0_pay3 si) k v r := rfl

/-- Head 0's output. -/
theorem out_0 : k0_pay18 g
      (k0_pay16 (k0_pay7 k0_pay4 k0_pay6) (k0_pay8 k0_pay5) (k0_pay11 (k0_pay2 co) (k0_pay3 si) q) (k0_pay12 v)
        (k0_pay13 (k0_pay2 co) (k0_pay3 si) q k) r) (k0_pay17 g)
    = headOut (Named.named κ "log_gamma_0" 0xBD020AEC#32) (k0_pay2 co) (k0_pay3 si) q k v g r := rfl

/-- Head 1's output. -/
theorem out_1 : k0_pay32 g
      (k0_pay31 (k0_pay2 co) (k0_pay3 si) (k0_pay19 k0_pay4) (k0_pay20 k0_pay5) (k0_pay22 (k0_pay2 co) (k0_pay3 si) q)
        (k0_pay23 k) (k0_pay24 k) (k0_pay25 (k0_pay2 co) k) (k0_pay26 (k0_pay3 si) k) v r)
    = headOut (Named.named κ "log_gamma_1" 0xBC8102B3#32) (k0_pay2 co) (k0_pay3 si) q k v g r := rfl

/-- Head 2's output. -/
theorem out_2 : k0_pay42
      (k0_pay39 (k0_pay2 co) (k0_pay3 si) (k0_pay33 k0_pay4) (k0_pay34 k0_pay5) q k v r) g
    = headOut (Named.named κ "log_gamma_2" 0xBC0080AC#32) (k0_pay2 co) (k0_pay3 si) q k v g r := rfl

/-- Head 3's output. -/
theorem out_3 : k0_pay53 (k0_pay44 k0_pay5 (FloatOps.ofBits FTy.f32 0x3F800000#32)) (k0_pay47 (k0_pay2 co) (k0_pay3 si) q)
      (k0_pay50 (k0_pay2 co) (k0_pay3 si) (k0_pay43 k0_pay4) q k v) (k0_pay51 r) (constant S64x256 FTy.f32 0#32) g
    = headOut (Named.named κ "log_gamma_3" 0xBB80402B#32) (k0_pay2 co) (k0_pay3 si) q k v g r := rfl

end Cert.KernelIdeal.Retention

end
-- ==== Proof.Retention.Spec.lean ====
/-
  Chunked retention over the extended reals, one head at a time, in plain formulas.

  A chunk is 64 rows. Its queries, keys and values are 64 × 256, its state is 256 × 256. `lg` is the logarithm of the head's
  decay, `ds` the decay over a whole chunk.
-/
module

public import Idealize.ShloMosaic.Lib.Pipeline.ValueKit
public import Idealize.ShloMosaic.Lib.Pointwise

@[expose] public section

noncomputable section

namespace ChunkRet

open Idealize.ShloMosaic

/-- One row turned by the rotary angles whose cosines and sines are `c` and `s`. -/
def rot (c s : Fin 128 → EReal) (x : Fin 256 → EReal) (n : Fin 256) : EReal :=
  if h : n.val < 128 then
    x ⟨n.val, by omega⟩ * c ⟨n.val, h⟩ - x ⟨128 + n.val, by omega⟩ * s ⟨n.val, h⟩
  else
    x ⟨n.val - 128, by omega⟩ * s ⟨n.val - 128, by omega⟩ + x ⟨128 + (n.val - 128), by omega⟩ * c ⟨n.val - 128, by omega⟩

/-- The decay between two rows of a chunk: `exp (lg · (t − u))` for a key row not after the query row, nothing otherwise. -/
def mask (lg : EReal) (t u : Fin 64) : EReal :=
  if u.val ≤ t.val then Ideal.exp (lg * max (((t.val : ℝ) : EReal) - ((u.val : ℝ) : EReal)) 0) else 0

/-- The retention of a chunk's queries `q` over its own keys `k` and values `v`, and over the incoming state `r`. -/
def over (lg : EReal) (q k v : Fin 64 → Fin 256 → EReal) (r : Fin 256 → Fin 256 → EReal) (t : Fin 64) (w : Fin 256) : EReal :=
  ∑ u, (∑ n, q t n * k u n) * mask lg t u * v u w
    + Ideal.exp (lg * (((t.val : ℝ) : EReal) + 1)) * ∑ n, q t n * r n w

/-- The state a chunk leaves: the incoming state decayed, and each key's outer product with its value, decayed to the end. -/
def next (lg ds : EReal) (k v : Fin 64 → Fin 256 → EReal) (r : Fin 256 → Fin 256 → EReal) (n w : Fin 256) : EReal :=
  ds * r n w
    + ∑ u, k u n * Ideal.exp (lg * (Ideal.ofBits FTy.f32 0x427C0000#32 - ((u.val : ℝ) : EReal))) * v u w

/-- The mean of 256 values. -/
def mean (y : Fin 256 → EReal) : EReal := Ideal.div (∑ n, y n) (Ideal.ofBits FTy.f32 0x43800000#32)

/-- A row centred and divided by its standard deviation. -/
def normal (y : Fin 256 → EReal) (w : Fin 256) : EReal :=
  (y w - mean y) * Ideal.rsqrt (mean (fun n => (y n - mean y) * (y n - mean y)) + Ideal.ofBits FTy.f32 0x3727C5AC#32)

/-- The gate `g / (1 + exp (−g))`, as a product. -/
def silu (g : EReal) : EReal := g * Ideal.div 1 (1 + Ideal.exp (0 - g))

/-- Row `u` as a number. -/
theorem sitofp_row (u : Fin 64) :
    (FloatOps.sitofp FTy.f32 (BitVec.ofNat 32 u.val) : Ideal .f32) = ((u.val : ℝ) : EReal) := by
  have h : (BitVec.ofNat 32 u.val).toInt = (u.val : ℤ) := (by decide +kernel : ∀ u : Fin 64, (BitVec.ofNat 32 u.val).toInt = (u.val : ℤ)) u
  show (((BitVec.ofNat 32 u.val).toInt : ℝ) : EReal) = _
  rw [h]; norm_cast

/-- The difference of two rows as a number. -/
theorem sitofp_diff (t u : Fin 64) :
    (FloatOps.sitofp FTy.f32 (IntOp.subi (BitVec.ofNat 32 t.val) (BitVec.ofNat 32 u.val)) : Ideal .f32)
      = ((t.val : ℝ) : EReal) - ((u.val : ℝ) : EReal) := by
  have h : (IntOp.subi (BitVec.ofNat 32 t.val) (BitVec.ofNat 32 u.val)).toInt = (t.val : ℤ) - (u.val : ℤ) :=
    (by decide +kernel : ∀ t u : Fin 64,
      (IntOp.subi (BitVec.ofNat 32 t.val) (BitVec.ofNat 32 u.val)).toInt = (t.val : ℤ) - (u.val : ℤ)) t u
  show (((IntOp.subi (BitVec.ofNat 32 t.val) (BitVec.ofNat 32 u.val)).toInt : ℝ) : EReal) = _
  rw [h, ← EReal.coe_sub]; push_cast; rfl

/-- Their difference is not negative just when the second is not after the first. -/
theorem diff_nonneg (t u : Fin 64) : (0 : EReal) ≤ ((t.val : ℝ) : EReal) - ((u.val : ℝ) : EReal) ↔ u.val ≤ t.val := by
  rw [← EReal.coe_sub, ← EReal.coe_zero, EReal.coe_le_coe_iff, sub_nonneg]; exact Nat.cast_le

end ChunkRet

end
-- ==== Proof.Retention.HeadValue.lean ====
/-
  One head of one chunk, read index by index: the array text of `Head` is the plain formula of `Spec`.
-/
module

public import proofs.«01_k».proof.Proof.Retention.Head
public import proofs.«01_k».proof.Proof.Retention.Spec

@[expose] public section

set_option maxRecDepth 16384

noncomputable section

open Idealize.ShloMosaic Idealize.ShloMosaic.TcCoe Idealize.SL.Sem

namespace Cert.KernelIdeal.Retention

open Cert.KernelIdeal Cert.KernelIdeal.Gen ChunkRet

variable (co si : FVec Ideal S64x128 .f32) (q k v g : FVec Ideal S64x256 .f32) (r : FVec Ideal S1x1x256x256 .f32)
variable (lg ds : Ideal .f32)

/-- Row `t` of a 64 × 256 block, of a 64 × 128 block, and a state's entries. -/
abbrev row (x : FVec Ideal S64x256 .f32) (t : Fin 64) (n : Fin 256) : EReal := x (ix2 t n)
abbrev half (x : FVec Ideal S64x128 .f32) (t : Fin 64) (n : Fin 128) : EReal := x (ix2 t n)
abbrev plane (x : FVec Ideal S1x1x256x256 .f32) (n w : Fin 256) : EReal := x (ix4 (0 : Fin 1) (0 : Fin 1) n w)

/-- Rotating a block rotates each row. -/
theorem rotated_apply (x : FVec Ideal S64x256 .f32) (t : Fin 64) (n : Fin 256) :
    rotated co si x (ix2 t n) = rot (half co t) (half si t) (row x t) n := by
  pointwise [rotated]
  rfl

/-- The keys' rows, rotated and scaled. -/
theorem scaled_apply (x : FVec Ideal S64x256 .f32) (t : Fin 64) (n : Fin 256) :
    scaled co si x (ix2 t n)
      = rot (half co t) (half si t) (row x t) n * Ideal.ofBits FTy.f32 0x3D800000#32 := by
  rw [← rotated_apply]
  pointwise [scaled]

/-- The decay within a chunk is the mask. -/
theorem decayIn_apply (t u : Fin 64) : decayIn lg (ix2 t u) = mask lg t u := by
  pointwise [decayIn, k0_pay4]
  simp only [sitofp_diff, diff_nonneg]
  rfl

/-- The decay of the state at a row. -/
theorem decayQ_apply (t : Fin 64) :
    decayQ lg (ix2 t (0 : Fin 1)) = Ideal.exp (lg * (((t.val : ℝ) : EReal) + 1)) := by
  pointwise [decayQ, k0_pay5]
  rw [sitofp_row]

/-- The decay of a key at the end of the chunk. -/
theorem decayK_apply (t : Fin 64) :
    decayK lg (ix2 t (0 : Fin 1)) = Ideal.exp (lg * (Ideal.ofBits FTy.f32 0x427C0000#32 - ((t.val : ℝ) : EReal))) := by
  pointwise [decayK, k0_pay5]
  rw [sitofp_row]

/-- The decayed scores. -/
theorem scores_apply (t u : Fin 64) :
    scores lg co si q k (ix2 t u)
      = (∑ n, rot (half co t) (half si t) (row q t) n
          * (rot (half co u) (half si u) (row k u) n * Ideal.ofBits FTy.f32 0x3D800000#32)) * mask lg t u := by
  pointwise [scores]
  simp only [scaled_apply, rotated_apply, decayIn_apply]

/-- The retention of a chunk. -/
theorem retained_apply (t : Fin 64) (w : Fin 256) :
    retained lg co si q k v r (ix2 t w)
      = over lg (fun u => rot (half co u) (half si u) (row q u))
          (fun u n => rot (half co u) (half si u) (row k u) n * Ideal.ofBits FTy.f32 0x3D800000#32) (row v) (plane r) t w := by
  pointwise [retained]
  simp only [scores_apply, decayQ_apply, rotated_apply]
  rfl

/-- The state after a chunk. -/
theorem headState_apply (n w : Fin 256) :
    headState lg ds co si k v r (ix4 (0 : Fin 1) (0 : Fin 1) n w)
      = next lg ds (fun u n => rot (half co u) (half si u) (row k u) n * Ideal.ofBits FTy.f32 0x3D800000#32)
          (row v) (plane r) n w := by
  pointwise [headState]
  simp only [scaled_apply, decayK_apply]
  rfl

/-- The normalised rows. -/
theorem normed_apply (x : FVec Ideal S64x256 .f32) (t : Fin 64) (w : Fin 256) :
    normed x (ix2 t w) = normal (row x t) w := by
  pointwise [normed, centred, rowMean]
  rfl

/-- The gated rows. -/
theorem gatedBy_apply (x : FVec Ideal S64x256 .f32) (t : Fin 64) (w : Fin 256) :
    gatedBy g x (ix2 t w) = x (ix2 t w) * silu (g (ix2 t w)) := by
  pointwise [gatedBy, silu]

/-- What a chunk stores of one head. -/
theorem headOut_apply (t : Fin 64) (w : Fin 256) :
    headOut lg co si q k v g r (ix2 t w)
      = normal (over lg (fun u => rot (half co u) (half si u) (row q u))
          (fun u n => rot (half co u) (half si u) (row k u) n * Ideal.ofBits FTy.f32 0x3D800000#32)
          (row v) (plane r) t) w * silu (g (ix2 t w)) := by
  unfold headOut
  rw [gatedBy_apply, normed_apply]
  have e : row (retained lg co si q k v r) t = over lg (fun u => rot (half co u) (half si u) (row q u))
          (fun u n => rot (half co u) (half si u) (row k u) n * Ideal.ofBits FTy.f32 0x3D800000#32)
          (row v) (plane r) t := funext fun w => retained_apply co si q k v r lg t w
  rw [e]

end Cert.KernelIdeal.Retention

end
-- ==== Proof.Retention.Conditions.lean ====
/-
  At which grid points of the retention call a stream starts and ends, and the buffers a grid point works on.
-/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Claim

@[expose] public section

set_option maxRecDepth 16384

noncomputable section

namespace Cert.KernelIdeal.Retention

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The state block is written back after the last chunk of its stream: every 128th chunk of a prompt, every chunk of a sample stream. -/
theorem state_flush : ∀ t : Fin cfg0.N, (cfg0.win 8).flush t = true ↔ (t.val % 128 = 127 ∨ 512 ≤ t.val) :=
  (by decide +kernel : ∀ t : Fin grid0.N, win0_8.flush t = true ↔ (t.val % 128 = 127 ∨ 512 ≤ t.val))

/-! ## Where a stream starts -/

/-- The condition under which a chunk copies its stream's initial state, from the grid coordinates. -/
abbrev startsStream (i : grid0.Coords) : Prop := (Scalar.cmpi .ne (Scalar.extui (Scalar.cmpi .eq (Scalar.select (Scalar.cmpi .slt (BitVec.ofNat 32 (i 0).val) 512#32) (Scalar.select (Scalar.andi (Scalar.xori (Scalar.cmpi .slt (Scalar.remsi (BitVec.ofNat 32 (i 0).val) (Scalar.select (Scalar.cmpi .eq 128#32 0#32) 1#32 128#32)) 0#32) (Scalar.cmpi .slt (Scalar.select (Scalar.cmpi .eq 128#32 0#32) 1#32 128#32) 0#32)) (Scalar.cmpi .ne (Scalar.remsi (BitVec.ofNat 32 (i 0).val) (Scalar.select (Scalar.cmpi .eq 128#32 0#32) 1#32 128#32)) 0#32)) (Scalar.addi (Scalar.remsi (BitVec.ofNat 32 (i 0).val) (Scalar.select (Scalar.cmpi .eq 128#32 0#32) 1#32 128#32)) (Scalar.select (Scalar.cmpi .eq 128#32 0#32) 1#32 128#32)) (Scalar.remsi (BitVec.ofNat 32 (i 0).val) (Scalar.select (Scalar.cmpi .eq 128#32 0#32) 1#32 128#32))) (Scalar.select (Scalar.andi (Scalar.xori (Scalar.cmpi .slt (Scalar.remsi (Scalar.subi (BitVec.ofNat 32 (i 0).val) 512#32) (Scalar.select (Scalar.cmpi .eq 1#32 0#32) 1#32 1#32)) 0#32) (Scalar.cmpi .slt (Scalar.select (Scalar.cmpi .eq 1#32 0#32) 1#32 1#32) 0#32)) (Scalar.cmpi .ne (Scalar.remsi (Scalar.subi (BitVec.ofNat 32 (i 0).val) 512#32) (Scalar.select (Scalar.cmpi .eq 1#32 0#32) 1#32 1#32)) 0#32)) (Scalar.addi (Scalar.remsi (Scalar.subi (BitVec.ofNat 32 (i 0).val) 512#32) (Scalar.select (Scalar.cmpi .eq 1#32 0#32) 1#32 1#32)) (Scalar.select (Scalar.cmpi .eq 1#32 0#32) 1#32 1#32)) (Scalar.remsi (Scalar.subi (BitVec.ofNat 32 (i 0).val) 512#32) (Scalar.select (Scalar.cmpi .eq 1#32 0#32) 1#32 1#32)))) 0#32)) 0#32) = 1#1
/-- It holds at the first chunk of each stream. -/
theorem startsStream_iff : ∀ t : Fin cfg0.N, startsStream (grid0.coords t) ↔ (t.val % 128 = 0 ∨ 512 ≤ t.val) :=
  (by decide +kernel : ∀ t : Fin grid0.N, startsStream (grid0.coords t) ↔ (t.val % 128 = 0 ∨ 512 ≤ t.val))

/-! ## The buffers -/

/-- A staging buffer of the result rows, and of the state, through which their contents are stated. -/
abbrev rowsView : View sig .tc .vmem S64x1024 .bf16 := (Memref.whole cc0_stg7_0 : Memref sig .tc .vmem S64x1024 .bf16).view
abbrev stateView : View sig .tc .vmem S1x4x256x256 .f32 := (Memref.whole cc0_stg8_0 : Memref sig .tc .vmem S1x4x256x256 .f32).view
/-- The staging buffers each grid point works on, window by window. -/
abbrev ms0_0 (t : Fin cfg0.N) : Memref sig .tc .vmem S64x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x4x256x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S64x1024 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x4x256x256 .f32 := win0_8.stage (cfg0.slots t 8)
abbrev hs0_8 (t : Fin cfg0.N) : (ms0_8 t).IsWhole := hstage0_8 ((cfg0.slots t 8).cast nbuf0_8)

end Cert.KernelIdeal.Retention

end
-- ==== Proof.Retention.RunFirst.lean ====
/-
  The body of the retention call at the first chunk of a stream.
-/
module

public import proofs.«01_k».proof.Proof.Retention.Conditions

@[expose] public section

set_option maxRecDepth 16384

noncomputable section

namespace Cert.KernelIdeal.Retention

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What a chunk that starts a stream stores in its two output buffers, found by running the body. -/
noncomputable def stores_first (c : Dev nD) (i : grid0.Coords) (arg1 : Memref sig .tc .vmem S64x1024 .f32) (harg1 : arg1.IsWhole) (arg2 : Memref sig .tc .vmem S64x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S64x128 .f32) (harg5 : arg5.IsWhole) (arg6 : Memref sig .tc .vmem S64x128 .f32) (harg6 : arg6.IsWhole) (arg7 : Memref sig .tc .vmem S1x4x256x256 .f32) (harg7 : arg7.IsWhole) (arg8 : Memref sig .tc .vmem S64x1024 .bf16) (harg8 : arg8.IsWhole) (arg9 : Memref sig .tc .vmem S1x4x256x256 .f32) (harg9 : arg9.IsWhole) (hc0 : startsStream i)
    (x0 : Vec F S64x1024 .f32) (x1 : Vec F S64x1024 .f32) (x2 : Vec F S64x1024 .f32) (x3 : Vec F S64x1024 .f32) (x4 : Vec F S64x128 .f32) (x5 : Vec F S64x128 .f32) (x6 : Vec F S1x4x256x256 .f32) :
    Σ' (L7 : List (View.Piece (Elt F) S64x1024 .bf16)), { L8 : List (View.Piece (Elt F) S1x4x256x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)) -∗ K ⟨⟩))
          ⊢ wp frame (wpE (defs₀ (F := F)) Variants.none c none) E (cc0_retention i arg1 harg1 arg2 harg2 arg3 harg3 arg4 harg4 arg5 harg5 arg6 harg6 arg7 harg7 arg8 harg8 arg9 harg9) K } := by
  refine ⟨?_, ?_, fun E K => ?run⟩
  case run =>
    simp only [cc0_retention_eq_skeleton]; unfold cc0_retention_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    iexists _; iexact H8

end Cert.KernelIdeal.Retention

end
-- ==== Proof.Retention.RunNext.lean ====
/-
  The body of the retention call at a chunk that goes on from the chunk before.
-/
module

public import proofs.«01_k».proof.Proof.Retention.RunFirst

@[expose] public section

set_option maxRecDepth 16384

noncomputable section

namespace Cert.KernelIdeal.Retention

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What a chunk that goes on from the chunk before stores in its two output buffers, found by running the body. -/
noncomputable def stores_next (c : Dev nD) (i : grid0.Coords) (arg1 : Memref sig .tc .vmem S64x1024 .f32) (harg1 : arg1.IsWhole) (arg2 : Memref sig .tc .vmem S64x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S64x128 .f32) (harg5 : arg5.IsWhole) (arg6 : Memref sig .tc .vmem S64x128 .f32) (harg6 : arg6.IsWhole) (arg7 : Memref sig .tc .vmem S1x4x256x256 .f32) (harg7 : arg7.IsWhole) (arg8 : Memref sig .tc .vmem S64x1024 .bf16) (harg8 : arg8.IsWhole) (arg9 : Memref sig .tc .vmem S1x4x256x256 .f32) (harg9 : arg9.IsWhole) (hc0 : ¬startsStream i)
    (x0 : Vec F S64x1024 .f32) (x1 : Vec F S64x1024 .f32) (x2 : Vec F S64x1024 .f32) (x3 : Vec F S64x1024 .f32) (x4 : Vec F S64x128 .f32) (x5 : Vec F S64x128 .f32) (x6 : Vec F S1x4x256x256 .f32) (xo8 : Vec F S1x4x256x256 .f32) :
    Σ' (L7 : List (View.Piece (Elt F) S64x1024 .bf16)), { L8 : List (View.Piece (Elt F) S1x4x256x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xo8
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)) -∗ K ⟨⟩))
          ⊢ wp frame (wpE (defs₀ (F := F)) Variants.none c none) E (cc0_retention i arg1 harg1 arg2 harg2 arg3 harg3 arg4 harg4 arg5 harg5 arg6 harg6 arg7 harg7 arg8 harg8 arg9 harg9) K } := by
  refine ⟨?_, ?_, fun E K => ?run⟩
  case run =>
    simp only [cc0_retention_eq_skeleton]; unfold cc0_retention_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    iexists _; iexact H8

end Cert.KernelIdeal.Retention

end
-- ==== Proof.Retention.Frame.lean ====
/-
  The retention call runs: its arguments end unchanged, and its results are what the chunks leave one after another.
-/
module

public import proofs.«01_k».proof.Proof.Retention.RunNext

@[expose] public section

set_option maxRecDepth 16384

noncomputable section

namespace Cert.KernelIdeal.Retention

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The stores of a stream's first chunk fill its block of result rows. -/
theorem rows_cover_first (c : Dev nD) (i : grid0.Coords) (arg1 : Memref sig .tc .vmem S64x1024 .f32) (harg1 : arg1.IsWhole) (arg2 : Memref sig .tc .vmem S64x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S64x128 .f32) (harg5 : arg5.IsWhole) (arg6 : Memref sig .tc .vmem S64x128 .f32) (harg6 : arg6.IsWhole) (arg7 : Memref sig .tc .vmem S1x4x256x256 .f32) (harg7 : arg7.IsWhole) (arg8 : Memref sig .tc .vmem S64x1024 .bf16) (harg8 : arg8.IsWhole) (arg9 : Memref sig .tc .vmem S1x4x256x256 .f32) (harg9 : arg9.IsWhole) (hc0 : startsStream i)
    (x0 : Vec F S64x1024 .f32) (x1 : Vec F S64x1024 .f32) (x2 : Vec F S64x1024 .f32) (x3 : Vec F S64x1024 .f32) (x4 : Vec F S64x128 .f32) (x5 : Vec F S64x128 .f32) (x6 : Vec F S1x4x256x256 .f32) (y : S64x1024.Idx) :
    ∃ pc ∈ (stores_first c i arg1 harg1 arg2 harg2 arg3 harg3 arg4 harg4 arg5 harg5 arg6 harg6 arg7 harg7 arg8 harg8 arg9 harg9 hc0 x0 x1 x2 x3 x4 x5 x6).1, y ∈ pc.1.set :=
  View.cover_of_tiledL (stores_first c i arg1 harg1 arg2 harg2 arg3 harg3 arg4 harg4 arg5 harg5 arg6 harg6 arg7 harg7 arg8 harg8 arg9 harg9 hc0 x0 x1 x2 x3 x4 x5 x6).1 S64x256.size (by sl_kernel_rfl) y

/-- The block of result rows they leave. -/
def rows_first (c : Dev nD) (i : grid0.Coords) (arg1 : Memref sig .tc .vmem S64x1024 .f32) (harg1 : arg1.IsWhole) (arg2 : Memref sig .tc .vmem S64x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S64x128 .f32) (harg5 : arg5.IsWhole) (arg6 : Memref sig .tc .vmem S64x128 .f32) (harg6 : arg6.IsWhole) (arg7 : Memref sig .tc .vmem S1x4x256x256 .f32) (harg7 : arg7.IsWhole) (arg8 : Memref sig .tc .vmem S64x1024 .bf16) (harg8 : arg8.IsWhole) (arg9 : Memref sig .tc .vmem S1x4x256x256 .f32) (harg9 : arg9.IsWhole) (hc0 : startsStream i)
    (x0 : Vec F S64x1024 .f32) (x1 : Vec F S64x1024 .f32) (x2 : Vec F S64x1024 .f32) (x3 : Vec F S64x1024 .f32) (x4 : Vec F S64x128 .f32) (x5 : Vec F S64x128 .f32) (x6 : Vec F S1x4x256x256 .f32) : Vec F S64x1024 .bf16 :=
  rowsView.read (Elt F) (rowsView.writes (Elt F) rowsView.junk (stores_first c i arg1 harg1 arg2 harg2 arg3 harg3 arg4 harg4 arg5 harg5 arg6 harg6 arg7 harg7 arg8 harg8 arg9 harg9 hc0 x0 x1 x2 x3 x4 x5 x6).1)

/-- They fill its state block too: the copy of the initial state and the four heads' planes. -/
theorem state_cover_first (c : Dev nD) (i : grid0.Coords) (arg1 : Memref sig .tc .vmem S64x1024 .f32) (harg1 : arg1.IsWhole) (arg2 : Memref sig .tc .vmem S64x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S64x128 .f32) (harg5 : arg5.IsWhole) (arg6 : Memref sig .tc .vmem S64x128 .f32) (harg6 : arg6.IsWhole) (arg7 : Memref sig .tc .vmem S1x4x256x256 .f32) (harg7 : arg7.IsWhole) (arg8 : Memref sig .tc .vmem S64x1024 .bf16) (harg8 : arg8.IsWhole) (arg9 : Memref sig .tc .vmem S1x4x256x256 .f32) (harg9 : arg9.IsWhole) (hc0 : startsStream i)
    (x0 : Vec F S64x1024 .f32) (x1 : Vec F S64x1024 .f32) (x2 : Vec F S64x1024 .f32) (x3 : Vec F S64x1024 .f32) (x4 : Vec F S64x128 .f32) (x5 : Vec F S64x128 .f32) (x6 : Vec F S1x4x256x256 .f32) (y : S1x4x256x256.Idx) :
    ∃ pc ∈ (stores_first c i arg1 harg1 arg2 harg2 arg3 harg3 arg4 harg4 arg5 harg5 arg6 harg6 arg7 harg7 arg8 harg8 arg9 harg9 hc0 x0 x1 x2 x3 x4 x5 x6).2.1, y ∈ pc.1.set :=
  View.cover_of_tiledBy (stores_first c i arg1 harg1 arg2 harg2 arg3 harg3 arg4 harg4 arg5 harg5 arg6 harg6 arg7 harg7 arg8 harg8 arg9 harg9 hc0 x0 x1 x2 x3 x4 x5 x6).2.1 ![1, 1, 256, 256] (by sl_kernel_rfl) y

/-- The state block they leave. -/
def state_first (c : Dev nD) (i : grid0.Coords) (arg1 : Memref sig .tc .vmem S64x1024 .f32) (harg1 : arg1.IsWhole) (arg2 : Memref sig .tc .vmem S64x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S64x128 .f32) (harg5 : arg5.IsWhole) (arg6 : Memref sig .tc .vmem S64x128 .f32) (harg6 : arg6.IsWhole) (arg7 : Memref sig .tc .vmem S1x4x256x256 .f32) (harg7 : arg7.IsWhole) (arg8 : Memref sig .tc .vmem S64x1024 .bf16) (harg8 : arg8.IsWhole) (arg9 : Memref sig .tc .vmem S1x4x256x256 .f32) (harg9 : arg9.IsWhole) (hc0 : startsStream i)
    (x0 : Vec F S64x1024 .f32) (x1 : Vec F S64x1024 .f32) (x2 : Vec F S64x1024 .f32) (x3 : Vec F S64x1024 .f32) (x4 : Vec F S64x128 .f32) (x5 : Vec F S64x128 .f32) (x6 : Vec F S1x4x256x256 .f32) : Vec F S1x4x256x256 .f32 :=
  stateView.read (Elt F) (stateView.writes (Elt F) stateView.junk (stores_first c i arg1 harg1 arg2 harg2 arg3 harg3 arg4 harg4 arg5 harg5 arg6 harg6 arg7 harg7 arg8 harg8 arg9 harg9 hc0 x0 x1 x2 x3 x4 x5 x6).2.1)

/-- The stores of a later chunk fill its block of result rows. -/
theorem rows_cover_next (c : Dev nD) (i : grid0.Coords) (arg1 : Memref sig .tc .vmem S64x1024 .f32) (harg1 : arg1.IsWhole) (arg2 : Memref sig .tc .vmem S64x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S64x128 .f32) (harg5 : arg5.IsWhole) (arg6 : Memref sig .tc .vmem S64x128 .f32) (harg6 : arg6.IsWhole) (arg7 : Memref sig .tc .vmem S1x4x256x256 .f32) (harg7 : arg7.IsWhole) (arg8 : Memref sig .tc .vmem S64x1024 .bf16) (harg8 : arg8.IsWhole) (arg9 : Memref sig .tc .vmem S1x4x256x256 .f32) (harg9 : arg9.IsWhole) (hc0 : ¬startsStream i)
    (x0 : Vec F S64x1024 .f32) (x1 : Vec F S64x1024 .f32) (x2 : Vec F S64x1024 .f32) (x3 : Vec F S64x1024 .f32) (x4 : Vec F S64x128 .f32) (x5 : Vec F S64x128 .f32) (x6 : Vec F S1x4x256x256 .f32) (xo8 : Vec F S1x4x256x256 .f32) (y : S64x1024.Idx) :
    ∃ pc ∈ (stores_next c i arg1 harg1 arg2 harg2 arg3 harg3 arg4 harg4 arg5 harg5 arg6 harg6 arg7 harg7 arg8 harg8 arg9 harg9 hc0 x0 x1 x2 x3 x4 x5 x6 xo8).1, y ∈ pc.1.set :=
  View.cover_of_tiledL (stores_next c i arg1 harg1 arg2 harg2 arg3 harg3 arg4 harg4 arg5 harg5 arg6 harg6 arg7 harg7 arg8 harg8 arg9 harg9 hc0 x0 x1 x2 x3 x4 x5 x6 xo8).1 S64x256.size (by sl_kernel_rfl) y

/-- The block of result rows they leave. -/
def rows_next (c : Dev nD) (i : grid0.Coords) (arg1 : Memref sig .tc .vmem S64x1024 .f32) (harg1 : arg1.IsWhole) (arg2 : Memref sig .tc .vmem S64x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S64x128 .f32) (harg5 : arg5.IsWhole) (arg6 : Memref sig .tc .vmem S64x128 .f32) (harg6 : arg6.IsWhole) (arg7 : Memref sig .tc .vmem S1x4x256x256 .f32) (harg7 : arg7.IsWhole) (arg8 : Memref sig .tc .vmem S64x1024 .bf16) (harg8 : arg8.IsWhole) (arg9 : Memref sig .tc .vmem S1x4x256x256 .f32) (harg9 : arg9.IsWhole) (hc0 : ¬startsStream i)
    (x0 : Vec F S64x1024 .f32) (x1 : Vec F S64x1024 .f32) (x2 : Vec F S64x1024 .f32) (x3 : Vec F S64x1024 .f32) (x4 : Vec F S64x128 .f32) (x5 : Vec F S64x128 .f32) (x6 : Vec F S1x4x256x256 .f32) (xo8 : Vec F S1x4x256x256 .f32) : Vec F S64x1024 .bf16 :=
  rowsView.read (Elt F) (rowsView.writes (Elt F) rowsView.junk (stores_next c i arg1 harg1 arg2 harg2 arg3 harg3 arg4 harg4 arg5 harg5 arg6 harg6 arg7 harg7 arg8 harg8 arg9 harg9 hc0 x0 x1 x2 x3 x4 x5 x6 xo8).1)

/-- They fill its state block: the four heads' planes. -/
theorem state_cover_next (c : Dev nD) (i : grid0.Coords) (arg1 : Memref sig .tc .vmem S64x1024 .f32) (harg1 : arg1.IsWhole) (arg2 : Memref sig .tc .vmem S64x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S64x128 .f32) (harg5 : arg5.IsWhole) (arg6 : Memref sig .tc .vmem S64x128 .f32) (harg6 : arg6.IsWhole) (arg7 : Memref sig .tc .vmem S1x4x256x256 .f32) (harg7 : arg7.IsWhole) (arg8 : Memref sig .tc .vmem S64x1024 .bf16) (harg8 : arg8.IsWhole) (arg9 : Memref sig .tc .vmem S1x4x256x256 .f32) (harg9 : arg9.IsWhole) (hc0 : ¬startsStream i)
    (x0 : Vec F S64x1024 .f32) (x1 : Vec F S64x1024 .f32) (x2 : Vec F S64x1024 .f32) (x3 : Vec F S64x1024 .f32) (x4 : Vec F S64x128 .f32) (x5 : Vec F S64x128 .f32) (x6 : Vec F S1x4x256x256 .f32) (xo8 : Vec F S1x4x256x256 .f32) (y : S1x4x256x256.Idx) :
    ∃ pc ∈ (stores_next c i arg1 harg1 arg2 harg2 arg3 harg3 arg4 harg4 arg5 harg5 arg6 harg6 arg7 harg7 arg8 harg8 arg9 harg9 hc0 x0 x1 x2 x3 x4 x5 x6 xo8).2.1, y ∈ pc.1.set :=
  View.cover_of_tiledL (stores_next c i arg1 harg1 arg2 harg2 arg3 harg3 arg4 harg4 arg5 harg5 arg6 harg6 arg7 harg7 arg8 harg8 arg9 harg9 hc0 x0 x1 x2 x3 x4 x5 x6 xo8).2.1 S1x1x256x256.size (by sl_kernel_rfl) y

/-- The state block they leave. -/
def state_next (c : Dev nD) (i : grid0.Coords) (arg1 : Memref sig .tc .vmem S64x1024 .f32) (harg1 : arg1.IsWhole) (arg2 : Memref sig .tc .vmem S64x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S64x128 .f32) (harg5 : arg5.IsWhole) (arg6 : Memref sig .tc .vmem S64x128 .f32) (harg6 : arg6.IsWhole) (arg7 : Memref sig .tc .vmem S1x4x256x256 .f32) (harg7 : arg7.IsWhole) (arg8 : Memref sig .tc .vmem S64x1024 .bf16) (harg8 : arg8.IsWhole) (arg9 : Memref sig .tc .vmem S1x4x256x256 .f32) (harg9 : arg9.IsWhole) (hc0 : ¬startsStream i)
    (x0 : Vec F S64x1024 .f32) (x1 : Vec F S64x1024 .f32) (x2 : Vec F S64x1024 .f32) (x3 : Vec F S64x1024 .f32) (x4 : Vec F S64x128 .f32) (x5 : Vec F S64x128 .f32) (x6 : Vec F S1x4x256x256 .f32) (xo8 : Vec F S1x4x256x256 .f32) : Vec F S1x4x256x256 .f32 :=
  stateView.read (Elt F) (stateView.writes (Elt F) stateView.junk (stores_next c i arg1 harg1 arg2 harg2 arg3 harg3 arg4 harg4 arg5 harg5 arg6 harg6 arg7 harg7 arg8 harg8 arg9 harg9 hc0 x0 x1 x2 x3 x4 x5 x6 xo8).2.1)

/-! ## What the outputs hold after each point -/

/-- What the two output buffers hold after grid point `n`, from the first point on. -/
def outsAt (c : Dev nD) : (n : ℕ) → n < cfg0.N → Vec F S64x1024 .bf16 × Vec F S1x4x256x256 .f32
  | 0, hn => (rows_first c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((startsStream_iff ⟨0, hn⟩).mpr (by (try dsimp only); omega)) (X0_0 m c ⟨0, hn⟩) (X0_1 m c ⟨0, hn⟩) (X0_2 m c ⟨0, hn⟩) (X0_3 m c ⟨0, hn⟩) (iblk m c 4 ⟨0, hn⟩) (iblk m c 5 ⟨0, hn⟩) (iblk m c 6 ⟨0, hn⟩), state_first c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((startsStream_iff ⟨0, hn⟩).mpr (by (try dsimp only); omega)) (X0_0 m c ⟨0, hn⟩) (X0_1 m c ⟨0, hn⟩) (X0_2 m c ⟨0, hn⟩) (X0_3 m c ⟨0, hn⟩) (iblk m c 4 ⟨0, hn⟩) (iblk m c 5 ⟨0, hn⟩) (iblk m c 6 ⟨0, hn⟩))
  | n + 1, hn =>
    if h0 : ((n + 1) % 128 = 0 ∨ 512 ≤ n + 1) then
      (rows_first c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) ((startsStream_iff ⟨n + 1, hn⟩).mpr h0) (X0_0 m c ⟨n + 1, hn⟩) (X0_1 m c ⟨n + 1, hn⟩) (X0_2 m c ⟨n + 1, hn⟩) (X0_3 m c ⟨n + 1, hn⟩) (iblk m c 4 ⟨n + 1, hn⟩) (iblk m c 5 ⟨n + 1, hn⟩) (iblk m c 6 ⟨n + 1, hn⟩), state_first c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) ((startsStream_iff ⟨n + 1, hn⟩).mpr h0) (X0_0 m c ⟨n + 1, hn⟩) (X0_1 m c ⟨n + 1, hn⟩) (X0_2 m c ⟨n + 1, hn⟩) (X0_3 m c ⟨n + 1, hn⟩) (iblk m c 4 ⟨n + 1, hn⟩) (iblk m c 5 ⟨n + 1, hn⟩) (iblk m c 6 ⟨n + 1, hn⟩))
    else
      (rows_next c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((startsStream_iff ⟨n + 1, hn⟩).mp h)) (X0_0 m c ⟨n + 1, hn⟩) (X0_1 m c ⟨n + 1, hn⟩) (X0_2 m c ⟨n + 1, hn⟩) (X0_3 m c ⟨n + 1, hn⟩) (iblk m c 4 ⟨n + 1, hn⟩) (iblk m c 5 ⟨n + 1, hn⟩) (iblk m c 6 ⟨n + 1, hn⟩) (outsAt c n (Nat.lt_of_succ_lt hn)).2, state_next c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((startsStream_iff ⟨n + 1, hn⟩).mp h)) (X0_0 m c ⟨n + 1, hn⟩) (X0_1 m c ⟨n + 1, hn⟩) (X0_2 m c ⟨n + 1, hn⟩) (X0_3 m c ⟨n + 1, hn⟩) (iblk m c 4 ⟨n + 1, hn⟩) (iblk m c 5 ⟨n + 1, hn⟩) (iblk m c 6 ⟨n + 1, hn⟩) (outsAt c n (Nat.lt_of_succ_lt hn)).2)

/-- After a point that starts a stream. -/
theorem outsAt_first (c : Dev nD) (t : Fin cfg0.N) (h0 : (t.val % 128 = 0 ∨ 512 ≤ t.val)) :
    outsAt m c t.val t.isLt = (rows_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((startsStream_iff t).mpr h0) (X0_0 m c t) (X0_1 m c t) (X0_2 m c t) (X0_3 m c t) (iblk m c 4 t) (iblk m c 5 t) (iblk m c 6 t), state_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((startsStream_iff t).mpr h0) (X0_0 m c t) (X0_1 m c t) (X0_2 m c t) (X0_3 m c t) (iblk m c 4 t) (iblk m c 5 t) (iblk m c 6 t)) := by
  obtain ⟨n, hn⟩ := t
  cases n with
  | zero => exact rfl
  | succ n => exact (dif_pos h0).trans rfl

/-- After any other point, over the state the point before left. -/
theorem outsAt_next (c : Dev nD) (t : Fin cfg0.N) (h0 : ¬(t.val % 128 = 0 ∨ 512 ≤ t.val)) :
    outsAt m c t.val t.isLt = (rows_next c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((startsStream_iff t).mp h)) (X0_0 m c t) (X0_1 m c t) (X0_2 m c t) (X0_3 m c t) (iblk m c 4 t) (iblk m c 5 t) (iblk m c 6 t) (outsAt m c (t.val - 1) (Nat.lt_of_le_of_lt (Nat.sub_le _ _) t.isLt)).2, state_next c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((startsStream_iff t).mp h)) (X0_0 m c t) (X0_1 m c t) (X0_2 m c t) (X0_3 m c t) (iblk m c 4 t) (iblk m c 5 t) (iblk m c 6 t) (outsAt m c (t.val - 1) (Nat.lt_of_le_of_lt (Nat.sub_le _ _) t.isLt)).2) := by
  obtain ⟨n, hn⟩ := t
  cases n with
  | zero => exact (by exfalso; (try dsimp only at h0); exact by omega)
  | succ n => exact (dif_neg h0).trans rfl

/-! ## The pipeline -/

/-- The pipeline's arrays, and what each buffer holds after each point: an input its block, an output what `outsAt` says. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => X0_2 m c t
    | ⟨3, _⟩ => X0_3 m c t
    | ⟨4, _⟩ => iblk m c 4 t
    | ⟨5, _⟩ => iblk m c 5 t
    | ⟨6, _⟩ => iblk m c 6 t
    | ⟨7, _⟩ => (outsAt m c t.val t.isLt).1
    | ⟨8, _⟩ => (outsAt m c t.val t.isLt).2
  Φ _ := Pipeline.ΦA spec0 c
  q w := Pipeline.shareOf spec0 w
  owed _ := 0

/-- The arrays are those the launch finds. -/
theorem A_eq (c : Dev nD) (w : Fin cfg0.W) : (dats m 0 c).A w = V m c (Pipeline.arrRef spec0 w) := by
  dsimp only [dats]

/-- What each buffer holds after a point. -/
theorem after0_0 (c : Dev nD) (t : Fin cfg0.N) : (dats m 0 c).after 0 t = X0_0 m c t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = X0_3 m c t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt m c t.val t.isLt).1 := by dsimp only [dats]
theorem after0_8 (c : Dev nD) (t : Fin cfg0.N) : (dats m 0 c).after 8 t = (outsAt m c t.val t.isLt).2 := by dsimp only [dats]

/-- Each input buffer holds its block before a point. -/
theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = X0_3 m c t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
/-- Where a stream goes on, the state buffer holds what the point before left. -/
theorem before0_8_next (c : Dev nD) (t : Fin cfg0.N) (h0 : ¬(t.val % 128 = 0 ∨ 512 ≤ t.val)) (d) :
    (dats m 0 c).before 8 t d = (outsAt m c (t.val - 1) (Nat.lt_of_le_of_lt (Nat.sub_le _ _) t.isLt)).2 := by
  have hN : t.val < 528 := lt_of_lt_of_eq t.isLt (show cfg0.N = 528 from N_0)
  rw [Dat.before_out_kept _ 8 rfl t (by omega) (Bool.eq_false_iff.mpr fun h => by have := (state_flush _).mp h; dsimp only at this; omega)
    (fun _ => rfl) (fun _ _ => rfl)]
  dsimp only [dats]

/-! ## The body at a point -/

/-- What the body is given at a point, window by window. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- What it leaves. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 1600000 in
/-- The body at any point: from what it is given to what it leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  have hN : t.val < 528 := lt_of_lt_of_eq t.isLt (show cfg0.N = 528 from N_0)
  by_cases h0 : (t.val % 128 = 0 ∨ 512 ≤ t.val)
  · rw [outsAt_first m c t h0]
    unfold rows_first state_first; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((stores_first c (grid0.coords t) _ _ _ _ _ _ _ _ _ _ _ _ _ _ _ _ _ _ ((startsStream_iff t).mpr h0) (X0_0 m c t) (X0_1 m c t) (X0_2 m c t) (X0_3 m c t) (iblk m c 4 t) (iblk m c 5 t) (iblk m c 6 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    iintro ⟨H0, H1, H2, H3, H4, H5, H6, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (rows_cover_first c _ _ _ _ _ _ _ _ _ _ _ _ _ _ _ _ _ _ _ _ _ _ _ _ _ _ _)
    unfold owns; iexists _; isplitr
    swap; · iexact H8
    ipureintro; exact View.read_writes_of_cover _ _ _ _ _ (state_cover_first c _ _ _ _ _ _ _ _ _ _ _ _ _ _ _ _ _ _ _ _ _ _ _ _ _ _ _)
  · rw [outsAt_next m c t h0]
    simp only [before0_8_next m c t h0]
    unfold rows_next state_next; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((stores_next c (grid0.coords t) _ _ _ _ _ _ _ _ _ _ _ _ _ _ _ _ _ _ (fun h => h0 ((startsStream_iff t).mp h)) (X0_0 m c t) (X0_1 m c t) (X0_2 m c t) (X0_3 m c t) (iblk m c 4 t) (iblk m c 5 t) (iblk m c 6 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    iintro ⟨H0, H1, H2, H3, H4, H5, H6, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (rows_cover_next c _ _ _ _ _ _ _ _ _ _ _ _ _ _ _ _ _ _ _ _ _ _ _ _ _ _ _ _)
    unfold owns; iexists _; isplitr
    swap; · iexact H8
    ipureintro; exact View.read_writes_of_cover _ _ _ _ _ (state_cover_next c _ _ _ _ _ _ _ _ _ _ _ _ _ _ _ _ _ _ _ _ _ _ _ _ _ _ _ _)

/-- The body the launch calls at a point is the kernel's on that point's buffers. -/
theorem defs₀_row (t : Fin cfg0.N) :
    defs₀ (F := F) .tc cfg0.body (cfg0.bodyArgs t (cfg0.slots t)) = bodyAt0 t := by
  unfold defs₀; rw [Defs.onTc_tc]

/-- So the body meets what the launch asks of it, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- Every run ends with the arrays the pipeline computes and every semaphore back at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- Every run ends with the arrays the pipeline computes. -/
theorem run_main : θ_run defs (onTc (τ := τ) (main (F := F))) (s₀ m ρ) (Pipeline.FramePost cfgs (dats m) 0 (V m)) :=
  (θ_run defs _ _).mono (fun _ h => h.1) (run_main_quiescent m ρ)

/-- Every run ends with the arguments unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- Every run ends with the arguments unchanged and every semaphore back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.KernelIdeal.Retention

end
-- ==== Proof.Retention.Block.lean ====
/-
  What one grid point of the retention call leaves in its output block and in its state block, head by head.
-/
module

public import proofs.«01_k».proof.Proof.Retention.HeadValue
public import proofs.«01_k».proof.Proof.Retention.Frame

@[expose] public section

set_option maxRecDepth 16384

noncomputable section

open Idealize.ShloMosaic Idealize.ShloMosaic.TcCoe Idealize.SL.Sem
open Idealize.ShloMosaic.Pipeline (Dat)

namespace Cert.KernelIdeal.Retention

open Cert.KernelIdeal Cert.KernelIdeal.Gen ChunkRet

/-- The logarithm of each head's decay, as the kernel names it. -/
def lgK (h : Fin 4) : EReal :=
  (![Named.named κ "log_gamma_0" 0xBD020AEC#32, Named.named κ "log_gamma_1" 0xBC8102B3#32,
    Named.named κ "log_gamma_2" 0xBC0080AC#32, Named.named κ "log_gamma_3" 0xBB80402B#32] : Fin 4 → Ideal .f32) h

/-- Each head's decay over a chunk, as the kernel names it. -/
def dsK (h : Fin 4) : EReal :=
  (![Named.named κ "decay_state_0" 0x3E063AE5#32, Named.named κ "decay_state_1" 0x3EBADF84#32,
    Named.named κ "decay_state_2" 0x3F1AF7A1#32, Named.named κ "decay_state_3" 0x3F474682#32] : Fin 4 → Ideal .f32) h

/-- Column `n` of head `h` in a block of 1024 columns. -/
def col (h : Fin 4) (n : Fin 256) : Fin 1024 := ⟨256 * h.val + n.val, by omega⟩

/-- The rotated queries (or keys) of head `h` in a block. -/
def turned (x4 x5 : FVec Ideal S64x128 .f32) (x : FVec Ideal S64x1024 .f32) (h : Fin 4) (u : Fin 64) (n : Fin 256) : EReal :=
  rot (half x4 u) (half x5 u) (fun n => x (ix2 u (col h n))) n

/-- The keys of head `h`, rotated and scaled. -/
def keys (x4 x5 : FVec Ideal S64x128 .f32) (x : FVec Ideal S64x1024 .f32) (h : Fin 4) (u : Fin 64) (n : Fin 256) : EReal :=
  turned x4 x5 x h u n * Ideal.ofBits FTy.f32 0x3D800000#32

/-- What a point stores of head `h`. -/
def blockOut (x0 x1 x2 x3 : FVec Ideal S64x1024 .f32) (x4 x5 : FVec Ideal S64x128 .f32) (r : FVec Ideal S1x4x256x256 .f32)
    (h : Fin 4) (t : Fin 64) (w : Fin 256) : EReal :=
  normal (over (lgK h) (turned x4 x5 x0 h) (keys x4 x5 x1 h) (fun u n => x2 (ix2 u (col h n)))
    (fun n w => r (ix4 (0 : Fin 1) h n w)) t) w * silu (x3 (ix2 t (col h w)))

/-- The state a point leaves in head `h`. -/
def blockState (x1 x2 : FVec Ideal S64x1024 .f32) (x4 x5 : FVec Ideal S64x128 .f32) (r : FVec Ideal S1x4x256x256 .f32)
    (h : Fin 4) (n w : Fin 256) : EReal :=
  next (lgK h) (dsK h) (keys x4 x5 x1 h) (fun u n => x2 (ix2 u (col h n))) (fun n w => r (ix4 (0 : Fin 1) h n w)) n w

/-- The table's block is read as it is. -/
theorem table_co (x : FVec Ideal S64x128 .f32) : k0_pay2 x = x := by
  funext i; idx_vars i; pointwise [k0_pay2]
theorem table_si (x : FVec Ideal S64x128 .f32) : k0_pay3 x = x := by
  funext i; idx_vars i; pointwise [k0_pay3]

section
variable {x0 x1 x2 x3 : FVec Ideal S64x1024 .f32} {x4 x5 : FVec Ideal S64x128 .f32} {r : FVec Ideal S1x4x256x256 .f32}
  {h : Fin 4} {q k v g : FVec Ideal S64x256 .f32} {p : FVec Ideal S1x1x256x256 .f32}

/-- A head's stored rows, from slices of the blocks. -/
theorem headOut_of (hq : ∀ u n, q (ix2 u n) = x0 (ix2 u (col h n))) (hk : ∀ u n, k (ix2 u n) = x1 (ix2 u (col h n)))
    (hv : ∀ u n, v (ix2 u n) = x2 (ix2 u (col h n))) (hg : ∀ u n, g (ix2 u n) = x3 (ix2 u (col h n)))
    (hp : ∀ n w, p (ix4 (0 : Fin 1) (0 : Fin 1) n w) = r (ix4 (0 : Fin 1) h n w)) (t : Fin 64) (w : Fin 256) :
    headOut (lgK h) (k0_pay2 x4) (k0_pay3 x5) q k v g p (ix2 t w) = blockOut x0 x1 x2 x3 x4 x5 r h t w := by
  rw [headOut_apply, table_co, table_si, hg]
  unfold blockOut keys turned
  rw [show row v = (fun u n => x2 (ix2 u (col h n))) from funext fun u => funext fun n => hv u n,
    show plane p = (fun n w => r (ix4 (0 : Fin 1) h n w)) from funext fun n => funext fun w => hp n w,
    show row q = (fun u n => x0 (ix2 u (col h n))) from funext fun u => funext fun n => hq u n,
    show row k = (fun u n => x1 (ix2 u (col h n))) from funext fun u => funext fun n => hk u n]

/-- A head's state, from slices of the blocks. -/
theorem headState_of (hk : ∀ u n, k (ix2 u n) = x1 (ix2 u (col h n)))
    (hv : ∀ u n, v (ix2 u n) = x2 (ix2 u (col h n)))
    (hp : ∀ n w, p (ix4 (0 : Fin 1) (0 : Fin 1) n w) = r (ix4 (0 : Fin 1) h n w)) (n w : Fin 256) :
    headState (lgK h) (dsK h) (k0_pay2 x4) (k0_pay3 x5) k v p (ix4 (0 : Fin 1) (0 : Fin 1) n w)
      = blockState x1 x2 x4 x5 r h n w := by
  rw [headState_apply, table_co, table_si]
  unfold blockState keys turned
  rw [show row v = (fun u n => x2 (ix2 u (col h n))) from funext fun u => funext fun n => hv u n,
    show plane p = (fun n w => r (ix4 (0 : Fin 1) h n w)) from funext fun n => funext fun w => hp n w,
    show row k = (fun u n => x1 (ix2 u (col h n))) from funext fun u => funext fun n => hk u n]

end

/-- A slice of 256 columns of a block, read at an index. -/
theorem slice_apply (x : FVec Ideal S64x1024 .f32) (h : Fin 4) (o : ℕ) (ho : o = 256 * h.val)
    (inb : ∀ a, (![0, o] : Fin 2 → ℕ) a + (![64, 256] : Fin 2 → ℕ) a ≤ S64x1024.size a) (u : Fin 64) (n : Fin 256) :
    (View.ld (Val := Elt Ideal) (S := S64x1024) (e' := .f32) x (Rect.unit ![0, o] ![64, 256] inb) : FVec Ideal S64x256 .f32) (ix2 u n)
      = x (ix2 u (col h n)) := by
  subst ho
  refine congrArg x (funext fun a => Fin.ext ?_)
  match a with
  | ⟨0, _⟩ => show 0 + 1 * u.val = u.val; omega
  | ⟨1, _⟩ => show 256 * h.val + 1 * n.val = 256 * h.val + n.val; omega

/-- One head's plane of the state block, read at an index. -/
theorem plane_apply (x : FVec Ideal S1x4x256x256 .f32) (h : Fin 4) (o : ℕ) (ho : o = h.val)
    (inb : ∀ a, (![0, o, 0, 0] : Fin 4 → ℕ) a + (![1, 1, 256, 256] : Fin 4 → ℕ) a ≤ S1x4x256x256.size a) (n w : Fin 256) :
    (View.ld (Val := Elt Ideal) (S := S1x4x256x256) (e' := .f32) x (Rect.unit ![0, o, 0, 0] ![1, 1, 256, 256] inb) :
        FVec Ideal S1x1x256x256 .f32) (ix4 (0 : Fin 1) (0 : Fin 1) n w)
      = x (ix4 (0 : Fin 1) h n w) := by
  subst ho
  refine congrArg x (funext fun a => Fin.ext ?_)
  match a with
  | ⟨0, _⟩ => rfl
  | ⟨1, _⟩ => show h.val + 1 * 0 = h.val; omega
  | ⟨2, _⟩ => show 0 + 1 * n.val = n.val; omega
  | ⟨3, _⟩ => show 0 + 1 * w.val = w.val; omega

/-- Off a head's plane, the stores of the other heads' planes are not seen. -/
theorem canon_skip (o : ℕ) (inb : ∀ a, (![0, o, 0, 0] : Fin 4 → ℕ) a + (![1, 1, 256, 256] : Fin 4 → ℕ) a ≤ S1x4x256x256.size a)
    (w : FVec Ideal S1x1x256x256 .f32) (L : List (View.Piece (Elt Ideal) S1x4x256x256 .f32)) (h : Fin 4) (ho : h.val ≠ o)
    (n v : Fin 256) :
    View.canon (⟨Rect.unit ![0, o, 0, 0] ![1, 1, 256, 256] inb, w⟩ :: L) (ix4 (0 : Fin 1) h n v : S1x4x256x256.Idx)
      = View.canon L (ix4 (0 : Fin 1) h n v : S1x4x256x256.Idx) := by
  refine View.canon_cons_of_not_mem _ _ fun hm => ho ?_
  have := (Rect.mem_set_unit (s := S1x4x256x256) (off := ![0, o, 0, 0]) (size := ![1, 1, 256, 256]) (inb := inb)).mp hm
    (1 : Fin 4)
  have h1 : o ≤ h.val := this.1
  have h2 : h.val < o + 1 := this.2
  omega

/-- On a head's plane, the last store of that plane is seen. -/
theorem canon_hit (o : ℕ) (inb : ∀ a, (![0, o, 0, 0] : Fin 4 → ℕ) a + (![1, 1, 256, 256] : Fin 4 → ℕ) a ≤ S1x4x256x256.size a)
    (w : FVec Ideal S1x1x256x256 .f32) (L : List (View.Piece (Elt Ideal) S1x4x256x256 .f32)) (h : Fin 4) (ho : h.val = o)
    (n v : Fin 256) :
    View.canon (⟨Rect.unit ![0, o, 0, 0] ![1, 1, 256, 256] inb, w⟩ :: L) (ix4 (0 : Fin 1) h n v : S1x4x256x256.Idx)
      = w (ix4 (0 : Fin 1) (0 : Fin 1) n v) := by
  subst ho
  have e : (ix4 (0 : Fin 1) h n v : S1x4x256x256.Idx)
      = (Rect.unit (s := S1x4x256x256) ![0, h.val, 0, 0] ![1, 1, 256, 256] inb).emb (ix4 (0 : Fin 1) (0 : Fin 1) n v) := by
    funext a
    apply Fin.ext
    match a with
    | ⟨0, _⟩ => rfl
    | ⟨1, _⟩ => show h.val = h.val + 1 * 0; omega
    | ⟨2, _⟩ => show n.val = 0 + 1 * n.val; omega
    | ⟨3, _⟩ => show v.val = 0 + 1 * v.val; omega
  exact (congrArg _ e).trans (View.canon_cons_emb _ _ _ _)

/-- A head's plane read back from the stores of a chunk's state block. -/
theorem readCov_plane (vw : View sig .tc .vmem S1x4x256x256 .f32) (L : List (View.Piece (Elt Ideal) S1x4x256x256 .f32))
    (h : Fin 4) (o : ℕ) (ho : o = h.val)
    (inb : ∀ a, (![0, o, 0, 0] : Fin 4 → ℕ) a + (![1, 1, 256, 256] : Fin 4 → ℕ) a ≤ S1x4x256x256.size a) (n w : Fin 256) :
    (vw.readCov L (Rect.unit (s := S1x4x256x256) ![0, o, 0, 0] ![1, 1, 256, 256] inb).toLoadRect : FVec Ideal S1x1x256x256 .f32)
        (ix4 (0 : Fin 1) (0 : Fin 1) n w)
      = View.canon L (ix4 (0 : Fin 1) h n w : S1x4x256x256.Idx) := by
  subst ho
  rw [View.readCov_eq_canon']
  refine congrArg (View.canon L) (funext fun a => Fin.ext ?_)
  match a with
  | ⟨0, _⟩ => rfl
  | ⟨1, _⟩ => show h.val + 1 * 0 = h.val; omega
  | ⟨2, _⟩ => show 0 + 1 * n.val = n.val; omega
  | ⟨3, _⟩ => show 0 + 1 * w.val = w.val; omega

/-- The incoming state, copied whole, is what a later read of any plane not stored since sees. -/
theorem canon_copy (x : FVec Ideal S1x4x256x256 .f32)
    (inb : ∀ a, (![0, 0, 0, 0] : Fin 4 → ℕ) a + (![1, 4, 256, 256] : Fin 4 → ℕ) a ≤ S1x4x256x256.size a)
    (h : Fin 4) (n w : Fin 256) :
    View.canon [(⟨Rect.unit ![0, 0, 0, 0] ![1, 4, 256, 256] inb, x⟩ : View.Piece (Elt Ideal) S1x4x256x256 .f32)]
      (ix4 (0 : Fin 1) h n w : S1x4x256x256.Idx) = x (ix4 (0 : Fin 1) h n w) := by
  have e : (ix4 (0 : Fin 1) h n w : S1x4x256x256.Idx)
      = (Rect.unit (s := S1x4x256x256) ![0, 0, 0, 0] ![1, 4, 256, 256] inb).emb (ix4 (0 : Fin 1) h n w) := by
    funext a
    apply Fin.ext
    match a with
    | ⟨0, _⟩ => rfl
    | ⟨1, _⟩ => show h.val = 0 + 1 * h.val; omega
    | ⟨2, _⟩ => show n.val = 0 + 1 * n.val; omega
    | ⟨3, _⟩ => show w.val = 0 + 1 * w.val; omega
  refine (congrArg _ e).trans ?_
  exact View.canon_cons_emb _ _ _ _

/-- The copy's reshape changes nothing. -/
theorem copied (x : FVec Ideal S1x4x256x256 .f32) : k0_pay1 x = x := by
  funext y; idx_vars y; pointwise [k0_pay1]

variable (m : (ℓ : Loc nD τ sig) → Buf (Elt Ideal) ℓ)

/-- A column of head `h` that lies in the slice starting at `256 * o` belongs to head `o`, at the slice's own index. -/
theorem head_of_col {h o : Fin 4} {u : Fin 64} {w : Fin 256} {x : S64x256.Idx} (e0 : u.val = (x 0 : ℕ))
    (e1 : (col h w).val = 256 * o.val + (x 1 : ℕ)) (hx : (x 1 : ℕ) < 256) : h = o ∧ x = ix2 u w := by
  have e1' : 256 * h.val + w.val = 256 * o.val + (x 1 : ℕ) := e1
  refine ⟨Fin.ext (by omega), funext fun a => Fin.ext ?_⟩
  match a with
  | ⟨0, _⟩ => exact e0.symm
  | ⟨1, _⟩ => show (x 1 : ℕ) = w.val; omega

/-- A state entry of head `h` that lies in plane `o` belongs to head `o`, at the plane's own index. -/
theorem head_of_plane {h o : Fin 4} {n w : Fin 256} {x : S1x1x256x256.Idx} (e1 : h.val = o.val + (x 1 : ℕ))
    (hx : (x 1 : ℕ) < 1) (e2 : n.val = (x 2 : ℕ)) (e3 : w.val = (x 3 : ℕ)) :
    h = o ∧ x = ix4 (0 : Fin 1) (0 : Fin 1) n w := by
  refine ⟨Fin.ext (by omega), funext fun a => Fin.ext ?_⟩
  match a with
  | ⟨0, _⟩ => have : (x 0 : ℕ) < 1 := (x 0).isLt; show (x 0 : ℕ) = 0; omega
  | ⟨1, _⟩ => show (x 1 : ℕ) = 0; omega
  | ⟨2, _⟩ => exact e2.symm
  | ⟨3, _⟩ => exact e3.symm

/-- The state of a chunk that goes on from the state of the chunk before. -/
theorem state_at_next (c : Dev nD) (t : Fin cfg0.N) (h0 : ¬(t.val % 128 = 0 ∨ 512 ≤ t.val)) (h : Fin 4) (n w : Fin 256) :
    (outsAt m c t.val t.isLt).2 (ix4 (0 : Fin 1) h n w)
      = blockState (X0_1 m c t) (X0_2 m c t) (iblk m c 4 t) (iblk m c 5 t)
          (outsAt m c (t.val - 1) (Nat.lt_of_le_of_lt (Nat.sub_le _ _) t.isLt)).2 h n w := by
  rw [outsAt_next m c t h0]
  frame_out
  canon_tiles x e
  · obtain ⟨rfl, rfl⟩ := head_of_plane (o := 3) e1 x1_lt e2 e3
    rw [state_3]
    exact headState_of (h := 3) (slice_apply _ 3 _ rfl _) (slice_apply _ 3 _ rfl _)
      (plane_apply _ 3 _ rfl _) n w
  · obtain ⟨rfl, rfl⟩ := head_of_plane (o := 2) e1 x1_lt e2 e3
    rw [state_2]
    exact headState_of (h := 2) (slice_apply _ 2 _ rfl _) (slice_apply _ 2 _ rfl _)
      (plane_apply _ 2 _ rfl _) n w
  · obtain ⟨rfl, rfl⟩ := head_of_plane (o := 1) e1 x1_lt e2 e3
    rw [state_1]
    exact headState_of (h := 1) (slice_apply _ 1 _ rfl _) (slice_apply _ 1 _ rfl _)
      (plane_apply _ 1 _ rfl _) n w
  · obtain ⟨rfl, rfl⟩ := head_of_plane (o := 0) (e1.trans (Nat.zero_add _).symm) x1_lt e2 e3
    rw [state_0]
    exact headState_of (h := 0) (slice_apply _ 0 _ rfl _) (slice_apply _ 0 _ rfl _)
      (plane_apply _ 0 _ rfl _) n w

/-- The state of a chunk that starts a stream, from the stream's own initial state. -/
theorem state_at_first (c : Dev nD) (t : Fin cfg0.N) (h0 : (t.val % 128 = 0 ∨ 512 ≤ t.val)) (h : Fin 4) (n w : Fin 256) :
    (outsAt m c t.val t.isLt).2 (ix4 (0 : Fin 1) h n w)
      = blockState (X0_1 m c t) (X0_2 m c t) (iblk m c 4 t) (iblk m c 5 t)
          (iblk m c 6 t) h n w := by
  rw [outsAt_first m c t h0]
  frame_out
  match h with
  | 0 =>
    refine Eq.trans ((canon_skip 3 _ _ _ 0 (by decide) n w).trans ((canon_skip 2 _ _ _ 0 (by decide) n w).trans ((canon_skip 1 _ _ _ 0 (by decide) n w).trans ((canon_hit 0 _ _ _ 0 rfl n w))))) ?_
    rw [state_0]
    exact headState_of (h := 0) (slice_apply _ 0 _ rfl _) (slice_apply _ 0 _ rfl _)
      (fun n w => (readCov_plane _ _ 0 _ rfl _ n w).trans ((canon_copy _ _ 0 n w).trans (congrFun (copied _) _))) n w
  | 1 =>
    refine Eq.trans ((canon_skip 3 _ _ _ 1 (by decide) n w).trans ((canon_skip 2 _ _ _ 1 (by decide) n w).trans ((canon_hit 1 _ _ _ 1 rfl n w)))) ?_
    rw [state_1]
    exact headState_of (h := 1) (slice_apply _ 1 _ rfl _) (slice_apply _ 1 _ rfl _)
      (fun n w => (readCov_plane _ _ 1 _ rfl _ n w).trans ((canon_skip 0 _ _ _ 1 (by decide) n w).trans ((canon_copy _ _ 1 n w).trans (congrFun (copied _) _)))) n w
  | 2 =>
    refine Eq.trans ((canon_skip 3 _ _ _ 2 (by decide) n w).trans ((canon_hit 2 _ _ _ 2 rfl n w))) ?_
    rw [state_2]
    exact headState_of (h := 2) (slice_apply _ 2 _ rfl _) (slice_apply _ 2 _ rfl _)
      (fun n w => (readCov_plane _ _ 2 _ rfl _ n w).trans ((canon_skip 1 _ _ _ 2 (by decide) n w).trans ((canon_skip 0 _ _ _ 2 (by decide) n w).trans ((canon_copy _ _ 2 n w).trans (congrFun (copied _) _))))) n w
  | 3 =>
    refine Eq.trans ((canon_hit 3 _ _ _ 3 rfl n w)) ?_
    rw [state_3]
    exact headState_of (h := 3) (slice_apply _ 3 _ rfl _) (slice_apply _ 3 _ rfl _)
      (fun n w => (readCov_plane _ _ 3 _ rfl _ n w).trans ((canon_skip 2 _ _ _ 3 (by decide) n w).trans ((canon_skip 1 _ _ _ 3 (by decide) n w).trans ((canon_skip 0 _ _ _ 3 (by decide) n w).trans ((canon_copy _ _ 3 n w).trans (congrFun (copied _) _)))))) n w

/-- The output block of a chunk that goes on from the state of the chunk before. -/
theorem out_next (c : Dev nD) (t : Fin cfg0.N) (h0 : ¬(t.val % 128 = 0 ∨ 512 ≤ t.val)) (h : Fin 4) (u : Fin 64) (w : Fin 256) :
    (outsAt m c t.val t.isLt).1 (ix2 u (col h w))
      = blockOut (X0_0 m c t) (X0_1 m c t) (X0_2 m c t) (X0_3 m c t) (iblk m c 4 t) (iblk m c 5 t)
          (outsAt m c (t.val - 1) (Nat.lt_of_le_of_lt (Nat.sub_le _ _) t.isLt)).2 h u w := by
  rw [outsAt_next m c t h0]
  frame_out
  canon_tiles x e
  · obtain ⟨rfl, rfl⟩ := head_of_col (o := 3) e0 e1 x1_lt
    rw [out_3]
    exact headOut_of (h := 3) (slice_apply _ 3 _ rfl _) (slice_apply _ 3 _ rfl _) (slice_apply _ 3 _ rfl _)
      (slice_apply _ 3 _ rfl _) (plane_apply _ 3 _ rfl _) u w
  · obtain ⟨rfl, rfl⟩ := head_of_col (o := 2) e0 e1 x1_lt
    rw [out_2]
    exact headOut_of (h := 2) (slice_apply _ 2 _ rfl _) (slice_apply _ 2 _ rfl _) (slice_apply _ 2 _ rfl _)
      (slice_apply _ 2 _ rfl _) (plane_apply _ 2 _ rfl _) u w
  · obtain ⟨rfl, rfl⟩ := head_of_col (o := 1) e0 e1 x1_lt
    rw [out_1]
    exact headOut_of (h := 1) (slice_apply _ 1 _ rfl _) (slice_apply _ 1 _ rfl _) (slice_apply _ 1 _ rfl _)
      (slice_apply _ 1 _ rfl _) (plane_apply _ 1 _ rfl _) u w
  · obtain ⟨rfl, rfl⟩ := head_of_col (o := 0) e0 (e1.trans (Nat.zero_add _).symm) x1_lt
    rw [out_0]
    exact headOut_of (h := 0) (slice_apply _ 0 _ rfl _) (slice_apply _ 0 _ rfl _) (slice_apply _ 0 _ rfl _)
      (slice_apply _ 0 _ rfl _) (plane_apply _ 0 _ rfl _) u w

/-- The output block of a chunk that starts a stream, from the stream's own initial state. -/
theorem out_first (c : Dev nD) (t : Fin cfg0.N) (h0 : (t.val % 128 = 0 ∨ 512 ≤ t.val)) (h : Fin 4) (u : Fin 64) (w : Fin 256) :
    (outsAt m c t.val t.isLt).1 (ix2 u (col h w))
      = blockOut (X0_0 m c t) (X0_1 m c t) (X0_2 m c t) (X0_3 m c t) (iblk m c 4 t) (iblk m c 5 t)
          (iblk m c 6 t) h u w := by
  rw [outsAt_first m c t h0]
  frame_out
  canon_tiles x e
  · obtain ⟨rfl, rfl⟩ := head_of_col (o := 3) e0 e1 x1_lt
    rw [out_3]
    exact headOut_of (h := 3) (slice_apply _ 3 _ rfl _) (slice_apply _ 3 _ rfl _) (slice_apply _ 3 _ rfl _)
      (slice_apply _ 3 _ rfl _) (fun n w => (readCov_plane _ _ 3 _ rfl _ n w).trans ((canon_skip 2 _ _ _ 3 (by decide) n w).trans ((canon_skip 1 _ _ _ 3 (by decide) n w).trans ((canon_skip 0 _ _ _ 3 (by decide) n w).trans ((canon_copy _ _ 3 n w).trans (congrFun (copied _) _)))))) u w
  · obtain ⟨rfl, rfl⟩ := head_of_col (o := 2) e0 e1 x1_lt
    rw [out_2]
    exact headOut_of (h := 2) (slice_apply _ 2 _ rfl _) (slice_apply _ 2 _ rfl _) (slice_apply _ 2 _ rfl _)
      (slice_apply _ 2 _ rfl _) (fun n w => (readCov_plane _ _ 2 _ rfl _ n w).trans ((canon_skip 1 _ _ _ 2 (by decide) n w).trans ((canon_skip 0 _ _ _ 2 (by decide) n w).trans ((canon_copy _ _ 2 n w).trans (congrFun (copied _) _))))) u w
  · obtain ⟨rfl, rfl⟩ := head_of_col (o := 1) e0 e1 x1_lt
    rw [out_1]
    exact headOut_of (h := 1) (slice_apply _ 1 _ rfl _) (slice_apply _ 1 _ rfl _) (slice_apply _ 1 _ rfl _)
      (slice_apply _ 1 _ rfl _) (fun n w => (readCov_plane _ _ 1 _ rfl _ n w).trans ((canon_skip 0 _ _ _ 1 (by decide) n w).trans ((canon_copy _ _ 1 n w).trans (congrFun (copied _) _)))) u w
  · obtain ⟨rfl, rfl⟩ := head_of_col (o := 0) e0 (e1.trans (Nat.zero_add _).symm) x1_lt
    rw [out_0]
    exact headOut_of (h := 0) (slice_apply _ 0 _ rfl _) (slice_apply _ 0 _ rfl _) (slice_apply _ 0 _ rfl _)
      (slice_apply _ 0 _ rfl _) (fun n w => (readCov_plane _ _ 0 _ rfl _ n w).trans ((canon_copy _ _ 0 n w).trans (congrFun (copied _) _))) u w

end Cert.KernelIdeal.Retention

end
-- ==== Proof.Retention.Streams.lean ====
/-
  The retention of all streams, from the projected rows and the sample streams' states, in plain formulas: chunk `T`
  holds rows `64 T … 64 T + 63`; chunks `128 b … 128 b + 127` are prompt stream `b`, chunk `512 + b` is sample stream `b`.
-/
module

public import proofs.«01_k».proof.Proof.Retention.Spec

@[expose] public section

noncomputable section

namespace ChunkRet

open Idealize.ShloMosaic

/-- A projection as a table over all pairs of numbers, nothing outside its bounds. -/
def table (a : Fin 33792 → Fin 17920 → EReal) (i j : ℕ) : EReal :=
  if h : i < 33792 ∧ j < 17920 then a ⟨i, h.1⟩ ⟨j, h.2⟩ else 0

theorem table_apply (a : Fin 33792 → Fin 17920 → EReal) (i : Fin 33792) (j : Fin 17920) : a i j = table a i.val j.val := by
  unfold table; rw [dif_pos ⟨i.isLt, j.isLt⟩]

/-- The position of row `u` of chunk `T` in its stream. -/
def place (T u : ℕ) : ℕ := if T < 512 then 64 * (T % 128) + u else 4096 + u

/-- Lane `n`'s frequency. -/
def freq (n : Fin 128) : EReal :=
  Ideal.pow (Ideal.ofBits FTy.f32 0x461C4000#32) (Ideal.div (-((n.val : ℝ) : EReal)) (Ideal.ofBits FTy.f32 0x43000000#32))

/-- The cosine and sine of position `p`'s angle in lane `n`. -/
def co (p : ℕ) (n : Fin 128) : EReal := Ideal.cos (((p : ℝ) : EReal) * freq n)
def si (p : ℕ) (n : Fin 128) : EReal := Ideal.sin (((p : ℝ) : EReal) * freq n)

/-- The logarithm of head `h`'s decay `1 − 2^−(5 + h)`. -/
def lg (h : Fin 4) : EReal := ((Real.log (1 - (1 / 2) ^ (5 + h.val)) : ℝ) : EReal)

/-- Head `h`'s decay over a chunk. -/
def ds (h : Fin 4) : EReal := (((1 - (1 / 2) ^ (5 + h.val)) ^ 64 : ℝ) : EReal)

section
variable (X : ℕ → ℕ → EReal)

/-- Chunk `T`'s queries, keys, values and gates: columns 13312, 14336, 15360 and 16384 on, 256 for each head. -/
def queries (T : ℕ) (h : Fin 4) (u : Fin 64) (n : Fin 256) : EReal :=
  rot (co (place T u.val)) (si (place T u.val)) (fun n => X (64 * T + u.val) (13312 + (256 * h.val + n.val))) n
def keys (T : ℕ) (h : Fin 4) (u : Fin 64) (n : Fin 256) : EReal :=
  rot (co (place T u.val)) (si (place T u.val)) (fun n => X (64 * T + u.val) (14336 + (256 * h.val + n.val))) n
    * Ideal.ofBits FTy.f32 0x3D800000#32
def vals (T : ℕ) (h : Fin 4) (u : Fin 64) (n : Fin 256) : EReal := X (64 * T + u.val) (15360 + (256 * h.val + n.val))
def gate (T : ℕ) (h : Fin 4) (u : Fin 64) (n : Fin 256) : EReal := X (64 * T + u.val) (16384 + (256 * h.val + n.val))

/-- One chunk's state from the state it starts from. -/
def leave (T : ℕ) (r : Fin 4 → Fin 256 → Fin 256 → EReal) (h : Fin 4) : Fin 256 → Fin 256 → EReal :=
  next (lg h) (ds h) (keys X T h) (vals X T h) (r h)

/-- One chunk's results from the state it starts from. -/
def result (T : ℕ) (r : Fin 4 → Fin 256 → Fin 256 → EReal) (h : Fin 4) (u : Fin 64) (w : Fin 256) : EReal :=
  normal (over (lg h) (queries X T h) (keys X T h) (vals X T h) (r h) u) w * silu (gate X T h u w)

variable (R : ℕ → Fin 4 → Fin 256 → Fin 256 → EReal)

/-- The state chunk `T` starts from, given what the chunk before leaves: a sample stream's own, zero at the head of a
    prompt, else what the chunk before leaves. -/
def entering (T : ℕ) (prev : Fin 4 → Fin 256 → Fin 256 → EReal) : Fin 4 → Fin 256 → Fin 256 → EReal :=
  if 512 ≤ T then R (T - 512) else if T % 128 = 0 then fun _ _ _ => 0 else prev

/-- The state chunk `T` leaves. -/
def after : ℕ → Fin 4 → Fin 256 → Fin 256 → EReal
  | 0 => leave X 0 (entering R 0 fun _ _ _ => 0)
  | T + 1 => leave X (T + 1) (entering R (T + 1) (after T))

/-- The state chunk `T` starts from. -/
def before (T : ℕ) : Fin 4 → Fin 256 → Fin 256 → EReal := entering R T (after X R (T - 1))

theorem after_eq (T : ℕ) : after X R T = leave X T (before X R T) := by
  cases T with
  | zero => simp only [after, before, entering]; rfl
  | succ T => rfl

/-- What the prompt stream `b` carries into its `j`-th chunk. -/
def carry (b j : ℕ) : Fin 4 → Fin 256 → Fin 256 → EReal := if j = 0 then fun _ _ _ => 0 else after X R (128 * b + j - 1)

theorem before_prompt (b j : ℕ) (hb : b < 4) (hj : j < 128) : before X R (128 * b + j) = carry X R b j := by
  unfold before entering carry
  rw [if_neg (by omega)]
  by_cases h : j = 0
  · rw [if_pos (by omega), if_pos h]
  · rw [if_neg (by omega), if_neg h]

theorem carry_succ (b j : ℕ) (hb : b < 4) (hj : j < 128) : carry X R b (j + 1) = leave X (128 * b + j) (carry X R b j) := by
  rw [← before_prompt X R b j hb hj, ← after_eq]
  unfold carry
  rw [if_neg (by omega)]
  congr 1

theorem before_sample (b : ℕ) : before X R (512 + b) = R b := by
  unfold before entering
  rw [if_pos (by omega)]; congr 1; omega

/-- The first result, row by row: row `i` is row `i % 64` of chunk `i / 64`, its columns 256 for each head. -/
def rows (i : Fin 33792) (j : Fin 1024) : EReal :=
  result X (i.val / 64) (before X R (i.val / 64)) ⟨j.val / 256, by omega⟩ ⟨i.val % 64, by omega⟩ ⟨j.val % 256, by omega⟩

/-- The last chunk of stream `b`. -/
def last (b : ℕ) : ℕ := if b < 4 then 128 * b + 127 else 508 + b

/-- The second result: the state each stream's last chunk leaves. -/
def states (b : Fin 20) : Fin 4 → Fin 256 → Fin 256 → EReal := after X R (last b.val)

end

end ChunkRet

end
-- ==== Proof.Retention.Entry.lean ====
/-
  The blocks a grid point reads, in terms of the call's two arguments.
-/
module

public import proofs.«01_k».proof.Proof.Retention.Block
public import proofs.«01_k».proof.Proof.Retention.Streams
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Retention

open Cert.KernelIdeal Cert.KernelIdeal.Gen

/-! ## Which block each window reads at a point -/

theorem idx0 : ∀ t : Fin cfg0.N, win0_0.index t = ![t.val, 13] := (by decide +kernel : ∀ t : Fin grid0.N, _)
theorem idx1 : ∀ t : Fin cfg0.N, win0_1.index t = ![t.val, 14] := (by decide +kernel : ∀ t : Fin grid0.N, _)
theorem idx2 : ∀ t : Fin cfg0.N, win0_2.index t = ![t.val, 15] := (by decide +kernel : ∀ t : Fin grid0.N, _)
theorem idx3 : ∀ t : Fin cfg0.N, win0_3.index t = ![t.val, 16] := (by decide +kernel : ∀ t : Fin grid0.N, _)

/-- The block of the rotary table that chunk `t` reads: its place in the prompt, or the table's last block. -/
def ropeOf (t : ℕ) : ℕ := if t < 512 then t % 128 else 128

/-- The stream chunk `t` belongs to: four prompts of 128 chunks, then streams of one chunk. -/
def seqOf (t : ℕ) : ℕ := if t < 512 then t / 128 else t - 508

theorem idx4 : ∀ t : Fin cfg0.N, win0_4.index t = ![ropeOf t.val, 0] := (by decide +kernel : ∀ t : Fin grid0.N, _)
theorem idx5 : ∀ t : Fin cfg0.N, win0_5.index t = ![ropeOf t.val, 0] := (by decide +kernel : ∀ t : Fin grid0.N, _)
theorem idx6 : ∀ t : Fin cfg0.N, win0_6.index t = ![seqOf t.val, 0, 0, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![seqOf t.val, 0, 0, 0] := (by decide +kernel : ∀ t : Fin grid0.N, _)

theorem lt_points (t : Fin cfg0.N) : t.val < 528 := lt_of_lt_of_eq t.isLt (show cfg0.N = 528 from N_0)

theorem ropeOf_le (t : ℕ) : ropeOf t ≤ 128 := by unfold ropeOf; split <;> omega
theorem seqOf_lt (t : Fin cfg0.N) : seqOf t.val < 20 := by have := lt_points t; unfold seqOf; split <;> omega

variable (m : (ℓ : Loc nD τ sig) → Buf (Elt Ideal) ℓ)

/-- The projection and the sample streams' states, as launched. -/
abbrev projOf (c : Dev nD) : FVec Ideal S33792x17920 .f32 := m ((c : Thread nD τ).loc main_arg0)
abbrev stateOf (c : Dev nD) : FVec Ideal S16x4x256x256 .f32 := m ((c : Thread nD τ).loc main_arg1)

/-- They as tables over numbers. -/
def X (c : Dev nD) : ℕ → ℕ → EReal := ChunkRet.table fun i j => projOf m c (ix2 i j)
def R (c : Dev nD) (b : ℕ) (h : Fin 4) (n w : Fin 256) : EReal :=
  if hb : b < 16 then stateOf m c (ix4 ⟨b, hb⟩ h n w) else 0

theorem X_apply (c : Dev nD) (i : Fin 33792) (j : Fin 17920) : projOf m c (ix2 i j) = X m c i.val j.val :=
  ChunkRet.table_apply (fun i j => projOf m c (ix2 i j)) i j

/-! ## The projection's blocks -/

/-- The block of queries of chunk `t`, and likewise of keys, values and gates. -/
theorem x0_apply (c : Dev nD) (t : Fin cfg0.N) (u : Fin 64) (j : Fin 1024) :
    (X0_0 m c t : FVec Ideal S64x1024 .f32) (ix2 u j) = X m c (64 * t.val + u.val) (13312 + j.val) := by
  have := lt_points t
  refine Eq.trans ?_ (X_apply m c ⟨64 * t.val + u.val, by omega⟩ ⟨13312 + j.val, by omega⟩)
  unfold X0_0 Pipeline.Window.fill
  rw [dif_pos (moved0_0 t _)]
  blk_simp [iblk, idx0 t, V_main_arg0]
  blk_ext [idx0 t]
theorem x1_apply (c : Dev nD) (t : Fin cfg0.N) (u : Fin 64) (j : Fin 1024) :
    (X0_1 m c t : FVec Ideal S64x1024 .f32) (ix2 u j) = X m c (64 * t.val + u.val) (14336 + j.val) := by
  have := lt_points t
  refine Eq.trans ?_ (X_apply m c ⟨64 * t.val + u.val, by omega⟩ ⟨14336 + j.val, by omega⟩)
  unfold X0_1 Pipeline.Window.fill
  rw [dif_pos (moved0_1 t _)]
  blk_simp [iblk, idx1 t, V_main_arg0]
  blk_ext [idx1 t]
theorem x2_apply (c : Dev nD) (t : Fin cfg0.N) (u : Fin 64) (j : Fin 1024) :
    (X0_2 m c t : FVec Ideal S64x1024 .f32) (ix2 u j) = X m c (64 * t.val + u.val) (15360 + j.val) := by
  have := lt_points t
  refine Eq.trans ?_ (X_apply m c ⟨64 * t.val + u.val, by omega⟩ ⟨15360 + j.val, by omega⟩)
  unfold X0_2 Pipeline.Window.fill
  rw [dif_pos (moved0_2 t _)]
  blk_simp [iblk, idx2 t, V_main_arg0]
  blk_ext [idx2 t]
theorem x3_apply (c : Dev nD) (t : Fin cfg0.N) (u : Fin 64) (j : Fin 1024) :
    (X0_3 m c t : FVec Ideal S64x1024 .f32) (ix2 u j) = X m c (64 * t.val + u.val) (16384 + j.val) := by
  have := lt_points t
  refine Eq.trans ?_ (X_apply m c ⟨64 * t.val + u.val, by omega⟩ ⟨16384 + j.val, by omega⟩)
  unfold X0_3 Pipeline.Window.fill
  rw [dif_pos (moved0_3 t _)]
  blk_simp [iblk, idx3 t, V_main_arg0]
  blk_ext [idx3 t]

/-! ## The rotary tables' blocks -/

/-- A number below 2³¹ as a word, read back. -/
theorem sitofp_nat (k : ℕ) (hk : k < 2 ^ 31) : (FloatOps.sitofp FTy.f32 (BitVec.ofNat 32 k) : Ideal .f32) = ((k : ℝ) : EReal) := by
  have h : (BitVec.ofNat 32 k).toInt = (k : ℤ) := by
    have e : (BitVec.ofNat 32 k).toNat = k := by rw [BitVec.toNat_ofNat]; exact Nat.mod_eq_of_lt (by omega)
    rw [BitVec.toInt_eq_toNat_of_lt (by rw [e]; omega), e]
  show (((BitVec.ofNat 32 k).toInt : ℝ) : EReal) = _
  rw [h]; norm_cast

/-- The position in row `i` of the rotary tables: rows 8192 on hold positions 4096 on. -/
theorem position (i : ℕ) (hi : i < 8256) :
    (FloatOps.sitofp FTy.f32 (if h : i < 8192 then BitVec.ofNat 32 i else IntOp.addi (4096#32) (BitVec.ofNat 32 (i - 8192))) : Ideal .f32)
      = (((if i < 8192 then i else 4096 + (i - 8192) : ℕ) : ℝ) : EReal) := by
  by_cases h : i < 8192
  · rw [dif_pos h, if_pos h, sitofp_nat i (by omega)]
  · rw [dif_neg h, if_neg h, show IntOp.addi (4096#32) (BitVec.ofNat 32 (i - 8192)) = BitVec.ofNat 32 (4096 + (i - 8192)) from
      (BitVec.ofNat_add 4096 (i - 8192)).symm, sitofp_nat _ (by omega)]

theorem co_apply (c : Dev nD) (u : Fin 8256) (n : Fin 128) :
    (V m c main_v17 : FVec Ideal S8256x128 .f32) (ix2 u n)
      = ChunkRet.co (if u.val < 8192 then u.val else 4096 + (u.val - 8192)) n := by
  simp only [V, hostOps0, hostOps0_1, List.flatten_cons, List.flatten_nil, List.append_nil, List.cons_append, List.nil_append]
  entry_read
  pointwise
  rw [position u.val u.isLt, sitofp_nat n.val (by omega)]
  rfl

theorem si_apply (c : Dev nD) (u : Fin 8256) (n : Fin 128) :
    (V m c main_v18 : FVec Ideal S8256x128 .f32) (ix2 u n)
      = ChunkRet.si (if u.val < 8192 then u.val else 4096 + (u.val - 8192)) n := by
  simp only [V, hostOps0, hostOps0_1, List.flatten_cons, List.flatten_nil, List.append_nil, List.cons_append, List.nil_append]
  entry_read
  pointwise
  rw [position u.val u.isLt, sitofp_nat n.val (by omega)]
  rfl

theorem place_of (t : Fin cfg0.N) (u : Fin 64) :
    (if 64 * ropeOf t.val + u.val < 8192 then 64 * ropeOf t.val + u.val else 4096 + (64 * ropeOf t.val + u.val - 8192))
      = ChunkRet.place t.val u.val := by
  have := lt_points t
  unfold ChunkRet.place ropeOf
  by_cases h : t.val < 512
  · rw [if_pos h, if_pos h, if_pos (by omega)]
  · rw [if_neg h, if_neg h, if_neg (by omega)]; omega

/-- The cosines, and the sines, of chunk `t`'s positions. -/
theorem x4_apply (c : Dev nD) (t : Fin cfg0.N) (u : Fin 64) (n : Fin 128) :
    (iblk m c 4 t : FVec Ideal S64x128 .f32) (ix2 u n) = ChunkRet.co (ChunkRet.place t.val u.val) n := by
  have := ropeOf_le t.val
  rw [← place_of]
  refine Eq.trans ?_ (co_apply m c ⟨64 * ropeOf t.val + u.val, by omega⟩ n)
  blk_simp [iblk]
  blk_ext [idx4 t]
theorem x5_apply (c : Dev nD) (t : Fin cfg0.N) (u : Fin 64) (n : Fin 128) :
    (iblk m c 5 t : FVec Ideal S64x128 .f32) (ix2 u n) = ChunkRet.si (ChunkRet.place t.val u.val) n := by
  have := ropeOf_le t.val
  rw [← place_of]
  refine Eq.trans ?_ (si_apply m c ⟨64 * ropeOf t.val + u.val, by omega⟩ n)
  blk_simp [iblk]
  blk_ext [idx5 t]

/-! ## The starting states' block -/

theorem padded (x : FVec Ideal S16x4x256x256 .f32) (b : Fin 20) (h : Fin 4) (n w : Fin 256) :
    (pad S20x4x256x256 ![4, 0, 0, 0] ![0, 0, 0, 0] ![0, 0, 0, 0] x (sitofp FTy.f32 (constantI S_ 32 0#32) : FVec Ideal S_ .f32)
        pads_S16x4x256x256_S20x4x256x256_400_000_000_000 h_S_ : FVec Ideal S20x4x256x256 .f32) (ix4 b h n w)
      = if hb : 4 ≤ b.val then x (ix4 ⟨b.val - 4, by omega⟩ h n w) else 0 := by
  pointwise
  by_cases hb : 4 ≤ b.val
  · rw [dif_pos (And.intro hb (by omega)), dif_pos hb]
  · rw [dif_neg (fun h => hb h.1), dif_neg hb, sitofp_nat 0 (by decide)]
    norm_num

theorem st_apply (c : Dev nD) (b : Fin 20) (h : Fin 4) (n w : Fin 256) :
    (V m c main_v19 : FVec Ideal S20x4x256x256 .f32) (ix4 b h n w)
      = if hb : 4 ≤ b.val then stateOf m c (ix4 ⟨b.val - 4, by omega⟩ h n w) else 0 := by
  simp only [V, hostOps0, hostOps0_1, List.flatten_cons, List.flatten_nil, List.append_nil, List.cons_append, List.nil_append]
  entry_read
  exact padded (stateOf m c) b h n w

/-- The starting states of chunk `t`, where the chunk begins a stream. -/
theorem x6_apply (c : Dev nD) (t : Fin cfg0.N) (ht : t.val % 128 = 0 ∨ 512 ≤ t.val) (h : Fin 4) (n w : Fin 256) :
    (iblk m c 6 t : FVec Ideal S1x4x256x256 .f32) (ix4 (0 : Fin 1) h n w)
      = ChunkRet.before (X m c) (R m c) t.val h n w := by
  have hs := seqOf_lt t
  have hl := lt_points t
  have e : (iblk m c 6 t : FVec Ideal S1x4x256x256 .f32) (ix4 (0 : Fin 1) h n w)
      = (V m c main_v19 : FVec Ideal S20x4x256x256 .f32) (ix4 ⟨seqOf t.val, hs⟩ h n w) := by
    blk_simp [iblk]
    blk_ext [idx6 t]
  rw [e, st_apply]
  unfold ChunkRet.before ChunkRet.entering R
  by_cases h5 : 512 ≤ t.val
  · have hq : seqOf t.val = t.val - 508 := by unfold seqOf; rw [if_neg (by omega)]
    rw [if_pos h5, dif_pos (by show 4 ≤ seqOf t.val; omega), dif_pos (by omega)]
    congr 2
    exact Fin.ext (by show seqOf t.val - 4 = t.val - 512; omega)
  · have hq : seqOf t.val = t.val / 128 := by unfold seqOf; rw [if_pos (by omega)]
    rw [if_neg h5, if_pos (by omega), dif_neg (by show ¬ 4 ≤ seqOf t.val; omega)]

end Cert.KernelIdeal.Retention

end
-- ==== Proof.Retention.Chain.lean ====
/-
  What the grid leaves point by point: chunk `t`'s results and state are those of the streams' retention.
-/
module

public import proofs.«01_k».proof.Proof.Retention.Entry

@[expose] public section

set_option maxRecDepth 16384

noncomputable section

open Idealize.ShloMosaic Idealize.ShloMosaic.TcCoe Idealize.SL.Sem

namespace Cert.KernelIdeal.Retention

open Cert.KernelIdeal Cert.KernelIdeal.Gen

/-! ## The named constants -/

/-- The kernel's logarithms of the decays are `log (1 − 2^−(5 + h))`. -/
theorem lgK_eq (h : Fin 4) : lgK h = ChunkRet.lg h := by
  unfold lgK ChunkRet.lg
  match h with
  | 0 =>
    refine (IdealRules.named_const.ideal_named_scalar (φ := .f32) κ "log_gamma_0" 0xBD020AEC#32 _ rfl).trans ?_
    congr 2; norm_num
  | 1 =>
    refine (IdealRules.named_const.ideal_named_scalar (φ := .f32) κ "log_gamma_1" 0xBC8102B3#32 _ rfl).trans ?_
    congr 2; norm_num
  | 2 =>
    refine (IdealRules.named_const.ideal_named_scalar (φ := .f32) κ "log_gamma_2" 0xBC0080AC#32 _ rfl).trans ?_
    congr 2; norm_num
  | 3 =>
    refine (IdealRules.named_const.ideal_named_scalar (φ := .f32) κ "log_gamma_3" 0xBB80402B#32 _ rfl).trans ?_
    congr 2; norm_num

/-- The kernel's decays over a chunk are `(1 − 2^−(5 + h))^64`. -/
theorem dsK_eq (h : Fin 4) : dsK h = ChunkRet.ds h := by
  unfold dsK ChunkRet.ds
  match h with
  | 0 =>
    refine (IdealRules.named_const.ideal_named_scalar (φ := .f32) κ "decay_state_0" 0x3E063AE5#32 _ rfl).trans ?_
    congr 1; norm_num
  | 1 =>
    refine (IdealRules.named_const.ideal_named_scalar (φ := .f32) κ "decay_state_1" 0x3EBADF84#32 _ rfl).trans ?_
    congr 1; norm_num
  | 2 =>
    refine (IdealRules.named_const.ideal_named_scalar (φ := .f32) κ "decay_state_2" 0x3F1AF7A1#32 _ rfl).trans ?_
    congr 1; norm_num
  | 3 =>
    refine (IdealRules.named_const.ideal_named_scalar (φ := .f32) κ "decay_state_3" 0x3F474682#32 _ rfl).trans ?_
    congr 1; norm_num

variable (m : (ℓ : Loc nD τ sig) → Buf (Elt Ideal) ℓ)

section
variable (c : Dev nD) (t : Fin cfg0.N)

/-- The blocks' queries, keys, values and gates are chunk `t`'s. -/
theorem queries_eq (h : Fin 4) : turned (iblk m c 4 t) (iblk m c 5 t) (X0_0 m c t) h = ChunkRet.queries (X m c) t.val h := by
  funext u n
  unfold turned ChunkRet.queries
  congr 1
  · exact funext fun n => x4_apply m c t u n
  · exact funext fun n => x5_apply m c t u n
  · exact funext fun n => x0_apply m c t u (col h n)
theorem keys_eq (h : Fin 4) : keys (iblk m c 4 t) (iblk m c 5 t) (X0_1 m c t) h = ChunkRet.keys (X m c) t.val h := by
  funext u n
  unfold keys turned ChunkRet.keys
  congr 2
  · exact funext fun n => x4_apply m c t u n
  · exact funext fun n => x5_apply m c t u n
  · exact funext fun n => x1_apply m c t u (col h n)
theorem vals_eq (h : Fin 4) :
    (fun u n => (X0_2 m c t : FVec Ideal S64x1024 .f32) (ix2 u (col h n))) = ChunkRet.vals (X m c) t.val h := by
  funext u n
  exact x2_apply m c t u (col h n)

/-- What a point leaves in a head, from the state it starts from. -/
theorem blockState_eq (r : FVec Ideal S1x4x256x256 .f32) (h : Fin 4) (n w : Fin 256) :
    blockState (X0_1 m c t) (X0_2 m c t) (iblk m c 4 t) (iblk m c 5 t) r h n w
      = ChunkRet.leave (X m c) t.val (fun h n w => r (ix4 (0 : Fin 1) h n w)) h n w := by
  unfold blockState ChunkRet.leave
  rw [keys_eq, vals_eq, lgK_eq, dsK_eq]
theorem blockOut_eq (r : FVec Ideal S1x4x256x256 .f32) (h : Fin 4) (u : Fin 64) (w : Fin 256) :
    blockOut (X0_0 m c t) (X0_1 m c t) (X0_2 m c t) (X0_3 m c t) (iblk m c 4 t) (iblk m c 5 t) r h u w
      = ChunkRet.result (X m c) t.val (fun h n w => r (ix4 (0 : Fin 1) h n w)) h u w := by
  unfold blockOut ChunkRet.result
  rw [queries_eq, keys_eq, vals_eq, lgK_eq, x3_apply]
  rfl
end

/-- Where a point goes on from the point before, it starts from what that point left. -/
theorem before_of_next (c : Dev nD) (t : ℕ) (h0 : ¬(t % 128 = 0 ∨ 512 ≤ t)) :
    ChunkRet.before (X m c) (R m c) t = ChunkRet.after (X m c) (R m c) (t - 1) := by
  unfold ChunkRet.before ChunkRet.entering
  rw [if_neg (by omega), if_neg (by omega)]

/-- The state after point `t` is what chunk `t` leaves. -/
theorem state_eq (c : Dev nD) (t : ℕ) (ht : t < cfg0.N) (h : Fin 4) (n w : Fin 256) :
    ((outsAt m c t ht).2 : FVec Ideal S1x4x256x256 .f32) (ix4 (0 : Fin 1) h n w)
      = ChunkRet.after (X m c) (R m c) t h n w := by
  induction t using Nat.strong_induction_on generalizing h n w with
  | _ t ih =>
    rw [ChunkRet.after_eq]
    by_cases h0 : t % 128 = 0 ∨ 512 ≤ t
    · refine (state_at_first m c ⟨t, ht⟩ h0 h n w).trans ((blockState_eq m c ⟨t, ht⟩ _ h n w).trans ?_)
      congr 1
      funext h n w
      exact x6_apply m c ⟨t, ht⟩ h0 h n w
    · refine (state_at_next m c ⟨t, ht⟩ h0 h n w).trans ((blockState_eq m c ⟨t, ht⟩ _ h n w).trans ?_)
      rw [before_of_next m c t h0]
      congr 1
      funext h n w
      exact ih (t - 1) (by omega) (Nat.lt_of_le_of_lt (Nat.sub_le _ _) ht) h n w

/-- The rows that point `t` stores are chunk `t`'s results. -/
theorem out_eq (c : Dev nD) (t : Fin cfg0.N) (h : Fin 4) (u : Fin 64) (w : Fin 256) :
    ((outsAt m c t.val t.isLt).1 : FVec Ideal S64x1024 .f32) (ix2 u (col h w))
      = ChunkRet.result (X m c) t.val (ChunkRet.before (X m c) (R m c) t.val) h u w := by
  by_cases h0 : t.val % 128 = 0 ∨ 512 ≤ t.val
  · refine (out_first m c t h0 h u w).trans ((blockOut_eq m c t _ h u w).trans ?_)
    congr 1
    funext h n w
    exact x6_apply m c t h0 h n w
  · refine (out_next m c t h0 h u w).trans ((blockOut_eq m c t _ h u w).trans ?_)
    rw [before_of_next m c t.val h0]
    congr 1
    funext h n w
    exact state_eq m c (t.val - 1) (Nat.lt_of_le_of_lt (Nat.sub_le _ _) t.isLt) h n w

end Cert.KernelIdeal.Retention

end
-- ==== Proof.Retention.Final.lean ====
/-
  The call's two results after the run, and the run itself.
-/
module

public import proofs.«01_k».proof.Proof.Retention.Chain
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.KernelIdeal.Retention

open Cert.KernelIdeal Cert.KernelIdeal.Gen

variable (m : (ℓ : Loc nD τ sig) → Buf (Elt Ideal) ℓ)

/-- The retained, normalised and gated rows of all streams. -/
def rowsOf (c : Dev nD) : FVec Ideal S33792x1024 .bf16 := fun i => ChunkRet.rows (X m c) (R m c) (i 0) (i 1)

/-- The states of all streams at their ends. -/
def statesOf (c : Dev nD) : FVec Ideal S20x4x256x256 .f32 := fun i => ChunkRet.states (X m c) (R m c) (i 0) (i 1) (i 2) (i 3)

/-- The first result's array after the run. -/
theorem final7 (c : Dev nD) : (dats m 0 c).arrAt 7 cfg0.N = rowsOf m c := by
  refine (dats m 0 c).arrAt_eq_of_covers 7 _ (by decide +kernel) fun t hf y => ?_
  have hl := lt_points t
  blk_simp
  rw [after0_7]
  obtain ⟨u, v, rfl⟩ : ∃ (u : Fin 64) (v : Fin 1024), y = (ix2 u v : S64x1024.Idx) := ⟨y 0, y 1, by funext a; match a with | 0 => rfl | 1 => rfl⟩
  have e : rowsOf m c (ix2 (⟨64 * t.val + u.val, by omega⟩ : Fin 33792) v) = rowsOf m c ((win0_7.blk t).view.emb (ix2 u v)) := by
    blk_ext [idx7 t]
  rw [← e]
  have hv : v = col (⟨v.val / 256, by omega⟩ : Fin 4) (⟨v.val % 256, by omega⟩ : Fin 256) :=
    Fin.ext (by show v.val = 256 * (v.val / 256) + v.val % 256; omega)
  refine (congrArg (fun v => ((outsAt m c t.val t.isLt).1 : FVec Ideal S64x1024 .f32) (ix2 u v)) hv).trans ((out_eq m c t _ u _).trans ?_)
  show _ = ChunkRet.rows (X m c) (R m c) ⟨64 * t.val + u.val, by omega⟩ v
  unfold ChunkRet.rows
  have h1 : (64 * t.val + u.val) / 64 = t.val := by omega
  have h2 : (⟨(64 * t.val + u.val) % 64, by omega⟩ : Fin 64) = u := Fin.ext (by show (64 * t.val + u.val) % 64 = u.val; omega)
  rw [h1, h2]

/-- The second result's array after the run: only a stream's last chunk writes it back. -/
theorem final8 (c : Dev nD) : (dats m 0 c).arrAt 8 cfg0.N = statesOf m c := by
  refine (dats m 0 c).arrAt_eq_of_covers 8 _ (by decide +kernel) fun t hf y => ?_
  have hl := lt_points t
  have h8 := (state_flush t).mp hf
  blk_simp
  rw [after0_8]
  obtain ⟨h, n, w, rfl⟩ : ∃ (h : Fin 4) (n w : Fin 256), y = (ix4 (0 : Fin 1) h n w : S1x4x256x256.Idx) :=
    ⟨y 1, y 2, y 3, by
      funext a
      match a with
      | 0 => exact Subsingleton.elim (α := Fin 1) _ _
      | 1 => rfl
      | 2 => rfl
      | 3 => rfl⟩
  have hs := seqOf_lt t
  have e : statesOf m c (ix4 (⟨seqOf t.val, hs⟩ : Fin 20) h n w) = statesOf m c ((win0_8.blk t).view.emb (ix4 (0 : Fin 1) h n w)) := by
    blk_ext [idx8 t]
  rw [← e]
  refine (state_eq m c t.val t.isLt h n w).trans ?_
  show _ = ChunkRet.after (X m c) (R m c) (ChunkRet.last (seqOf t.val)) h n w
  rw [show ChunkRet.last (seqOf t.val) = t.val by unfold ChunkRet.last seqOf; split_ifs <;> omega]

/-- Every run of the kernel ends with the two results so, and its arguments unchanged. -/
theorem run (ρ : Dev nD → PrngReg) : θ_run defs (onTc (τ := τ) (main (F := Ideal))) ⟨m, fun _ => 0, ρ⟩ fun r => ∀ c : Dev nD,
      r.2.mem ((c : Thread nD τ).loc main_v20_0) = rowsOf m c
      ∧ r.2.mem ((c : Thread nD τ).loc main_v20_1) = statesOf m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 7).trans (final7 m c), ((h c).1 8).trans (final8 m c),
      ((h c).1 3).trans (((dats m 0 c).arrAt_in 3 rfl _).trans ((A_eq m c 3).trans (V_main_arg0 m c))),
      ((h c).2 main_arg1 (Pipeline.mem_restRefs_of main_arg1 (by decide) (by decide))).trans (V_main_arg1 m c)⟩)
    (run_main m ρ)

end Cert.KernelIdeal.Retention

end
-- ==== Proof.Reference.Trips.lean ====
/-
  The reference's run, stated over one trip of its loop: what the loop carries at a trip, and the two results as fields
  of the carried values after the last trip.
-/
module

public import proofs.«01_k».proof.Proof.Gen.ReferenceIdeal.Run
public import proofs.«01_k».proof.Proof.Gen.ReferenceIdeal.Step

@[expose] public section

set_option maxRecDepth 8192

noncomputable section

namespace Cert.ReferenceIdeal.Trips

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- A valuation stands at trip `j` with the carried values `s`: the state and the outputs so far, the three stacked
    inputs, the four decay tables and the trip's number. -/
structure Holds : Prop where
  f_8 : V0 (Proc.devRef .tc main_v134_8) = s.main_v134_8
  f_9 : V0 (Proc.devRef .tc main_v134_9) = s.main_v134_9
  f_0 : V0 (Proc.devRef .tc main_v134_0) = s.main_v134_0
  f_1 : V0 (Proc.devRef .tc main_v134_1) = s.main_v134_1
  f_2 : V0 (Proc.devRef .tc main_v134_2) = s.main_v134_2
  n_7 : V0 (Proc.devRef .tc main_v134_7) = constantI S_ 32 (BitVec.ofNat 32 j)
  k_3 : V0 (Proc.devRef .tc main_v134_3) = Step.K_main_v107 (F := F)
  k_4 : V0 (Proc.devRef .tc main_v134_4) = Step.K_main_v115 (F := F)
  k_5 : V0 (Proc.devRef .tc main_v134_5) = Step.K_main_v126 (F := F)
  k_6 : V0 (Proc.devRef .tc main_v134_6) = Step.K_main_v123 (F := F)

variable {V0 s j}

/-- The trip's queries, keys and values: entry `j` of the stacked inputs. -/
theorem queries (h : Holds V0 s j) : res_main_while0b_v337 V0 = Step.b5 j s := by
  unfold res_main_while0b_v337; rw [h.f_0, h.n_7]; rfl
theorem keys (h : Holds V0 s j) : res_main_while0b_v338 V0 = Step.b11 j s := by
  unfold res_main_while0b_v338; rw [h.f_1, h.n_7]; rfl
theorem vals (h : Holds V0 s j) : res_main_while0b_v339 V0 = Step.b17 j s := by
  unfold res_main_while0b_v339; rw [h.f_2, h.n_7]; rfl

/-- The state a trip leaves. -/
theorem step_state (h : Holds V0 s j) : step_main_v134_8 V0 = (step j s).main_v134_8 := by
  unfold step_main_v134_8
  rw [h.k_5, h.f_8, h.k_6, keys h, vals h]
  rfl

/-- The outputs a trip leaves: those of the trips before, and its own at entry `j`. -/
theorem step_out (h : Holds V0 s j) : step_main_v134_9 V0 = (step j s).main_v134_9 := by
  unfold step_main_v134_9
  rw [h.f_9, h.k_3, h.k_4, h.f_8, h.n_7, queries h, keys h, vals h]
  rfl

/-- A trip counts up. -/
theorem step_count (h : Holds V0 s j) : step_main_v134_7 V0 = constantI S_ 32 (BitVec.ofNat 32 (j + 1)) := by
  unfold step_main_v134_7
  rw [h.n_7]
  funext i
  show BitVec.ofNat 32 j + 1#32 = BitVec.ofNat 32 (j + 1)
  simp only [BitVec.ofNat_add]

/-- The first result, from what the last trip leaves and the two arguments. -/
theorem out_0 (h : Holds V0 s j) {x : (⟨S33792x17920, .f32⟩ : BufTy).Contents (Elt F)} (hx : V0 (Proc.devRef .tc main_arg0) = x)
    {r : (⟨S16x4x256x256, .f32⟩ : BufTy).Contents (Elt F)} (hr : V0 (Proc.devRef .tc main_arg1) = r) :
    out_main_v335 V0 = Step.R_main_v335 s x r := by
  unfold out_main_v335
  rw [h.f_9, hx, hr]
  rfl

/-- The second result, likewise. -/
theorem out_1 (h : Holds V0 s j) {x : (⟨S33792x17920, .f32⟩ : BufTy).Contents (Elt F)} (hx : V0 (Proc.devRef .tc main_arg0) = x)
    {r : (⟨S16x4x256x256, .f32⟩ : BufTy).Contents (Elt F)} (hr : V0 (Proc.devRef .tc main_arg1) = r) :
    out_main_v336 V0 = Step.R_main_v336 s x r := by
  unfold out_main_v336
  rw [h.f_8, hx, hr]
  rfl

/-- One trip carries the valuation from trip `j` to trip `j + 1`. -/
theorem holds_step (h : Holds V0 s j) : Holds (STEP V0) (step j s) (j + 1) where
  f_8 := (STEP_main_v134_8 V0).trans (step_state h)
  f_9 := (STEP_main_v134_9 V0).trans (step_out h)
  n_7 := (STEP_main_v134_7 V0).trans (step_count h)
  k_3 := (STEP_main_v134_3 V0).trans h.k_3
  k_4 := (STEP_main_v134_4 V0).trans h.k_4
  k_5 := (STEP_main_v134_5 V0).trans h.k_5
  k_6 := (STEP_main_v134_6 V0).trans h.k_6
  f_0 := (STEP_main_v134_0 V0).trans h.f_0
  f_1 := (STEP_main_v134_1 V0).trans h.f_1
  f_2 := (STEP_main_v134_2 V0).trans h.f_2

/-- The carried values before the first trip. -/
abbrev initState (m : (ℓ : Loc nD τ sig) → Buf (Elt F) ℓ) (c : Dev nD) : State F :=
  init (m ((c.tc : Thread nD τ).loc main_arg0))

variable (m : (ℓ : Loc nD τ sig) → Buf (Elt F) ℓ) (c : Dev nD)

set_option maxRecDepth 65536 in
set_option maxHeartbeats 700000 in
/-- The operations before the loop bring the valuation to trip 0. -/
theorem entry_holds : Holds (entryContents preI m c) (initState m c) 0 := by
  constructor <;> (simp only [entryContents, afterL_cons, afterL_nil]; after_reads_simp) <;> rfl

/-- Before trip `k` the valuation stands at trip `k` of any sequence of carried values that starts and steps as the loop. -/
theorem holds_iter (it : ℕ → State F) (h0 : it 0 = initState m c) (hs : ∀ n, it (n + 1) = step n (it n)) (k : ℕ) :
    Holds (STEP^[k] (entryContents preI m c)) (it k) k := by
  induction k with
  | zero => exact h0 ▸ entry_holds m c
  | succ k ih =>
    rw [Function.iterate_succ_apply', hs k]
    exact holds_step ih

/-- The carried values of the loop, trip by trip. -/
def carried (c : Dev nD) : ℕ → State F
  | 0 => initState m c
  | n + 1 => step n (carried c n)

/-- Every run of the reference ends, its results the fields of the carried values after 128 trips, its arguments unchanged. -/
theorem run (ρ : Dev nD → PrngReg) :
    θ_run (defs (F := F)) (onTc (τ := τ) (main (F := F))) ⟨m, fun _ => 0, ρ⟩ fun r => ∀ c : Dev nD,
      r.2.mem ((c.tc : Thread nD τ).loc main_v335) = Step.R_main_v335 (carried m c 128) (m ((c.tc : Thread nD τ).loc main_arg0)) (m ((c.tc : Thread nD τ).loc main_arg1))
      ∧ r.2.mem ((c.tc : Thread nD τ).loc main_v336) = Step.R_main_v336 (carried m c 128) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    have hk := holds_iter m c (carried m c) rfl (fun _ => rfl) 128
    ⟨(h c).1.trans (out_0 hk (iter_main_arg0 m c 128) (iter_main_arg1 m c 128)),
      (h c).2.1.trans (out_1 hk (iter_main_arg0 m c 128) (iter_main_arg1 m c 128)), (h c).2.2.1, (h c).2.2.2⟩) (Value.run m ρ)

end Cert.ReferenceIdeal.Trips

end
-- ==== Proof.Reference.Text.lean ====
/-
  The reference's array text after its loop, each of its functions once: the sample streams' queries, keys and values, one
  chunk over them, the normalisation and the gate.
-/
module

public import proofs.«01_k».proof.Proof.Gen.ReferenceIdeal.Step

@[expose] public section

set_option maxRecDepth 65536

noncomputable section

namespace Cert.ReferenceIdeal.Text

open Idealize.ShloMosaic Idealize.ShloMosaic.TcCoe
open Cert.ReferenceIdeal Cert.ReferenceIdeal.Gen Cert.ReferenceIdeal.Step

variable {F : FTy → Type} [FloatOps F]

/-- The sample streams' rows of the projection. -/
def sampleRows (x : FVec F S33792x17920 .f32) : FVec F S1024x17920 .f32 :=
  extractStridedSlice S1024x17920 ![32768, 0] x slices_S33792x17920_S1024x17920_32768_0

/-- Their columns of queries, of keys, of values, frame by frame and head by head. -/
def part0 (x : FVec F S33792x17920 .f32) : FVec F S16x64x4x256 .f32 :=
  shapeCast _ (extractStridedSlice S1024x1024 ![0, 13312] (sampleRows x) slices_S1024x17920_S1024x1024_0_13312)
    shapeCasts_S1024x1024_S16x64x4x256
def part1 (x : FVec F S33792x17920 .f32) : FVec F S16x64x4x256 .f32 :=
  shapeCast _ (extractStridedSlice S1024x1024 ![0, 14336] (sampleRows x) slices_S1024x17920_S1024x1024_0_14336)
    shapeCasts_S1024x1024_S16x64x4x256
def part2 (x : FVec F S33792x17920 .f32) : FVec F S16x64x4x256 .f32 :=
  shapeCast _ (extractStridedSlice S1024x1024 ![0, 15360] (sampleRows x) slices_S1024x17920_S1024x1024_0_15360)
    shapeCasts_S1024x1024_S16x64x4x256

/-- The angles of the 64 positions from 4096 on. -/
def angles : FVec F S64x128 .f32 :=
  mulf
    (broadcastInDim S64x128 ![0, 1] bcast_S64x1_S64x128_0_1
      (broadcastInDim S64x1 ![0] bcast_S64_S64x1_0
        (sitofp .f32 (addi (broadcastInDim S64 ![] bcast_S_S64 (constantI S_ 32 4096#32)) (iotaInDim S64 32 0)))))
    (broadcastInDim S64x128 ![0, 1] bcast_S1x128_S64x128_0_1 (broadcastInDim S1x128 ![1] bcast_S128_S1x128_1
      (Host.powf (broadcastInDim S128 ![] bcast_S_S128 (constant S_ .f32 0x461C4000#32))
        (Host.divf (Host.negf (sitofp .f32 (iotaInDim S128 32 0)))
          (broadcastInDim S128 ![] bcast_S_S128 (constant S_ .f32 0x43000000#32))))))

/-- A table over positions and lanes, for every stream and head. -/
def spread (a : FVec F S64x128 .f32) : FVec F S16x64x4x128 .f32 :=
  broadcastInDim S16x64x4x128 ![0, 1, 2, 3] bcast_S1x64x1x128_S16x64x4x128_0_1_2_3
    (broadcastInDim S1x64x1x128 ![1, 2, 3] bcast_S64x1x128_S1x64x1x128_1_2_3
      (broadcastInDim S64x1x128 ![0, 2] bcast_S64x128_S64x1x128_0_2 a))

/-- A row's halves. -/
def lower (x : FVec F S16x64x4x256 .f32) : FVec F S16x64x4x128 .f32 :=
  extractStridedSlice S16x64x4x128 ![0, 0, 0, 0] x slices_S16x64x4x256_S16x64x4x128_0_0_0_0
def upper (x : FVec F S16x64x4x256 .f32) : FVec F S16x64x4x128 .f32 :=
  extractStridedSlice S16x64x4x128 ![0, 0, 0, 128] x slices_S16x64x4x256_S16x64x4x128_0_0_0_128

/-- The rows turned by their positions' angles. -/
def turned (x : FVec F S16x64x4x256 .f32) : FVec F S16x64x4x256 .f32 :=
  concatenate S16x64x4x256 3
    [⟨S16x64x4x128, subf (mulf (lower x) (spread (Host.cos angles))) (mulf (upper x) (spread (Host.sin angles)))⟩,
      ⟨S16x64x4x128, addf (mulf (lower x) (spread (Host.sin angles))) (mulf (upper x) (spread (Host.cos angles)))⟩]
    concatenates_S16x64x4x128_S16x64x4x128_S16x64x4x256_d3

/-- The sample streams' queries, keys and values, head by head. -/
def queries (x : FVec F S33792x17920 .f32) : FVec F S16x4x64x256 .f32 :=
  transpose S16x4x64x256 [0, 2, 1, 3] (turned (part0 x)) transposes_S16x64x4x256_S16x4x64x256_0_2_1_3
def keys (x : FVec F S33792x17920 .f32) : FVec F S16x4x64x256 .f32 :=
  transpose S16x4x64x256 [0, 2, 1, 3]
    (mulf (turned (part1 x)) (broadcastInDim S16x64x4x256 ![] bcast_S_S16x64x4x256 (constant S_ .f32 0x3D800000#32)))
    transposes_S16x64x4x256_S16x4x64x256_0_2_1_3
def vals (x : FVec F S33792x17920 .f32) : FVec F S16x4x64x256 .f32 :=
  transpose S16x4x64x256 [0, 2, 1, 3] (part2 x) transposes_S16x64x4x256_S16x4x64x256_0_2_1_3

/-- One chunk's outputs. -/
def outputs (q k v : FVec F S16x4x64x256 .f32) (r : FVec F S16x4x256x256 .f32) : FVec F S16x4x64x256 .f32 :=
  addf
    (Host.dotGeneral dot_S16x4x64x64_S16x4x64x256_S16x4x64x256_3_2_2_3_01_01 none
      (mulf (Host.dotGeneral dot_S16x4x64x256_S16x4x64x256_S16x4x64x64_3_3_2_2_01_01 none q k)
        (broadcastInDim S16x4x64x64 ![0, 1, 2, 3] bcast_S1x4x64x64_S16x4x64x64_0_1_2_3
          (broadcastInDim S1x4x64x64 ![1, 2, 3] bcast_S4x64x64_S1x4x64x64_1_2_3 K_main_v107))) v)
    (mulf
      (broadcastInDim S16x4x64x256 ![0, 1, 2, 3] bcast_S1x4x64x1_S16x4x64x256_0_1_2_3
        (broadcastInDim S1x4x64x1 ![1, 2, 3] bcast_S4x64x1_S1x4x64x1_1_2_3
          (broadcastInDim S4x64x1 ![0, 1] bcast_S4x64_S4x64x1_0_1 K_main_v115)))
      (Host.dotGeneral dot_S16x4x64x256_S16x4x256x256_S16x4x64x256_3_2_2_3_01_01 none q r))

/-- The states one chunk leaves. -/
def newStates (k v : FVec F S16x4x64x256 .f32) (r : FVec F S16x4x256x256 .f32) : FVec F S16x4x256x256 .f32 :=
  addf
    (mulf
      (broadcastInDim S16x4x256x256 ![0, 1, 2, 3] bcast_S1x4x1x1_S16x4x256x256_0_1_2_3
        (broadcastInDim S1x4x1x1 ![1, 2, 3] bcast_S4x1x1_S1x4x1x1_1_2_3 (broadcastInDim S4x1x1 ![0] bcast_S4_S4x1x1_0 K_main_v126)))
      r)
    (Host.dotGeneral dot_S16x4x64x256_S16x4x64x256_S16x4x256x256_2_2_3_3_01_01 none
      (mulf k (broadcastInDim S16x4x64x256 ![0, 1, 2, 3] bcast_S1x4x64x1_S16x4x64x256_0_1_2_3
        (broadcastInDim S1x4x64x1 ![1, 2, 3] bcast_S4x64x1_S1x4x64x1_1_2_3
          (broadcastInDim S4x64x1 ![0, 1] bcast_S4x64_S4x64x1_0_1 K_main_v123)))) v)

/-! ## The normalisation and the gate, of the sample streams and of the prompts -/

def meanS (y : FVec F S16x64x4x256 .f32) : FVec F S16x64x4x1 .f32 :=
  Host.divf
    (broadcastInDim S16x64x4x1 ![0, 1, 2] bcast_S16x64x4_S16x64x4x1_0_1_2
      (Host.reduceAdd y (constant S_ .f32 0x00000000#32) reducesTo_S16x64x4x256_S16x64x4_d3 h_S_))
    (broadcastInDim S16x64x4x1 ![] bcast_S_S16x64x4x1 (constant S_ .f32 0x43800000#32))
def centredS (y : FVec F S16x64x4x256 .f32) : FVec F S16x64x4x256 .f32 :=
  subf y (broadcastInDim S16x64x4x256 ![0, 1, 2, 3] bcast_S16x64x4x1_S16x64x4x256_0_1_2_3 (meanS y))
def normedS (y : FVec F S16x64x4x256 .f32) : FVec F S16x64x4x256 .f32 :=
  mulf (centredS y)
    (broadcastInDim S16x64x4x256 ![0, 1, 2, 3] bcast_S16x64x4x1_S16x64x4x256_0_1_2_3
      (Host.rsqrt (addf (meanS (mulf (centredS y) (centredS y)))
        (broadcastInDim S16x64x4x1 ![] bcast_S_S16x64x4x1 (constant S_ .f32 0x3727C5AC#32)))))
def siluS (g : FVec F S1024x1024 .f32) : FVec F S1024x1024 .f32 :=
  mulf g (Host.divf (broadcastInDim S1024x1024 ![] bcast_S_S1024x1024 (constant S_ .f32 0x3F800000#32))
    (addf (broadcastInDim S1024x1024 ![] bcast_S_S1024x1024 (constant S_ .f32 0x3F800000#32)) (Host.exp (Host.negf g))))
/-- The sample streams' results. -/
def resultS (y : FVec F S16x64x4x256 .f32) (x : FVec F S33792x17920 .f32) : FVec F S1024x1024 .f32 :=
  mulf (shapeCast _ (normedS y) shapeCasts_S16x64x4x256_S1024x1024)
    (siluS (extractStridedSlice S1024x1024 ![0, 16384] (sampleRows x) slices_S1024x17920_S1024x1024_0_16384))

def meanP (y : FVec F S4x8192x4x256 .f32) : FVec F S4x8192x4x1 .f32 :=
  Host.divf
    (broadcastInDim S4x8192x4x1 ![0, 1, 2] bcast_S4x8192x4_S4x8192x4x1_0_1_2
      (Host.reduceAdd y (constant S_ .f32 0x00000000#32) reducesTo_S4x8192x4x256_S4x8192x4_d3 h_S_))
    (broadcastInDim S4x8192x4x1 ![] bcast_S_S4x8192x4x1 (constant S_ .f32 0x43800000#32))
def centredP (y : FVec F S4x8192x4x256 .f32) : FVec F S4x8192x4x256 .f32 :=
  subf y (broadcastInDim S4x8192x4x256 ![0, 1, 2, 3] bcast_S4x8192x4x1_S4x8192x4x256_0_1_2_3 (meanP y))
def normedP (y : FVec F S4x8192x4x256 .f32) : FVec F S4x8192x4x256 .f32 :=
  mulf (centredP y)
    (broadcastInDim S4x8192x4x256 ![0, 1, 2, 3] bcast_S4x8192x4x1_S4x8192x4x256_0_1_2_3
      (Host.rsqrt (addf (meanP (mulf (centredP y) (centredP y)))
        (broadcastInDim S4x8192x4x1 ![] bcast_S_S4x8192x4x1 (constant S_ .f32 0x3727C5AC#32)))))
def siluP (g : FVec F S32768x1024 .f32) : FVec F S32768x1024 .f32 :=
  mulf g (Host.divf (broadcastInDim S32768x1024 ![] bcast_S_S32768x1024 (constant S_ .f32 0x3F800000#32))
    (addf (broadcastInDim S32768x1024 ![] bcast_S_S32768x1024 (constant S_ .f32 0x3F800000#32)) (Host.exp (Host.negf g))))
/-- The prompts' results. -/
def resultP (y : FVec F S4x8192x4x256 .f32) (x : FVec F S33792x17920 .f32) : FVec F S32768x1024 .f32 :=
  mulf (shapeCast _ (normedP y) shapeCasts_S4x8192x4x256_S32768x1024)
    (siluP (extractStridedSlice S32768x1024 ![0, 16384]
      (extractStridedSlice S32768x17920 ![0, 0] x slices_S33792x17920_S32768x17920_0_0) slices_S32768x17920_S32768x1024_0_16384))

/-- The prompts' outputs, frame by frame, from the loop's chunk by chunk. -/
def unchunked (o : FVec F S128x4x4x64x256 .f32) : FVec F S4x8192x4x256 .f32 :=
  shapeCast _ (transpose S4x128x64x4x256 [1, 0, 3, 2, 4] o transposes_S128x4x4x64x256_S4x128x64x4x256_1_0_3_2_4)
    shapeCasts_S4x128x64x4x256_S4x8192x4x256

/-- The first result: the prompts' rows, then the sample streams'. -/
theorem result_0 (s : State F) (x : FVec F S33792x17920 .f32) (r : FVec F S16x4x256x256 .f32) :
    R_main_v335 s x r
      = truncf .bf16 (concatenate S33792x1024 0 [⟨S32768x1024, resultP (unchunked s.main_v134_9) x⟩,
          ⟨S1024x1024, resultS (transpose S16x64x4x256 [0, 2, 1, 3] (outputs (queries x) (keys x) (vals x) r)
            transposes_S16x4x64x256_S16x64x4x256_0_2_1_3) x⟩]
          concatenates_S32768x1024_S1024x1024_S33792x1024_d0) bitsLt_bf16_f32 := rfl

/-- The second result: the prompts' states, then the sample streams'. -/
theorem result_1 (s : State F) (x : FVec F S33792x17920 .f32) (r : FVec F S16x4x256x256 .f32) :
    R_main_v336 s x r
      = concatenate S20x4x256x256 0 [⟨S4x4x256x256, s.main_v134_8⟩, ⟨S16x4x256x256, newStates (keys x) (vals x) r⟩]
          concatenates_S4x4x256x256_S16x4x256x256_S20x4x256x256_d0 := rfl

end Cert.ReferenceIdeal.Text

end
-- ==== Proof.Reference.Tables.lean ====
/-
  The reference's decay tables and the sample streams' queries, keys and values, over the extended reals.
-/
module

public import proofs.«01_k».proof.Proof.Reference.Text
public import proofs.«01_k».proof.Proof.Retention.Streams

@[expose] public section

set_option maxRecDepth 16384

noncomputable section

namespace Cert.ReferenceIdeal.Tables

open Idealize.ShloMosaic Idealize.ShloMosaic.TcCoe
open Cert.ReferenceIdeal Cert.ReferenceIdeal.Gen Cert.ReferenceIdeal.Step Cert.ReferenceIdeal.Text

/-! ## Float words as numbers -/

theorem word_two : Ideal.ofBits FTy.f32 0x40000000#32 = ((2 : ℝ) : EReal) := by simp [Ideal.ofBits, Ideal.ieee, -EReal.coe_mul, -EReal.coe_neg]; norm_num
theorem word_neg_five : Ideal.ofBits FTy.f32 0xC0A00000#32 = ((-5 : ℝ) : EReal) := by simp [Ideal.ofBits, Ideal.ieee, -EReal.coe_mul, -EReal.coe_neg]; norm_num
theorem word_64 : Ideal.ofBits FTy.f32 0x42800000#32 = ((64 : ℝ) : EReal) := by simp [Ideal.ofBits, Ideal.ieee, -EReal.coe_mul, -EReal.coe_neg]; norm_num

/-- A number below 2³¹ as a word, read back. -/
theorem sitofp_nat (k : ℕ) (hk : k < 2 ^ 31) : (FloatOps.sitofp FTy.f32 (BitVec.ofNat 32 k) : Ideal .f32) = ((k : ℝ) : EReal) := by
  have h : (BitVec.ofNat 32 k).toInt = (k : ℤ) := by
    have e : (BitVec.ofNat 32 k).toNat = k := by rw [BitVec.toNat_ofNat]; exact Nat.mod_eq_of_lt (by omega)
    rw [BitVec.toInt_eq_toNat_of_lt (by rw [e]; omega), e]
  show (((BitVec.ofNat 32 k).toInt : ℝ) : EReal) = _
  rw [h]; norm_cast

/-! ## The decays -/

/-- A head's decay lies in (0, 1). -/
theorem decay_pos (h : Fin 4) : (0 : ℝ) < 1 - (1 / 2) ^ (5 + h.val) := by
  have : ((1 : ℝ) / 2) ^ (5 + h.val) < 1 := pow_lt_one₀ (by norm_num) (by norm_num) (by omega)
  linarith

theorem log_decay (h : Fin 4) : (K_main_v86 (F := Ideal) : FVec Ideal S4 .f32) (ix1 h) = ChunkRet.lg h := by
  pointwise [K_main_v86, K_main_v85, K_main_v84, K_main_v83, K_main_v82, K_main_v81, K_main_v80, K_main_v79, K_main_cst_5, K_main_cst_6, K_main_cst_7]
  have e : Real.rpow 2 (-5 - (h.val : ℝ)) = (1 / 2) ^ (5 + h.val) := by
    show (2 : ℝ) ^ (-5 - (h.val : ℝ)) = _
    rw [show -5 - (h.val : ℝ) = -((5 + h.val : ℕ) : ℝ) by push_cast; ring, Real.rpow_neg (by norm_num), Real.rpow_natCast,
      one_div, inv_pow]
  have hp := decay_pos h
  have w : Ideal.ofBits FTy.f32 1073741824#32 = ((2 : ℝ) : EReal) := word_two
  have w' : Ideal.ofBits FTy.f32 3231711232#32 = ((-5 : ℝ) : EReal) := word_neg_five
  rw [w, w', sitofp_nat h.val (by omega), ← EReal.coe_sub, Ideal.pow_coe_coe, e, ← EReal.coe_one, ← EReal.coe_sub,
    Ideal.log_coe, if_neg (not_le.mpr hp)]
  rfl

theorem decay_in (h : Fin 4) (t u : Fin 64) :
    (K_main_v107 (F := Ideal) : FVec Ideal S4x64x64 .f32) (ix3 h t u) = ChunkRet.mask (ChunkRet.lg h) t u := by
  pointwise [K_main_v107, K_main_call0_v1, K_main_call0_v2, K_main_call0_v0, K_main_cst_9, K_main_v106, K_main_v105, K_main_v104, K_main_v103, K_main_v102, K_main_v101, K_main_v100, K_main_cst_8, K_main_v99, K_main_v98, K_main_v97, K_main_v96, K_main_v95, K_main_v94, K_main_v93, K_main_v92, K_main_v91, K_main_v90, K_main_v89, K_main_v88, K_main_v87]
  simp only [log_decay, ChunkRet.sitofp_row]
  have hc : IntOp.cmpi CmpIPredicate.sge (BitVec.ofNat 32 t.val) (BitVec.ofNat 32 u.val) = if u.val ≤ t.val then 1#1 else 0#1 :=
    (by decide +kernel : ∀ t u : Fin 64,
      IntOp.cmpi CmpIPredicate.sge (BitVec.ofNat 32 t.val) (BitVec.ofNat 32 u.val) = if u.val ≤ t.val then 1#1 else 0#1) t u
  unfold ChunkRet.mask
  rw [hc]
  by_cases h : u.val ≤ t.val
  · rw [if_pos h, if_pos h]; rfl
  · rw [if_neg h, if_neg h]
    exact Ideal.ofBits_zero_f32

theorem decay_q (h : Fin 4) (t : Fin 64) :
    (K_main_v115 (F := Ideal) : FVec Ideal S4x64 .f32) (ix2 h t) = Ideal.exp (ChunkRet.lg h * (((t.val : ℝ) : EReal) + 1)) := by
  pointwise [K_main_v115, K_main_v114, K_main_v113, K_main_v112, K_main_v111, K_main_v110, K_main_v109, K_main_v108, K_main_cst_10, K_main_v88, K_main_v87]
  simp only [log_decay, ChunkRet.sitofp_row]

theorem decay_k (h : Fin 4) (u : Fin 64) :
    (K_main_v123 (F := Ideal) : FVec Ideal S4x64 .f32) (ix2 h u)
      = Ideal.exp (ChunkRet.lg h * (Ideal.ofBits FTy.f32 0x427C0000#32 - ((u.val : ℝ) : EReal))) := by
  pointwise [K_main_v123, K_main_v122, K_main_v121, K_main_v120, K_main_v119, K_main_v118, K_main_v117, K_main_v116, K_main_cst_11, K_main_v88, K_main_v87]
  simp only [log_decay, ChunkRet.sitofp_row]

theorem decay_state (h : Fin 4) : (K_main_v126 (F := Ideal) : FVec Ideal S4 .f32) (ix1 h) = ChunkRet.ds h := by
  pointwise [K_main_v126, K_main_v125, K_main_v124, K_main_cst_12]
  simp only [log_decay]
  have w : Ideal.ofBits FTy.f32 1115684864#32 = ((64 : ℝ) : EReal) := word_64
  unfold ChunkRet.lg ChunkRet.ds
  rw [w, ← EReal.coe_mul, Ideal.exp_coe, ← Real.rpow_def_of_pos (decay_pos h)]
  congr 1
  exact_mod_cast Real.rpow_natCast _ 64

/-! ## The sample streams' rows -/

/-- The projection as a table. -/
abbrev tab (x : FVec Ideal S33792x17920 .f32) : ℕ → ℕ → EReal := ChunkRet.table fun i j => x (ix2 i j)

theorem tab_apply (x : FVec Ideal S33792x17920 .f32) (i : Fin 33792) (j : Fin 17920) : x (ix2 i j) = tab x i.val j.val :=
  ChunkRet.table_apply (fun i j => x (ix2 i j)) i j

/-- Their columns of queries, keys and values in the table. -/
theorem part0_apply (x : FVec Ideal S33792x17920 .f32) (b : Fin 16) (u : Fin 64) (h : Fin 4) (n : Fin 256) :
    part0 x (ix4 b u h n) = tab x (64 * (512 + b.val) + u.val) (13312 + (256 * h.val + n.val)) := by
  pointwise [part0, sampleRows]
  refine (tab_apply x _ _).trans ?_
  congr 1 <;> simp only [] <;> omega
theorem part1_apply (x : FVec Ideal S33792x17920 .f32) (b : Fin 16) (u : Fin 64) (h : Fin 4) (n : Fin 256) :
    part1 x (ix4 b u h n) = tab x (64 * (512 + b.val) + u.val) (14336 + (256 * h.val + n.val)) := by
  pointwise [part1, sampleRows]
  refine (tab_apply x _ _).trans ?_
  congr 1 <;> simp only [] <;> omega
theorem part2_apply (x : FVec Ideal S33792x17920 .f32) (b : Fin 16) (u : Fin 64) (h : Fin 4) (n : Fin 256) :
    part2 x (ix4 b u h n) = tab x (64 * (512 + b.val) + u.val) (15360 + (256 * h.val + n.val)) := by
  pointwise [part2, sampleRows]
  refine (tab_apply x _ _).trans ?_
  congr 1 <;> simp only [] <;> omega

theorem angles_apply (u : Fin 64) (n : Fin 128) :
    (angles (F := Ideal)) (ix2 u n) = (((4096 + u.val : ℕ) : ℝ) : EReal) * ChunkRet.freq n := by
  pointwise [angles]
  rw [show IntOp.addi (4096#32) (BitVec.ofNat 32 u.val) = BitVec.ofNat 32 (4096 + u.val) from
    (BitVec.ofNat_add 4096 u.val).symm, sitofp_nat _ (by omega), sitofp_nat _ (by omega)]
  rfl

theorem turned_apply (x : FVec Ideal S16x64x4x256 .f32) (b : Fin 16) (u : Fin 64) (h : Fin 4) (n : Fin 256) :
    turned x (ix4 b u h n) = ChunkRet.rot (ChunkRet.co (4096 + u.val)) (ChunkRet.si (4096 + u.val)) (fun n => x (ix4 b u h n)) n := by
  pointwise [turned, lower, upper, spread]
  simp only [angles_apply]
  rfl

theorem outputs_apply (q k v : FVec Ideal S16x4x64x256 .f32) (r : FVec Ideal S16x4x256x256 .f32) (b : Fin 16) (h : Fin 4) (t : Fin 64) (w : Fin 256) :
    outputs q k v r (ix4 b h t w) = ChunkRet.over (ChunkRet.lg h) (fun u n => q (ix4 b h u n)) (fun u n => k (ix4 b h u n))
      (fun u n => v (ix4 b h u n)) (fun n w => r (ix4 b h n w)) t w := by
  pointwise [outputs]
  simp only [decay_in, decay_q]
  rfl

theorem newStates_apply (k v : FVec Ideal S16x4x64x256 .f32) (r : FVec Ideal S16x4x256x256 .f32) (b : Fin 16) (h : Fin 4) (n w : Fin 256) :
    newStates k v r (ix4 b h n w) = ChunkRet.next (ChunkRet.lg h) (ChunkRet.ds h) (fun u n => k (ix4 b h u n))
      (fun u n => v (ix4 b h u n)) (fun n w => r (ix4 b h n w)) n w := by
  pointwise [newStates]
  simp only [decay_state, decay_k]
  rfl

theorem normedS_apply (y : FVec Ideal S16x64x4x256 .f32) (b : Fin 16) (u : Fin 64) (h : Fin 4) (n : Fin 256) :
    normedS y (ix4 b u h n) = ChunkRet.normal (fun n => y (ix4 b u h n)) n := by
  pointwise [normedS, centredS, meanS]
  rfl
theorem normedP_apply (y : FVec Ideal S4x8192x4x256 .f32) (b : Fin 4) (u : Fin 8192) (h : Fin 4) (n : Fin 256) :
    normedP y (ix4 b u h n) = ChunkRet.normal (fun n => y (ix4 b u h n)) n := by
  pointwise [normedP, centredP, meanP]
  rfl

end Cert.ReferenceIdeal.Tables

end
-- ==== Proof.Reference.PromptRows.lean ====
/-
  The reference's queries, keys and values of the prompts, over the extended reals.
-/
module

public import proofs.«01_k».proof.Proof.Reference.Tables

@[expose] public section

set_option maxRecDepth 16384

noncomputable section

namespace Cert.ReferenceIdeal.PromptRows

open Idealize.ShloMosaic Idealize.ShloMosaic.TcCoe
open Cert.ReferenceIdeal Cert.ReferenceIdeal.Gen Cert.ReferenceIdeal.Step Cert.ReferenceIdeal.Text Cert.ReferenceIdeal.Tables

/-! ## The prompts' queries, keys and values -/

section
variable (x : FVec Ideal S33792x17920 .f32)

theorem raw0 (b : Fin 4) (p : Fin 8192) (h : Fin 4) (n : Fin 256) :
    (A_main_v2 (F := Ideal) x : FVec Ideal S4x8192x4x256 .f32) (ix4 b p h n) = tab x (8192 * b.val + p.val) (13312 + (256 * h.val + n.val)) := by
  pointwise [A_main_v2, A_main_v1, A_main_v0]
  refine (tab_apply x _ _).trans ?_
  congr 1 <;> simp only [] <;> omega
theorem raw1 (b : Fin 4) (p : Fin 8192) (h : Fin 4) (n : Fin 256) :
    (A_main_v4 (F := Ideal) x : FVec Ideal S4x8192x4x256 .f32) (ix4 b p h n) = tab x (8192 * b.val + p.val) (14336 + (256 * h.val + n.val)) := by
  pointwise [A_main_v4, A_main_v3, A_main_v0]
  refine (tab_apply x _ _).trans ?_
  congr 1 <;> simp only [] <;> omega
theorem raw2 (b : Fin 4) (p : Fin 8192) (h : Fin 4) (n : Fin 256) :
    (A_main_v6 (F := Ideal) x : FVec Ideal S4x8192x4x256 .f32) (ix4 b p h n) = tab x (8192 * b.val + p.val) (15360 + (256 * h.val + n.val)) := by
  pointwise [A_main_v6, A_main_v5, A_main_v0]
  refine (tab_apply x _ _).trans ?_
  congr 1 <;> simp only [] <;> omega

/-- The angles of the positions, for the queries and for the keys. -/
theorem angles_q (p : Fin 8192) (n : Fin 128) :
    (K_main_v21 (F := Ideal) : FVec Ideal S8192x128 .f32) (ix2 p n) = ((p.val : ℝ) : EReal) * ChunkRet.freq n := by
  pointwise [K_main_v21, K_main_v20, K_main_v19, K_main_v18, K_main_v17, K_main_v16, K_main_v15, K_main_v14, K_main_cst_0, K_main_v13, K_main_v12, K_main_cst, K_main_v11, K_main_v10, K_main_v9, K_main_v8, K_main_c, K_main_v7]
  rw [show IntOp.addi (0#32) (BitVec.ofNat 32 p.val) = BitVec.ofNat 32 p.val from
    BitVec.zero_add _, sitofp_nat _ (by omega), sitofp_nat _ (by omega)]
  rfl
theorem angles_k (p : Fin 8192) (n : Fin 128) :
    (K_main_v54 (F := Ideal) : FVec Ideal S8192x128 .f32) (ix2 p n) = ((p.val : ℝ) : EReal) * ChunkRet.freq n := by
  pointwise [K_main_v54, K_main_v53, K_main_v52, K_main_v51, K_main_v50, K_main_v49, K_main_v48, K_main_v47, K_main_cst_2, K_main_v46, K_main_v45, K_main_cst_1, K_main_v44, K_main_v43, K_main_v9, K_main_v8, K_main_c, K_main_v7]
  rw [show IntOp.addi (0#32) (BitVec.ofNat 32 p.val) = BitVec.ofNat 32 p.val from
    BitVec.zero_add _, sitofp_nat _ (by omega), sitofp_nat _ (by omega)]
  rfl

/-- The queries, turned by their positions' angles. -/
theorem turned_q (b : Fin 4) (p : Fin 8192) (h : Fin 4) (n : Fin 256) :
    (A_main_v42 (F := Ideal) x : FVec Ideal S4x8192x4x256 .f32) (ix4 b p h n)
      = ChunkRet.rot (ChunkRet.co p.val) (ChunkRet.si p.val) (fun n => tab x (8192 * b.val + p.val) (13312 + (256 * h.val + n.val))) n := by
  pointwise [A_main_v42, A_main_v41, A_main_v40, A_main_v37, A_main_v34, A_main_v33, A_main_v30, A_main_v27, A_main_v26, K_main_v39, K_main_v38, K_main_v36, K_main_v35, K_main_v32, K_main_v31, K_main_v29, K_main_v28, K_main_v25, K_main_v24, K_main_v23, K_main_v22]
  simp only [angles_q, raw0]
  rfl

/-- The keys, turned and scaled. -/
theorem turned_k (b : Fin 4) (p : Fin 8192) (h : Fin 4) (n : Fin 256) :
    (A_main_v77 (F := Ideal) x : FVec Ideal S4x8192x4x256 .f32) (ix4 b p h n)
      = ChunkRet.rot (ChunkRet.co p.val) (ChunkRet.si p.val) (fun n => tab x (8192 * b.val + p.val) (14336 + (256 * h.val + n.val))) n
        * Ideal.ofBits FTy.f32 0x3D800000#32 := by
  pointwise [A_main_v77, A_main_v75, A_main_v74, A_main_v73, A_main_v70, A_main_v67, A_main_v66, A_main_v63, A_main_v60, A_main_v59, K_main_v72, K_main_v71, K_main_v69, K_main_v68, K_main_v65, K_main_v64, K_main_v62, K_main_v61, K_main_v58, K_main_v57, K_main_v56, K_main_v55, K_main_v76, K_main_cst_3]
  simp only [angles_k, raw1]
  rfl

end

end Cert.ReferenceIdeal.PromptRows

end
-- ==== Proof.Reference.Stacks.lean ====
/-
  The reference's stacked chunks of the prompts, over the extended reals.
-/
module

public import proofs.«01_k».proof.Proof.Reference.PromptRows

@[expose] public section

set_option maxRecDepth 16384

noncomputable section

namespace Cert.ReferenceIdeal.Stacks

open Idealize.ShloMosaic Idealize.ShloMosaic.TcCoe
open Cert.ReferenceIdeal Cert.ReferenceIdeal.Gen Cert.ReferenceIdeal.Step Cert.ReferenceIdeal.Text Cert.ReferenceIdeal.Tables Cert.ReferenceIdeal.PromptRows

section

/-- An array over streams and positions, cut into chunks and the chunk put first, reads position `64 j + u` for row `u` of chunk `j`. -/
theorem stacked (y : FVec Ideal S4x8192x4x256 .f32) (j : Fin 128) (b h : Fin 4) (u : Fin 64) (n : Fin 256) :
    (transpose S128x4x4x64x256 [1, 0, 3, 2, 4] (shapeCast S4x128x64x4x256 y shapeCasts_S4x8192x4x256_S4x128x64x4x256)
      transposes_S4x128x64x4x256_S128x4x4x64x256_1_0_3_2_4 : FVec Ideal S128x4x4x64x256 .f32) (ix5 j b h u n)
      = y (ix4 b (⟨64 * j.val + u.val, by omega⟩ : Fin 8192) h n) := by
  pointwise
  refine congrArg (fun p : Fin 8192 => y (ix4 b p h n)) (Fin.ext ?_)
  show j.val * 64 + u.val = 64 * j.val + u.val
  omega

/-- The chunks one after another again. -/
theorem unchunked_apply (o : FVec Ideal S128x4x4x64x256 .f32) (b : Fin 4) (j : Fin 128) (u : Fin 64) (h : Fin 4) (n : Fin 256) :
    unchunked o (ix4 b (⟨64 * j.val + u.val, by omega⟩ : Fin 8192) h n) = o (ix5 j b h u n) := by
  pointwise [unchunked]

theorem place_prompt (b : Fin 4) (j : Fin 128) (u : Fin 64) : ChunkRet.place (128 * b.val + j.val) u.val = 64 * j.val + u.val := by
  unfold ChunkRet.place; rw [if_pos (by omega)]; congr 2; omega

theorem row_prompt (b : Fin 4) (j : Fin 128) (u : Fin 64) :
    8192 * b.val + (64 * j.val + u.val) = 64 * (128 * b.val + j.val) + u.val := by omega

variable (x : FVec Ideal S33792x17920 .f32)

theorem stack_q (j : Fin 128) (b h : Fin 4) (u : Fin 64) (n : Fin 256) :
    (A_main_v128 (F := Ideal) x : FVec Ideal S128x4x4x64x256 .f32) (ix5 j b h u n) = ChunkRet.queries (tab x) (128 * b.val + j.val) h u n := by
  unfold A_main_v128 A_main_v127
  refine (stacked _ j b h u n).trans ((turned_q x _ _ _ _).trans ?_)
  unfold ChunkRet.queries
  simp only [place_prompt, row_prompt]
theorem stack_k (j : Fin 128) (b h : Fin 4) (u : Fin 64) (n : Fin 256) :
    (A_main_v130 (F := Ideal) x : FVec Ideal S128x4x4x64x256 .f32) (ix5 j b h u n) = ChunkRet.keys (tab x) (128 * b.val + j.val) h u n := by
  unfold A_main_v130 A_main_v129
  refine (stacked _ j b h u n).trans ((turned_k x _ _ _ _).trans ?_)
  unfold ChunkRet.keys
  simp only [place_prompt, row_prompt]
theorem stack_v (j : Fin 128) (b h : Fin 4) (u : Fin 64) (n : Fin 256) :
    (A_main_v132 (F := Ideal) x : FVec Ideal S128x4x4x64x256 .f32) (ix5 j b h u n) = ChunkRet.vals (tab x) (128 * b.val + j.val) h u n := by
  unfold A_main_v132 A_main_v131
  refine (stacked _ j b h u n).trans ((raw2 x _ _ _ _).trans ?_)
  unfold ChunkRet.vals
  simp only [row_prompt]
end

end Cert.ReferenceIdeal.Stacks

end
-- ==== Proof.Reference.Loop.lean ====
/-
  The reference's loop over the prompts' chunks, over the extended reals: what it carries at a trip.
-/
module

public import proofs.«01_k».proof.Proof.Reference.Stacks
public import Idealize.ShloMosaic.Lib.DynamicIndex

@[expose] public section

set_option maxRecDepth 16384

noncomputable section

namespace Cert.ReferenceIdeal.Loop

open Idealize.ShloMosaic Idealize.ShloMosaic.TcCoe
open Cert.ReferenceIdeal Cert.ReferenceIdeal.Gen Cert.ReferenceIdeal.Step Cert.ReferenceIdeal.Text Cert.ReferenceIdeal.Tables Cert.ReferenceIdeal.Stacks

/-! ## One trip -/

section
variable (s : State Ideal) (j : Fin 128)

theorem entry_fits : ∀ a : Fin 5, (![j.val, 0, 0, 0, 0] : Fin 5 → ℕ) a + S1x4x4x64x256.size a ≤ S128x4x4x64x256.size a :=
  (by decide +kernel : ∀ j : Fin 128, ∀ a : Fin 5, (![j.val, 0, 0, 0, 0] : Fin 5 → ℕ) a + S1x4x4x64x256.size a ≤ S128x4x4x64x256.size a) j

/-- The trip's queries: entry `j` of the stacked ones; likewise keys and values. -/
theorem trip_q (b h : Fin 4) (u : Fin 64) (n : Fin 256) :
    (b5 j.val s : FVec Ideal S4x4x64x256 .f32) (ix4 b h u n) = s.main_v134_0 (ix5 j b h u n) := by
  have e : b4 j.val s = extractStridedSlice S1x4x4x64x256 ![j.val, 0, 0, 0, 0] s.main_v134_0
      ⟨rfl, entry_fits j⟩ := by
    refine Host.dynamicSlice_eq_extractStridedSlice _ _ _ _ _ _ fun a => ?_
    fin_cases a
    · exact toInt_ofNat_of_lt (by omega)
    all_goals rfl
  unfold b5
  rw [e]
  pointwise

theorem trip_k (b h : Fin 4) (u : Fin 64) (n : Fin 256) :
    (b11 j.val s : FVec Ideal S4x4x64x256 .f32) (ix4 b h u n) = s.main_v134_1 (ix5 j b h u n) := by
  have e : b10 j.val s = extractStridedSlice S1x4x4x64x256 ![j.val, 0, 0, 0, 0] s.main_v134_1
      ⟨rfl, entry_fits j⟩ := by
    refine Host.dynamicSlice_eq_extractStridedSlice _ _ _ _ _ _ fun a => ?_
    fin_cases a
    · exact toInt_ofNat_of_lt (by omega)
    all_goals rfl
  unfold b11
  rw [e]
  pointwise

theorem trip_v (b h : Fin 4) (u : Fin 64) (n : Fin 256) :
    (b17 j.val s : FVec Ideal S4x4x64x256 .f32) (ix4 b h u n) = s.main_v134_2 (ix5 j b h u n) := by
  have e : b16 j.val s = extractStridedSlice S1x4x4x64x256 ![j.val, 0, 0, 0, 0] s.main_v134_2
      ⟨rfl, entry_fits j⟩ := by
    refine Host.dynamicSlice_eq_extractStridedSlice _ _ _ _ _ _ fun a => ?_
    fin_cases a
    · exact toInt_ofNat_of_lt (by omega)
    all_goals rfl
  unfold b17
  rw [e]
  pointwise

/-- The trip's outputs. -/
theorem trip_out (b h : Fin 4) (t : Fin 64) (w : Fin 256) :
    (b28 j.val s : FVec Ideal S4x4x64x256 .f32) (ix4 b h t w) = ChunkRet.over (ChunkRet.lg h) (fun u n => b5 j.val s (ix4 b h u n)) (fun u n => b11 j.val s (ix4 b h u n))
      (fun u n => b17 j.val s (ix4 b h u n)) (fun n w => s.main_v134_8 (ix4 b h n w)) t w := by
  pointwise [b28, b27, b26, b25, b24, b23, b22, b21, b20, b19, b18]
  simp only [decay_in, decay_q]
  rfl

/-- The state the trip leaves. -/
theorem trip_state (b h : Fin 4) (n w : Fin 256) :
    (b38 j.val s : FVec Ideal S4x4x256x256 .f32) (ix4 b h n w) = ChunkRet.next (ChunkRet.lg h) (ChunkRet.ds h) (fun u n => b11 j.val s (ix4 b h u n))
      (fun u n => b17 j.val s (ix4 b h u n)) (fun n w => s.main_v134_8 (ix4 b h n w)) n w := by
  pointwise [b38, b37, b36, b35, b34, b33, b32, b31, b30, b29]
  simp only [decay_state, decay_k]
  rfl

/-- The outputs after the trip: its own at entry `j`, the others as they were. -/
theorem trip_put (i : Fin 128) (b h : Fin 4) (u : Fin 64) (w : Fin 256) :
    (b44 j.val s : FVec Ideal S128x4x4x64x256 .f32) (ix5 i b h u w)
      = if i.val = j.val then (b28 j.val s : FVec Ideal S4x4x64x256 .f32) (ix4 b h u w) else s.main_v134_9 (ix5 i b h u w) := by
  have e : b44 j.val s = updateSlice (α := EReal) s.main_v134_9 (b39 j.val s) ![j.val, 0, 0, 0, 0] ⟨rfl, entry_fits j⟩ := by
    refine Host.dynamicUpdateSlice_eq_updateSlice (α := EReal) _ _ _ _ _ (fun a => ?_) _
    fin_cases a
    · show (min (max (BitVec.ofNat 32 j.val).toInt 0) ((128 - 1 : ℕ) : ℤ)).toNat = j.val
      rw [toInt_ofNat_of_lt (by omega)]
      omega
    all_goals rfl
  rw [e]
  pointwise [b39]
  by_cases hij : i.val = j.val
  · rw [if_pos hij, dif_pos ⟨by omega, by omega⟩]
  · rw [if_neg hij, dif_neg (fun h => hij (by omega))]
end

/-! ## Along the loop -/

section
variable (x : FVec Ideal S33792x17920 .f32) (R : ℕ → Fin 4 → Fin 256 → Fin 256 → EReal)

/-- What the loop carries at trip `n`: the stacked inputs, the state each prompt carries into its chunk `n`, and the outputs
    of the chunks before. -/
structure Carries (n : ℕ) (s : State Ideal) : Prop where
  q : s.main_v134_0 = A_main_v128 (F := Ideal) x
  k : s.main_v134_1 = A_main_v130 (F := Ideal) x
  v : s.main_v134_2 = A_main_v132 (F := Ideal) x
  state : ∀ (b h : Fin 4) (i w : Fin 256), (s.main_v134_8 : FVec Ideal S4x4x256x256 .f32) (ix4 b h i w) = ChunkRet.carry (tab x) R b.val n h i w
  out : ∀ (j : Fin 128), j.val < n → ∀ (b h : Fin 4) (u : Fin 64) (w : Fin 256), (s.main_v134_9 : FVec Ideal S128x4x4x64x256 .f32) (ix5 j b h u w)
    = ChunkRet.over (ChunkRet.lg h) (ChunkRet.queries (tab x) (128 * b.val + j.val) h) (ChunkRet.keys (tab x) (128 * b.val + j.val) h)
        (ChunkRet.vals (tab x) (128 * b.val + j.val) h) (ChunkRet.carry (tab x) R b.val j.val h) u w

theorem carries_init : Carries x R 0 (init (F := Ideal) x) where
  q := rfl
  k := rfl
  v := rfl
  state b h i w := by
    show (K_main_v78 (F := Ideal) : FVec Ideal S4x4x256x256 .f32) (ix4 b h i w) = _
    pointwise [K_main_v78, K_main_cst_4]
    unfold ChunkRet.carry
    rw [if_pos rfl]
  out j hj := absurd hj (Nat.not_lt_zero _)

theorem carries_step (s : State Ideal) (j : Fin 128) (h : Carries x R j.val s) : Carries x R (j.val + 1) (step j.val s) := by
  have hq : ∀ (b h' : Fin 4), (fun u n => (b5 j.val s : FVec Ideal S4x4x64x256 .f32) (ix4 b h' u n)) = ChunkRet.queries (tab x) (128 * b.val + j.val) h' := fun b h' => by
    funext u n; rw [trip_q, h.q]; exact stack_q x j b h' u n
  have hk : ∀ (b h' : Fin 4), (fun u n => (b11 j.val s : FVec Ideal S4x4x64x256 .f32) (ix4 b h' u n)) = ChunkRet.keys (tab x) (128 * b.val + j.val) h' := fun b h' => by
    funext u n; rw [trip_k, h.k]; exact stack_k x j b h' u n
  have hv : ∀ (b h' : Fin 4), (fun u n => (b17 j.val s : FVec Ideal S4x4x64x256 .f32) (ix4 b h' u n)) = ChunkRet.vals (tab x) (128 * b.val + j.val) h' := fun b h' => by
    funext u n; rw [trip_v, h.v]; exact stack_v x j b h' u n
  have hr : ∀ (b h' : Fin 4), (fun n w => (s.main_v134_8 : FVec Ideal S4x4x256x256 .f32) (ix4 b h' n w)) = ChunkRet.carry (tab x) R b.val j.val h' := fun b h' => by
    funext n w; exact h.state b h' n w
  refine ⟨h.q, h.k, h.v, fun b h' i w => ?_, fun i hi b h' u w => ?_⟩
  · refine (trip_state s j b h' i w).trans ?_
    rw [hk, hv, hr, ChunkRet.carry_succ (tab x) R b.val j.val (by omega) (by omega)]
    rfl
  · refine (trip_put s j i b h' u w).trans ?_
    by_cases hij : i.val = j.val
    · rw [if_pos hij, trip_out, hq, hk, hv, hr, hij]
    · rw [if_neg hij]; exact h.out i (by omega) b h' u w

/-- So it does from the loop's start to its end. -/
theorem carries_all (it : ℕ → State Ideal) (h0 : it 0 = init (F := Ideal) x) (hs : ∀ n, it (n + 1) = step n (it n)) (n : ℕ) (hn : n ≤ 128) :
    Carries x R n (it n) := by
  induction n with
  | zero => exact h0 ▸ carries_init x R
  | succ n ih => exact hs n ▸ carries_step x R (it n) ⟨n, by omega⟩ (ih (by omega))
end

end Cert.ReferenceIdeal.Loop

end
-- ==== Proof.Reference.Result.lean ====
/-
  The reference's two results over the extended reals, in the plain formulas.
-/
module

public import proofs.«01_k».proof.Proof.Reference.Loop

@[expose] public section

set_option maxRecDepth 16384

noncomputable section

namespace Cert.ReferenceIdeal.Result

open Idealize.ShloMosaic Idealize.ShloMosaic.TcCoe
open Cert.ReferenceIdeal Cert.ReferenceIdeal.Gen Cert.ReferenceIdeal.Step Cert.ReferenceIdeal.Text Cert.ReferenceIdeal.Tables
open Cert.ReferenceIdeal.Stacks Cert.ReferenceIdeal.Loop

/-- The sample streams' own states, none outside the 16 streams. -/
def own (r : FVec Ideal S16x4x256x256 .f32) (b : ℕ) (h : Fin 4) (n w : Fin 256) : EReal :=
  if hb : b < 16 then r (ix4 ⟨b, hb⟩ h n w) else 0

variable (x : FVec Ideal S33792x17920 .f32) (r : FVec Ideal S16x4x256x256 .f32)

/-! ## The sample streams' chunks -/

theorem place_sample (b : Fin 16) (u : Fin 64) : ChunkRet.place (512 + b.val) u.val = 4096 + u.val := by
  unfold ChunkRet.place; rw [if_neg (by omega)]

theorem queries_apply (b : Fin 16) (h : Fin 4) (u : Fin 64) (n : Fin 256) :
    (queries x : FVec Ideal S16x4x64x256 .f32) (ix4 b h u n) = ChunkRet.queries (tab x) (512 + b.val) h u n := by
  pointwise [queries]
  refine (turned_apply _ _ _ _ _).trans ?_
  unfold ChunkRet.queries
  simp only [part0_apply, place_sample]

theorem keys_apply (b : Fin 16) (h : Fin 4) (u : Fin 64) (n : Fin 256) :
    (keys x : FVec Ideal S16x4x64x256 .f32) (ix4 b h u n) = ChunkRet.keys (tab x) (512 + b.val) h u n := by
  pointwise [keys]
  unfold ChunkRet.keys
  simp only [turned_apply, part1_apply, place_sample]

theorem vals_apply (b : Fin 16) (h : Fin 4) (u : Fin 64) (n : Fin 256) :
    (vals x : FVec Ideal S16x4x64x256 .f32) (ix4 b h u n) = ChunkRet.vals (tab x) (512 + b.val) h u n := by
  pointwise [vals]
  exact part2_apply x _ _ _ _

/-- The gate as the reference writes it. -/
theorem gated (g : EReal) : g * Ideal.div 1 (1 + Ideal.exp (-g)) = ChunkRet.silu g := by
  unfold ChunkRet.silu; rw [zero_sub]

/-- An entry of the sample streams' results, and of the prompts': the normalised output times the gate. -/
theorem resultS_apply (y : FVec Ideal S16x64x4x256 .f32) (i j : Fin 1024) :
    (resultS y x : FVec Ideal S1024x1024 .f32) (ix2 i j)
      = ChunkRet.normal (fun n => y (ix4 (⟨i.val / 64, by omega⟩ : Fin 16) (⟨i.val % 64, by omega⟩ : Fin 64) (⟨j.val / 256, by omega⟩ : Fin 4) n)) ⟨j.val % 256, by omega⟩
        * ChunkRet.silu (tab x (32768 + i.val) (16384 + j.val)) := by
  pointwise [resultS, siluS, sampleRows]
  rw [normedS_apply, gated]
  simp only [tab_apply]

theorem resultP_apply (y : FVec Ideal S4x8192x4x256 .f32) (i : Fin 32768) (j : Fin 1024) :
    (resultP y x : FVec Ideal S32768x1024 .f32) (ix2 i j)
      = ChunkRet.normal (fun n => y (ix4 (⟨i.val / 8192, by omega⟩ : Fin 4) (⟨i.val % 8192, by omega⟩ : Fin 8192) (⟨j.val / 256, by omega⟩ : Fin 4) n)) ⟨j.val % 256, by omega⟩
        * ChunkRet.silu (tab x i.val (16384 + j.val)) := by
  pointwise [resultP, siluP]
  rw [normedP_apply, gated]
  simp only [tab_apply]

/-- The sample streams' outputs and new states. -/
theorem outputs_own (b : Fin 16) (h : Fin 4) (u : Fin 64) (w : Fin 256) :
    outputs (queries x) (keys x) (vals x) r (ix4 b h u w)
      = ChunkRet.over (ChunkRet.lg h) (ChunkRet.queries (tab x) (512 + b.val) h) (ChunkRet.keys (tab x) (512 + b.val) h)
        (ChunkRet.vals (tab x) (512 + b.val) h) (own r b.val h) u w := by
  rw [outputs_apply]
  simp only [queries_apply, keys_apply, vals_apply]
  unfold own
  simp only [b.isLt, dif_pos]

theorem newStates_own (b : Fin 16) (h : Fin 4) (n w : Fin 256) :
    newStates (keys x) (vals x) r (ix4 b h n w) = ChunkRet.after (tab x) (own r) (512 + b.val) h n w := by
  rw [newStates_apply, ChunkRet.after_eq, ChunkRet.before_sample]
  simp only [keys_apply, vals_apply]
  unfold ChunkRet.leave own
  simp only [b.isLt, dif_pos]

/-! ## The results -/

/-- The gate of entry `(i, j)` of the first result. -/
theorem gate_row (i : Fin 33792) (j : Fin 1024) :
    ChunkRet.gate (tab x) (i.val / 64) (⟨j.val / 256, by omega⟩ : Fin 4) (⟨i.val % 64, by omega⟩ : Fin 64) (⟨j.val % 256, by omega⟩ : Fin 256)
      = tab x i.val (16384 + j.val) := by
  unfold ChunkRet.gate
  congr 1 <;> simp only [] <;> omega

/-- The outputs with the frames before the heads. -/
theorem frames_first (o : FVec Ideal S16x4x64x256 .f32) (b : Fin 16) (u : Fin 64) (h : Fin 4) (n : Fin 256) :
    (transpose S16x64x4x256 [0, 2, 1, 3] o transposes_S16x4x64x256_S16x64x4x256_0_2_1_3 : FVec Ideal S16x64x4x256 .f32) (ix4 b u h n)
      = o (ix4 b h u n) := by
  pointwise

/-- An entry of the sample streams' results. -/
theorem sample_row (i j : Fin 1024) :
    (resultS (transpose S16x64x4x256 [0, 2, 1, 3] (outputs (queries x) (keys x) (vals x) r) transposes_S16x4x64x256_S16x64x4x256_0_2_1_3) x
      : FVec Ideal S1024x1024 .f32) (ix2 i j)
      = ChunkRet.result (tab x) (512 + i.val / 64) (own r (i.val / 64)) ⟨j.val / 256, by omega⟩ ⟨i.val % 64, by omega⟩ ⟨j.val % 256, by omega⟩ := by
  have ho : (fun n => (transpose S16x64x4x256 [0, 2, 1, 3] (outputs (queries x) (keys x) (vals x) r) transposes_S16x4x64x256_S16x64x4x256_0_2_1_3 : FVec Ideal S16x64x4x256 .f32)
      (ix4 (⟨i.val / 64, by omega⟩ : Fin 16) (⟨i.val % 64, by omega⟩ : Fin 64) (⟨j.val / 256, by omega⟩ : Fin 4) n))
      = ChunkRet.over (ChunkRet.lg ⟨j.val / 256, by omega⟩) (ChunkRet.queries (tab x) (512 + i.val / 64) ⟨j.val / 256, by omega⟩)
        (ChunkRet.keys (tab x) (512 + i.val / 64) ⟨j.val / 256, by omega⟩) (ChunkRet.vals (tab x) (512 + i.val / 64) ⟨j.val / 256, by omega⟩)
        (own r (i.val / 64) ⟨j.val / 256, by omega⟩) ⟨i.val % 64, by omega⟩ :=
    funext fun n => (frames_first _ _ _ _ n).trans (outputs_own x r _ _ _ n)
  have hg : ChunkRet.gate (tab x) (512 + i.val / 64) ⟨j.val / 256, by omega⟩ ⟨i.val % 64, by omega⟩ ⟨j.val % 256, by omega⟩
      = tab x (32768 + i.val) (16384 + j.val) := by
    unfold ChunkRet.gate
    congr 1 <;> simp only [] <;> omega
  rw [resultS_apply, ho]
  unfold ChunkRet.result
  rw [hg]

variable {x r} {s : State Ideal} (hs : Carries x (own r) 128 s)
include hs

/-- A prompt's outputs, position by position. -/
theorem prompt_out (i : ℕ) (hi : i < 32768) (h : Fin 4) (w : Fin 256) :
    (unchunked s.main_v134_9 : FVec Ideal S4x8192x4x256 .f32) (ix4 (⟨i / 8192, by omega⟩ : Fin 4) (⟨i % 8192, by omega⟩ : Fin 8192) h w)
      = ChunkRet.over (ChunkRet.lg h) (ChunkRet.queries (tab x) (i / 64) h) (ChunkRet.keys (tab x) (i / 64) h)
        (ChunkRet.vals (tab x) (i / 64) h) (ChunkRet.before (tab x) (own r) (i / 64) h) ⟨i % 64, by omega⟩ w := by
  have e : (⟨i % 8192, by omega⟩ : Fin 8192)
      = ⟨64 * (⟨i % 8192 / 64, by omega⟩ : Fin 128).val + (⟨i % 64, by omega⟩ : Fin 64).val, by simp only []; omega⟩ :=
    Fin.ext (by simp only []; omega)
  have hT : i / 64 = 128 * (i / 8192) + i % 8192 / 64 := by omega
  rw [e, unchunked_apply, hs.out ⟨i % 8192 / 64, by omega⟩ (by simp only []; omega), hT,
    ChunkRet.before_prompt (tab x) (own r) (i / 8192) (i % 8192 / 64) (by omega) (by omega)]

/-- The first result's entries. -/
theorem first_apply (i : Fin 33792) (j : Fin 1024) :
    (R_main_v335 s x r : FVec Ideal S33792x1024 .bf16) (ix2 i j) = ChunkRet.rows (tab x) (own r) i j := by
  rw [result_0]
  pointwise
  unfold ChunkRet.rows
  by_cases hi : i.val < 32768
  · rw [dif_pos hi, resultP_apply]
    unfold ChunkRet.result
    rw [gate_row]
    simp only [prompt_out hs i.val hi]
  · rw [dif_neg hi, sample_row x r ⟨i.val - 32768, by omega⟩ j]
    have hT : i.val / 64 = 512 + (i.val - 32768) / 64 := by omega
    have hu : (⟨i.val % 64, by omega⟩ : Fin 64) = ⟨(i.val - 32768) % 64, by omega⟩ := Fin.ext (by simp only []; omega)
    rw [hT, ChunkRet.before_sample, hu]

/-- The second result's entries. -/
theorem second_apply (b : Fin 20) (h : Fin 4) (n w : Fin 256) :
    (R_main_v336 s x r : FVec Ideal S20x4x256x256 .f32) (ix4 b h n w) = ChunkRet.states (tab x) (own r) b h n w := by
  rw [result_1]
  pointwise
  unfold ChunkRet.states ChunkRet.last
  by_cases hb : b.val < 4
  · rw [dif_pos hb, if_pos hb, hs.state]
    unfold ChunkRet.carry
    rw [if_neg (by omega)]
    rfl
  · rw [dif_neg hb, if_neg hb, newStates_own]
    rw [show 512 + (⟨b.val - 4, by omega⟩ : Fin 16).val = 508 + b.val by simp only []; omega]

/-- The two results whole. -/
theorem first_eq : R_main_v335 s x r = fun i => ChunkRet.rows (tab x) (own r) (i 0) (i 1) := by
  funext i
  obtain ⟨a, b, rfl⟩ : ∃ (a : Fin 33792) (b : Fin 1024), i = (ix2 a b : S33792x1024.Idx) :=
    ⟨i 0, i 1, by funext a; match a with | 0 => rfl | 1 => rfl⟩
  exact first_apply hs a b

theorem second_eq : R_main_v336 s x r = fun i => ChunkRet.states (tab x) (own r) (i 0) (i 1) (i 2) (i 3) := by
  funext i
  obtain ⟨b, h, n, w, rfl⟩ : ∃ (b : Fin 20) (h : Fin 4) (n w : Fin 256), i = (ix4 b h n w : S20x4x256x256.Idx) :=
    ⟨i 0, i 1, i 2, i 3, by funext a; match a with | 0 => rfl | 1 => rfl | 2 => rfl | 3 => rfl⟩
  exact second_apply hs b h n w

end Cert.ReferenceIdeal.Result

end
-- ==== Proof.Layer.Spec.lean ====
/-
  The layer's norm and its gates over the extended reals, in plain formulas.
-/
module

public import Idealize.ShloMosaic.Lib.Pipeline.ValueKit
public import Idealize.ShloMosaic.Lib.Pointwise

@[expose] public section

noncomputable section

namespace Layer

open Idealize.ShloMosaic

/-- A row of 2048 divided by its root mean square (with the small constant of the norm under the root) and weighted. -/
def normed (x g : Fin 2048 → EReal) (k : Fin 2048) : EReal :=
  x k * Ideal.rsqrt (Ideal.div (∑ j, x j * x j) (Ideal.ofBits FTy.f32 0x45000000#32) + Ideal.ofBits FTy.f32 0x358637BD#32) * g k

/-- Row `r` of an array, normalised. -/
def norm (x : FVec Ideal ⟨2, ![33792, 2048]⟩ .f32) (g : FVec Ideal ⟨1, ![2048]⟩ .f32) (r : Fin 33792) (k : Fin 2048) : EReal :=
  normed (fun k => x (ix2 r k)) (fun k => g (ix1 k)) k

/-- The logistic gate. -/
def sigmoid (z : EReal) : EReal := Ideal.div 1 (1 + Ideal.exp (-z))

end Layer

end
-- ==== Proof.In.Rows.lean ====
/-
  The input projection: the normalised rows kept from one block of columns to the next, and the result.
-/
module

public import proofs.«01_k».proof.Proof.Layer.Spec
public import proofs.«01_k».proof.Proof.Gen.Kernel2Ideal.Frame
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.Kernel2Ideal.Rows

open Cert.Kernel2Ideal Cert.Kernel2Ideal.Gen

variable (m : (ℓ : Loc nD τ sig) → Buf (Elt Ideal) ℓ)

theorem lt_points (t : Fin cfg0.N) : t.val < 1155 := lt_of_lt_of_eq t.isLt N_0

/-- The blocks a point works on: 35 blocks of columns for each block of rows. -/
theorem idx : ∀ t : Fin cfg0.N, win0_0.index t = ![t.val / 35, 0] ∧ win0_1.index t = ![0, 0]
    ∧ win0_2.index t = ![0, t.val % 35] ∧ win0_3.index t = ![t.val / 35, t.val % 35] :=
  (by decide +kernel : ∀ t : Fin grid0.N, _)

/-- Row `r` of the argument, normalised. -/
def norm (c : Dev nD) (r : Fin 33792) (k : Fin 2048) : EReal :=
  Layer.norm (m ((c : Thread nD τ).loc main_arg0)) (m ((c : Thread nD τ).loc main_arg1)) r k

/-- What the body stores of the rows of a block. -/
theorem pay1_eq (c : Dev nD) (t : Fin cfg0.N) (u : Fin 1024) (k : Fin 2048) :
    k0_pay1 (F := Ideal) (iblk m c 0 t) (iblk m c 1 t) (ix2 u k)
      = norm m c ⟨1024 * (t.val / 35) + u.val, by have := lt_points t; omega⟩ k := by
  have hl := lt_points t
  pointwise [k0_pay1, norm, Layer.norm, Layer.normed]
  blk_point [iblk, V, idx t]

/-- What the scratch holds after every point: the point's block of rows, normalised. -/
theorem kept (c : Dev nD) : ∀ (n : ℕ) (hn : n < cfg0.N) (u : Fin 1024) (k : Fin 2048),
    ((outsAt0 m c n hn).2 : FVec Ideal S1024x2048 .bf16) (ix2 u k)
      = norm m c ⟨1024 * (n / 35) + u.val, by have := lt_points ⟨n, hn⟩; simp only [] at this; omega⟩ k := by
  intro n
  induction n with
  | zero =>
    intro hn u k
    rw [outsAt0_A m c ⟨0, hn⟩ rfl]
    frame_out
    exact pay1_eq m c ⟨0, hn⟩ u k
  | succ n ih =>
    intro hn u k
    by_cases h : (n + 1) % 35 = 0
    · rw [outsAt0_A m c ⟨n + 1, hn⟩ h]
      frame_out
      exact pay1_eq m c ⟨n + 1, hn⟩ u k
    · rw [outsAt0_B m c ⟨n + 1, hn⟩ h]
      frame_out
      refine (ih (Nat.lt_of_succ_lt hn) u k).trans ?_
      exact congrArg (fun r => norm m c r k) (Fin.ext (by show 1024 * (n / 35) + u.val = 1024 * ((n + 1) / 35) + u.val; omega))

/-- What the body stores of the result, over any kept rows. -/
theorem pay2_eq (x : FVec Ideal S1024x2048 .bf16) (w : FVec Ideal S2048x512 .bf16) (u : Fin 1024) (v : Fin 512) :
    k0_pay2 (F := Ideal) x w (ix2 u v) = ∑ k : Fin 2048, x (ix2 u k) * w (ix2 k v) := by
  pointwise [k0_pay2]

end Cert.Kernel2Ideal.Rows

end
-- ==== Proof.In.Final.lean ====
/-
  The input projection's result after the run, the run itself, and the reference's result.
-/
module

public import proofs.«01_k».proof.Proof.In.Rows
public import proofs.«01_k».proof.Proof.Gen.Reference2Ideal.Run
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel2Ideal.Rows

open Cert.Kernel2Ideal Cert.Kernel2Ideal.Gen

variable (m : (ℓ : Loc nD τ sig) → Buf (Elt Ideal) ℓ)

/-- A column of the weights in the order the projection hands its columns on: the gates, the wide columns of the three
    mixers, the narrow columns of the first mixer, zeros, the narrow columns of the second, zeros. -/
def column (w : FVec Ideal S2048x17704 .f32) (k : Fin 2048) (j : Fin 17920) : EReal :=
  if h : j.val < 6144 then w (ix2 k ⟨11560 + j.val, by omega⟩)
  else if h1 : j.val < 9216 then w (ix2 k ⟨j.val - 6144, by omega⟩)
  else if h2 : j.val < 13312 then w (ix2 k ⟨3360 + (j.val - 9216), by omega⟩)
  else if h3 : j.val < 17408 then w (ix2 k ⟨7464 + (j.val - 13312), by omega⟩)
  else if h4 : j.val < 17696 then w (ix2 k ⟨3072 + (j.val - 17408), by omega⟩)
  else if h5 : j.val < 17792 then 0
  else if h6 : j.val < 17800 then w (ix2 k ⟨7456 + (j.val - 17792), by omega⟩)
  else 0

/-- The weights with their columns in that order, put together from slices and zeros. -/
def ordered (w : FVec Ideal S2048x17704 .f32) : FVec Ideal S2048x17920 .bf16 :=
  truncf .bf16 (concatenate S2048x17920 1
    [⟨S2048x6144, (extractStridedSlice S2048x6144 ![0, 11560] w slices_S2048x17704_S2048x6144_0_11560 : FVec Ideal S2048x6144 .f32)⟩,
     ⟨S2048x3072, (extractStridedSlice S2048x3072 ![0, 0] w slices_S2048x17704_S2048x3072_0_0 : FVec Ideal S2048x3072 .f32)⟩,
     ⟨S2048x4096, (extractStridedSlice S2048x4096 ![0, 3360] w slices_S2048x17704_S2048x4096_0_3360 : FVec Ideal S2048x4096 .f32)⟩,
     ⟨S2048x4096, (extractStridedSlice S2048x4096 ![0, 7464] w slices_S2048x17704_S2048x4096_0_7464 : FVec Ideal S2048x4096 .f32)⟩,
     ⟨S2048x288, (extractStridedSlice S2048x288 ![0, 3072] w slices_S2048x17704_S2048x288_0_3072 : FVec Ideal S2048x288 .f32)⟩,
     ⟨S2048x96, (broadcastInDim S2048x96 ![] bcast_S_S2048x96 (constant S_ .f32 0x00000000#32 : FVec Ideal S_ .f32) : FVec Ideal S2048x96 .f32)⟩,
     ⟨S2048x8, (extractStridedSlice S2048x8 ![0, 7456] w slices_S2048x17704_S2048x8_0_7456 : FVec Ideal S2048x8 .f32)⟩,
     ⟨S2048x120, (broadcastInDim S2048x120 ![] bcast_S_S2048x120 (constant S_ .f32 0x00000000#32 : FVec Ideal S_ .f32) : FVec Ideal S2048x120 .f32)⟩]
    concatenates_S2048x6144_S2048x3072_S2048x4096_S2048x4096_S2048x288_S2048x96_S2048x8_S2048x120_S2048x17920_d1
      : FVec Ideal S2048x17920 .f32) bitsLt_bf16_f32

/-- A number between two bounds, the lower one taken off: it is below the bounds' difference; and at or above the second
    bound it is not. -/
theorem within {j a b d : ℕ} (h : ¬ j < a) (h' : j < d) (e : a + b = d) : j - a < b := by omega
theorem beyond {j a b d : ℕ} (h' : ¬ j < d) (e : a + b = d) : ¬ j - a < b := by omega

/-- Bounds taken off one after the other, or all at once. -/
theorem off2 (j : ℕ) : j - 6144 - 3072 = j - 9216 := by omega
theorem off3 (j : ℕ) : j - 6144 - 3072 - 4096 = j - 13312 := by rw [off2]; omega
theorem off4 (j : ℕ) : j - 6144 - 3072 - 4096 - 4096 = j - 17408 := by rw [off3]; omega
theorem off5 (j : ℕ) : j - 6144 - 3072 - 4096 - 4096 - 288 = j - 17696 := by rw [off4]; omega
theorem off6 (j : ℕ) : j - 6144 - 3072 - 4096 - 4096 - 288 - 96 = j - 17792 := by rw [off5]; omega

/-- A column of the weights so put together. -/
theorem ordered_apply (w : FVec Ideal S2048x17704 .f32) (k : Fin 2048) (j : Fin 17920) : ordered w (ix2 k j) = column w k j := by
  pointwise [ordered]
  unfold column
  by_cases h0 : j.val < 6144
  · simp only [↓reduceDIte, h0]
  by_cases h1 : j.val < 9216
  · simp only [↓reduceDIte, h0, h1, (show j.val - 6144 < 3072 from within h0 h1 rfl)]
  have e1 : ¬ j.val - 6144 < 3072 := beyond h1 rfl
  by_cases h2 : j.val < 13312
  · simp only [↓reduceDIte, h0, h1, e1, h2, (show j.val - 6144 - 3072 < 4096 by rw [off2]; exact within h1 h2 rfl)]
    simp only [off2]
  have e2 : ¬ j.val - 6144 - 3072 < 4096 := by rw [off2]; exact beyond h2 rfl
  by_cases h3 : j.val < 17408
  · simp only [↓reduceDIte, h0, h1, e1, h2, e2, h3, (show j.val - 6144 - 3072 - 4096 < 4096 by rw [off3]; exact within h2 h3 rfl)]
    simp only [off3]
  have e3 : ¬ j.val - 6144 - 3072 - 4096 < 4096 := by rw [off3]; exact beyond h3 rfl
  by_cases h4 : j.val < 17696
  · simp only [↓reduceDIte, h0, h1, e1, h2, e2, h3, e3, h4, (show j.val - 6144 - 3072 - 4096 - 4096 < 288 by rw [off4]; exact within h3 h4 rfl)]
    simp only [off4]
  have e4 : ¬ j.val - 6144 - 3072 - 4096 - 4096 < 288 := by rw [off4]; exact beyond h4 rfl
  by_cases h5 : j.val < 17792
  · simp only [↓reduceDIte, h0, h1, e1, h2, e2, h3, e3, h4, e4, h5, (show j.val - 6144 - 3072 - 4096 - 4096 - 288 < 96 by rw [off5]; exact within h4 h5 rfl)]
  have e5 : ¬ j.val - 6144 - 3072 - 4096 - 4096 - 288 < 96 := by rw [off5]; exact beyond h5 rfl
  by_cases h6 : j.val < 17800
  · simp only [↓reduceDIte, h0, h1, e1, h2, e2, h3, e3, h4, e4, h5, e5, h6, (show j.val - 6144 - 3072 - 4096 - 4096 - 288 - 96 < 8 by rw [off6]; exact within h5 h6 rfl)]
    simp only [off6]
  have e6 : ¬ j.val - 6144 - 3072 - 4096 - 4096 - 288 - 96 < 8 := by rw [off6]; exact beyond h6 rfl
  simp only [↓reduceDIte, h0, h1, e1, h2, e2, h3, e3, h4, e4, h5, e5, h6, e6]

/-- The weights as the call finds them. -/
theorem entry (c : Dev nD) : (V m c main_v10 : FVec Ideal S2048x17920 .bf16) = ordered (m ((c : Thread nD τ).loc main_arg2)) := by
  show StableHlo.after hostOps0 _ _ = _
  after_results <;> rfl

/-- The result: every normalised row times every column of the weights, the columns in their order. -/
def product (x : FVec Ideal S33792x2048 .f32) (g : FVec Ideal S2048 .f32) (w : FVec Ideal S2048x17704 .f32) : FVec Ideal S33792x17920 .f32 := fun i =>
  ∑ k : Fin 2048, Layer.norm x g (i 0) k * column w k (i 1)

/-- The result from the arguments. -/
def productOf (c : Dev nD) : FVec Ideal S33792x17920 .f32 :=
  product (m ((c : Thread nD τ).loc main_arg0)) (m ((c : Thread nD τ).loc main_arg1)) (m ((c : Thread nD τ).loc main_arg2))

/-- A point's block of the weights. -/
theorem weights (c : Dev nD) (t : Fin cfg0.N) (k : Fin 2048) (v : Fin 512) :
    (iblk m c 2 t : FVec Ideal S2048x512 .bf16) (ix2 k v)
      = column (m ((c : Thread nD τ).loc main_arg2)) k ⟨512 * (t.val % 35) + v.val, by omega⟩ := by
  rw [← ordered_apply, ← entry m c]
  blk_ext [iblk, idx t]

/-- What a point stores of the result. -/
theorem stored (c : Dev nD) (t : Fin cfg0.N) (u : Fin 1024) (v : Fin 512) :
    ((outsAt0 m c t.val t.isLt).1 : FVec Ideal S1024x512 .f32) (ix2 u v)
      = ∑ k : Fin 2048, norm m c ⟨1024 * (t.val / 35) + u.val, by have := lt_points t; omega⟩ k
          * column (m ((c : Thread nD τ).loc main_arg2)) k ⟨512 * (t.val % 35) + v.val, by omega⟩ := by
  by_cases h : t.val % 35 = 0
  · rw [outsAt0_A m c t h]
    frame_out
    exact (pay2_eq _ _ u v).trans (Finset.sum_congr rfl fun k _ => congrArg₂ (· * ·) (pay1_eq m c t u k) (weights m c t k v))
  · rw [outsAt0_B m c t h]
    frame_out
    rw [read_unread_whole]
    refine (pay2_eq _ _ u v).trans (Finset.sum_congr rfl fun k _ => congrArg₂ (· * ·) ((kept m c (t.val - 1) _ u k).trans ?_) (weights m c t k v))
    exact congrArg (fun r => norm m c r k) (Fin.ext (by show 1024 * ((t.val - 1) / 35) + u.val = 1024 * (t.val / 35) + u.val; omega))

/-- The result's array after the run. -/
theorem final (c : Dev nD) : (dats m 0 c).arrAt 3 cfg0.N = productOf m c := by
  refine (dats m 0 c).arrAt_eq_of_covers 3 _ (by decide +kernel) fun t hf y => ?_
  have hl := lt_points t
  blk_simp
  rw [after0_3]
  obtain ⟨u, v, rfl⟩ : ∃ (u : Fin 1024) (v : Fin 512), y = (ix2 u v : S1024x512.Idx) := ⟨y 0, y 1, by funext a; match a with | 0 => rfl | 1 => rfl⟩
  have e : productOf m c (ix2 (⟨1024 * (t.val / 35) + u.val, by omega⟩ : Fin 33792) (⟨512 * (t.val % 35) + v.val, by omega⟩ : Fin 17920))
      = productOf m c ((win0_3.blk t).view.emb (ix2 u v)) := by
    blk_ext [idx t]
  rw [← e]
  exact stored m c t u v

/-- Every run of the kernel ends with the result so, and its arguments unchanged. -/
theorem run (ρ : Dev nD → PrngReg) : θ_run defs (onTc (τ := τ) (main (F := Ideal))) ⟨m, fun _ => 0, ρ⟩ fun r => ∀ c : Dev nD,
      r.2.mem ((c : Thread nD τ).loc main_v11) = productOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  run_from Cert.Kernel2Ideal.Gen.run_main m ρ
  exact final m _

end Cert.Kernel2Ideal.Rows

namespace Cert.Reference2Ideal.Rows

open Cert.Kernel2Ideal.Rows (within beyond off2 off3 off4 off5 off6)
open Cert.Reference2Ideal Cert.Reference2Ideal.Gen

/-- The reference's result is that product. -/
theorem result_eq (m : (ℓ : Loc nD τ sig) → Buf (Elt Ideal) ℓ) (c : Dev nD) :
    Value.res_main_v24 m c = Cert.Kernel2Ideal.Rows.product (m ((c.tc : Thread nD τ).loc main_arg0)) (m ((c.tc : Thread nD τ).loc main_arg1)) (m ((c.tc : Thread nD τ).loc main_arg2)) := by
  funext i
  obtain ⟨r, j, rfl⟩ : ∃ (r : Fin 33792) (j : Fin 17920), i = (ix2 r j : S33792x17920.Idx) := ⟨i 0, i 1, by funext a; match a with | 0 => rfl | 1 => rfl⟩
  pointwise [Value.res_main_v24, Cert.Kernel2Ideal.Rows.product, Cert.Kernel2Ideal.Rows.column, Layer.norm, Layer.normed]
  by_cases h0 : j.val < 6144
  · simp only [↓reduceDIte, h0]
  by_cases h1 : j.val < 9216
  · simp only [↓reduceDIte, h0, h1, (show j.val - 6144 < 3072 from within h0 h1 rfl)]
  have e1 : ¬ j.val - 6144 < 3072 := beyond h1 rfl
  by_cases h2 : j.val < 13312
  · simp only [↓reduceDIte, h0, h1, e1, h2, (show j.val - 6144 - 3072 < 4096 by rw [off2]; exact within h1 h2 rfl)]
    simp only [off2]
  have e2 : ¬ j.val - 6144 - 3072 < 4096 := by rw [off2]; exact beyond h2 rfl
  by_cases h3 : j.val < 17408
  · simp only [↓reduceDIte, h0, h1, e1, h2, e2, h3, (show j.val - 6144 - 3072 - 4096 < 4096 by rw [off3]; exact within h2 h3 rfl)]
    simp only [off3]
  have e3 : ¬ j.val - 6144 - 3072 - 4096 < 4096 := by rw [off3]; exact beyond h3 rfl
  by_cases h4 : j.val < 17696
  · simp only [↓reduceDIte, h0, h1, e1, h2, e2, h3, e3, h4, (show j.val - 6144 - 3072 - 4096 - 4096 < 288 by rw [off4]; exact within h3 h4 rfl)]
    simp only [off4]
  have e4 : ¬ j.val - 6144 - 3072 - 4096 - 4096 < 288 := by rw [off4]; exact beyond h4 rfl
  by_cases h5 : j.val < 17792
  · simp only [↓reduceDIte, h0, h1, e1, h2, e2, h3, e3, h4, e4, h5, (show j.val - 6144 - 3072 - 4096 - 4096 - 288 < 96 by rw [off5]; exact within h4 h5 rfl), mul_zero, Finset.sum_const_zero]
  have e5 : ¬ j.val - 6144 - 3072 - 4096 - 4096 - 288 < 96 := by rw [off5]; exact beyond h5 rfl
  by_cases h6 : j.val < 17800
  · simp only [↓reduceDIte, h0, h1, e1, h2, e2, h3, e3, h4, e4, h5, e5, h6, (show j.val - 6144 - 3072 - 4096 - 4096 - 288 - 96 < 8 by rw [off6]; exact within h5 h6 rfl)]
    simp only [off6, ← Nat.add_assoc, Nat.reduceAdd]
  have e6 : ¬ j.val - 6144 - 3072 - 4096 - 4096 - 288 - 96 < 8 := by rw [off6]; exact beyond h6 rfl
  simp only [↓reduceDIte, h0, h1, e1, h2, e2, h3, e3, h4, e4, h5, e5, h6, e6, mul_zero, Finset.sum_const_zero]

/-- Every run of the reference ends with the same result, and its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v24)
        = Cert.Kernel2Ideal.Rows.product (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun r h c => ⟨(h c).1.trans (by
      funext i
      rw [result_eq]), (h c).2⟩) (Cert.Reference2Ideal.Value.run m ρ)

end Cert.Reference2Ideal.Rows

end
-- ==== Proof.Up.Rows.lean ====
/-
  The up-projection: the normalised rows kept from one block of columns to the next, and the result.
-/
module

public import proofs.«01_k».proof.Proof.Layer.Spec
public import proofs.«01_k».proof.Proof.Gen.Kernel3Ideal.Frame
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.Kernel3Ideal.Rows

open Cert.Kernel3Ideal Cert.Kernel3Ideal.Gen

variable (m : (ℓ : Loc nD τ sig) → Buf (Elt Ideal) ℓ)

theorem lt_points (t : Fin cfg0.N) : t.val < 726 := lt_of_lt_of_eq t.isLt N_0

/-- The blocks a point works on: 22 blocks of columns for each block of rows. -/
theorem idx : ∀ t : Fin cfg0.N, win0_0.index t = ![t.val / 22, 0] ∧ win0_1.index t = ![0, 0]
    ∧ win0_2.index t = ![0, t.val % 22] ∧ win0_3.index t = ![t.val / 22, t.val % 22] :=
  (by decide +kernel : ∀ t : Fin grid0.N, _)

/-- Row `r` of the argument, normalised. -/
def norm (c : Dev nD) (r : Fin 33792) (k : Fin 2048) : EReal :=
  Layer.norm (m ((c : Thread nD τ).loc main_arg0)) (m ((c : Thread nD τ).loc main_arg1)) r k

/-- What the body stores of the rows of a block. -/
theorem pay1_eq (c : Dev nD) (t : Fin cfg0.N) (u : Fin 1024) (k : Fin 2048) :
    k0_pay1 (F := Ideal) (iblk m c 0 t) (iblk m c 1 t) (ix2 u k)
      = norm m c ⟨1024 * (t.val / 22) + u.val, by have := lt_points t; omega⟩ k := by
  have hl := lt_points t
  pointwise [k0_pay1, norm, Layer.norm, Layer.normed]
  blk_point [iblk, V, idx t]

/-- What the scratch holds after every point: the point's block of rows, normalised. -/
theorem kept (c : Dev nD) : ∀ (n : ℕ) (hn : n < cfg0.N) (u : Fin 1024) (k : Fin 2048),
    ((outsAt0 m c n hn).2 : FVec Ideal S1024x2048 .bf16) (ix2 u k)
      = norm m c ⟨1024 * (n / 22) + u.val, by have := lt_points ⟨n, hn⟩; simp only [] at this; omega⟩ k := by
  intro n
  induction n with
  | zero =>
    intro hn u k
    rw [outsAt0_A m c ⟨0, hn⟩ rfl]
    frame_out
    exact pay1_eq m c ⟨0, hn⟩ u k
  | succ n ih =>
    intro hn u k
    by_cases h : (n + 1) % 22 = 0
    · rw [outsAt0_A m c ⟨n + 1, hn⟩ h]
      frame_out
      exact pay1_eq m c ⟨n + 1, hn⟩ u k
    · rw [outsAt0_B m c ⟨n + 1, hn⟩ h]
      frame_out
      refine (ih (Nat.lt_of_succ_lt hn) u k).trans ?_
      exact congrArg (fun r => norm m c r k) (Fin.ext (by show 1024 * (n / 22) + u.val = 1024 * ((n + 1) / 22) + u.val; omega))

/-- What the body stores of the result, over any kept rows. -/
theorem pay2_eq (x : FVec Ideal S1024x2048 .bf16) (w : FVec Ideal S2048x512 .bf16) (u : Fin 1024) (v : Fin 512) :
    k0_pay2 (F := Ideal) x w (ix2 u v) = ∑ k : Fin 2048, x (ix2 u k) * w (ix2 k v) := by
  pointwise [k0_pay2]

end Cert.Kernel3Ideal.Rows

end
-- ==== Proof.Up.Final.lean ====
/-
  The up-projection's result after the run, the run itself, and the reference's result.
-/
module

public import proofs.«01_k».proof.Proof.Up.Rows
public import proofs.«01_k».proof.Proof.Gen.Reference3Ideal.Run
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel3Ideal.Rows

open Cert.Kernel3Ideal Cert.Kernel3Ideal.Gen

variable (m : (ℓ : Loc nD τ sig) → Buf (Elt Ideal) ℓ)

/-- The result: every normalised row times every column of the weights. -/
def product (x : FVec Ideal S33792x2048 .f32) (g : FVec Ideal S2048 .f32) (w : FVec Ideal S2048x11264 .f32) : FVec Ideal S33792x11264 .f32 := fun i =>
  ∑ k : Fin 2048, Layer.norm x g (i 0) k * w (ix2 k (i 1))

/-- The result from the arguments. -/
def productOf (c : Dev nD) : FVec Ideal S33792x11264 .f32 :=
  product (m ((c : Thread nD τ).loc main_arg0)) (m ((c : Thread nD τ).loc main_arg1)) (m ((c : Thread nD τ).loc main_arg2))

/-- A point's block of the weights. -/
theorem weights (c : Dev nD) (t : Fin cfg0.N) (k : Fin 2048) (v : Fin 512) :
    (iblk m c 2 t : FVec Ideal S2048x512 .bf16) (ix2 k v)
      = (m ((c : Thread nD τ).loc main_arg2) : FVec Ideal S2048x11264 .f32) (ix2 k ⟨512 * (t.val % 22) + v.val, by omega⟩) := by
  blk_point [iblk, V, idx t]

/-- What a point stores of the result. -/
theorem stored (c : Dev nD) (t : Fin cfg0.N) (u : Fin 1024) (v : Fin 512) :
    ((outsAt0 m c t.val t.isLt).1 : FVec Ideal S1024x512 .f32) (ix2 u v)
      = ∑ k : Fin 2048, norm m c ⟨1024 * (t.val / 22) + u.val, by have := lt_points t; omega⟩ k
          * (m ((c : Thread nD τ).loc main_arg2) : FVec Ideal S2048x11264 .f32) (ix2 k ⟨512 * (t.val % 22) + v.val, by omega⟩) := by
  by_cases h : t.val % 22 = 0
  · rw [outsAt0_A m c t h]
    frame_out
    exact (pay2_eq _ _ u v).trans (Finset.sum_congr rfl fun k _ => congrArg₂ (· * ·) (pay1_eq m c t u k) (weights m c t k v))
  · rw [outsAt0_B m c t h]
    frame_out
    rw [read_unread_whole]
    refine (pay2_eq _ _ u v).trans (Finset.sum_congr rfl fun k _ => congrArg₂ (· * ·) ((kept m c (t.val - 1) _ u k).trans ?_) (weights m c t k v))
    exact congrArg (fun r => norm m c r k) (Fin.ext (by show 1024 * ((t.val - 1) / 22) + u.val = 1024 * (t.val / 22) + u.val; omega))

/-- The result's array after the run. -/
theorem final (c : Dev nD) : (dats m 0 c).arrAt 3 cfg0.N = productOf m c := by
  refine (dats m 0 c).arrAt_eq_of_covers 3 _ (by decide +kernel) fun t hf y => ?_
  have hl := lt_points t
  blk_simp
  rw [after0_3]
  obtain ⟨u, v, rfl⟩ : ∃ (u : Fin 1024) (v : Fin 512), y = (ix2 u v : S1024x512.Idx) := ⟨y 0, y 1, by funext a; match a with | 0 => rfl | 1 => rfl⟩
  have e : productOf m c (ix2 (⟨1024 * (t.val / 22) + u.val, by omega⟩ : Fin 33792) (⟨512 * (t.val % 22) + v.val, by omega⟩ : Fin 11264))
      = productOf m c ((win0_3.blk t).view.emb (ix2 u v)) := by
    blk_ext [idx t]
  rw [← e]
  exact stored m c t u v

/-- Every run of the kernel ends with the result so, and its arguments unchanged. -/
theorem run (ρ : Dev nD → PrngReg) : θ_run defs (onTc (τ := τ) (main (F := Ideal))) ⟨m, fun _ => 0, ρ⟩ fun r => ∀ c : Dev nD,
      r.2.mem ((c : Thread nD τ).loc main_v2) = productOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  run_from Cert.Kernel3Ideal.Gen.run_main m ρ
  exact final m _

end Cert.Kernel3Ideal.Rows

namespace Cert.Reference3Ideal.Rows

open Cert.Reference3Ideal Cert.Reference3Ideal.Gen

/-- Every run of the reference ends with the same result, and its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13)
        = Cert.Kernel3Ideal.Rows.product (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun r h c => ⟨(h c).1.trans (by
      funext i
      pointwise [Cert.Kernel3Ideal.Rows.product, Layer.norm, Layer.normed]), (h c).2⟩) (Cert.Reference3Ideal.Value.run m ρ)

end Cert.Reference3Ideal.Rows

end
-- ==== Proof.Down.Sums.lean ====
/-
  The down-projection: the running sums kept from one block of the inner axis to the next.
-/
module

public import proofs.«01_k».proof.Proof.Layer.Spec
public import proofs.«01_k».proof.Proof.Gen.Kernel4Ideal.Frame
public import Idealize.ShloMosaic.Lib.Pipeline.Value
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel4Ideal.Sums

open Cert.Kernel4Ideal Cert.Kernel4Ideal.Gen

variable (m : (ℓ : Loc nD τ sig) → Buf (Elt Ideal) ℓ)

theorem lt_points (t : Fin cfg0.N) : t.val < 726 := lt_of_lt_of_eq t.isLt N_0

/-- The blocks a point works on: 33 blocks of rows, two of columns for each, eleven of the inner axis for each of these. -/
theorem idx : ∀ t : Fin cfg0.N, win0_0.index t = ![t.val / 22, t.val % 11] ∧ win0_1.index t = ![t.val % 11, t.val / 11 % 2]
    ∧ win0_2.index t = ![t.val / 22, t.val / 11 % 2] ∧ win0_3.index t = ![t.val / 22, t.val / 11 % 2] :=
  (by decide +kernel : ∀ t : Fin grid0.N, _)

/-- One term of an entry's sum: nothing from 5632 on. -/
def product (a : FVec Ideal S33792x5632 .f32) (w : FVec Ideal S5632x2048 .f32) (r : Fin 33792) (j : Fin 2048) (k : ℕ) : EReal :=
  if h : k < 5632 then a (ix2 r ⟨k, h⟩) * w (ix2 ⟨k, h⟩ j) else 0
def term (c : Dev nD) (r : Fin 33792) (j : Fin 2048) (k : ℕ) : EReal :=
  product (m ((c : Thread nD τ).loc main_arg0)) (m ((c : Thread nD τ).loc main_arg1)) r j k

/-- The filling of the sums at the start. -/
theorem pay1_eq (u v : Fin 1024) : k0_pay1 (F := Ideal) (ix2 u v) = (0 : EReal) := by
  pointwise [k0_pay1]

/-- One step of the sums. -/
theorem pay2_eq (acc : FVec Ideal S1024x1024 .f32) (a : FVec Ideal S1024x512 .bf16) (w : FVec Ideal S512x1024 .bf16) (u v : Fin 1024) :
    k0_pay2 (F := Ideal) acc a w (ix2 u v) = acc (ix2 u v) + ∑ k : Fin 512, a (ix2 u k) * w (ix2 k v) := by
  pointwise [k0_pay2]

/-- The result's entry from the sum and the residual. -/
theorem pay3_eq (x acc : FVec Ideal S1024x1024 .f32) (u v : Fin 1024) :
    k0_pay3 (F := Ideal) x acc (ix2 u v) = x (ix2 u v) + acc (ix2 u v) := by
  pointwise [k0_pay3]

/-- The row and the column an entry of a point's block stands at. -/
def row (n : ℕ) (hn : n < cfg0.N) (u : Fin 1024) : Fin 33792 := ⟨1024 * (n / 22) + u.val, by have := lt_points ⟨n, hn⟩; simp only [] at this; omega⟩
def col (n : ℕ) (v : Fin 1024) : Fin 2048 := ⟨1024 * (n / 11 % 2) + v.val, by omega⟩

/-- A point's block of the rows, and of the weights. -/
theorem rows (c : Dev nD) (t : Fin cfg0.N) (u : Fin 1024) (k : Fin 512) :
    (iblk m c 0 t : FVec Ideal S1024x512 .bf16) (ix2 u k)
      = (m ((c : Thread nD τ).loc main_arg0) : FVec Ideal S33792x5632 .f32) (ix2 (row t.val t.isLt u) ⟨512 * (t.val % 11) + k.val, by omega⟩) := by
  unfold row
  blk_point [iblk, V, idx t]
theorem weights (c : Dev nD) (t : Fin cfg0.N) (k : Fin 512) (v : Fin 1024) :
    (iblk m c 1 t : FVec Ideal S512x1024 .bf16) (ix2 k v)
      = (m ((c : Thread nD τ).loc main_arg1) : FVec Ideal S5632x2048 .f32) (ix2 ⟨512 * (t.val % 11) + k.val, by omega⟩ (col t.val v)) := by
  unfold col
  blk_point [iblk, V, idx t]
theorem residual (c : Dev nD) (t : Fin cfg0.N) (u v : Fin 1024) :
    (iblk m c 2 t : FVec Ideal S1024x1024 .f32) (ix2 u v)
      = (m ((c : Thread nD τ).loc main_arg2) : FVec Ideal S33792x2048 .f32) (ix2 (row t.val t.isLt u) (col t.val v)) := by
  unfold row col
  blk_point [iblk, V, idx t]

/-- What a point's product adds to a sum: the terms of its block. -/
theorem added (c : Dev nD) (t : Fin cfg0.N) (acc : FVec Ideal S1024x1024 .f32) (u v : Fin 1024) :
    k0_pay2 (F := Ideal) acc (iblk m c 0 t) (iblk m c 1 t) (ix2 u v)
      = acc (ix2 u v) + ∑ k ∈ Finset.range 512, term m c (row t.val t.isLt u) (col t.val v) (512 * (t.val % 11) + k) := by
  rw [Finset.sum_range]
  refine (pay2_eq acc _ _ u v).trans (congrArg _ (Finset.sum_congr rfl fun k _ => ?_))
  unfold term product
  rw [dif_pos (by omega)]
  exact congrArg₂ (· * ·) (rows m c t u k) (weights m c t k v)

/-- A sum one block further. -/
theorem longer (f : ℕ → EReal) (q : ℕ) :
    ∑ k ∈ Finset.range (512 * q), f k + ∑ k ∈ Finset.range 512, f (512 * q + k) = ∑ k ∈ Finset.range (512 * (q + 1)), f k := by
  rw [Nat.mul_add, Nat.mul_one, Finset.sum_range_add]

/-- What the scratch holds after a point, given what it held before it where the sums go on. -/
theorem step (c : Dev nD) (t : Fin cfg0.N) (u v : Fin 1024)
    (h : t.val % 11 ≠ 0 → ∀ h' : t.val - 1 < cfg0.N, ((outsAt0 m c (t.val - 1) h').2 : FVec Ideal S1024x1024 .f32) (ix2 u v)
      = ∑ k ∈ Finset.range (512 * (t.val % 11)), term m c (row t.val t.isLt u) (col t.val v) k) :
    ((outsAt0 m c t.val t.isLt).2 : FVec Ideal S1024x1024 .f32) (ix2 u v)
      = ∑ k ∈ Finset.range (512 * (t.val % 11 + 1)), term m c (row t.val t.isLt u) (col t.val v) k := by
  rw [← longer]
  by_cases h0 : t.val % 11 = 0
  · rw [outsAt0_A m c t h0 (by omega)]
    frame_out
    refine (added m c t _ u v).trans (congrArg (· + _) ?_)
    rw [h0]
    exact pay1_eq u v
  · by_cases h1 : t.val % 11 = 10
    · rw [outsAt0_C m c t h0 h1]
      frame_out
      rw [read_unread_whole]
      exact (added m c t _ u v).trans (congrArg (· + _) (h h0 _))
    · rw [outsAt0_B m c t h0 h1]
      frame_out
      rw [read_unread_whole]
      exact (added m c t _ u v).trans (congrArg (· + _) (h h0 _))

/-- What the scratch holds after every point: the sums so far. -/
theorem kept (c : Dev nD) : ∀ (n : ℕ) (hn : n < cfg0.N) (u v : Fin 1024),
    ((outsAt0 m c n hn).2 : FVec Ideal S1024x1024 .f32) (ix2 u v)
      = ∑ k ∈ Finset.range (512 * (n % 11 + 1)), term m c (row n hn u) (col n v) k := by
  intro n
  induction n with
  | zero => exact fun hn u v => step m c ⟨0, hn⟩ u v fun h => absurd rfl h
  | succ n ih =>
    refine fun hn u v => step m c ⟨n + 1, hn⟩ u v fun h h' => (ih _ u v).trans ?_
    have h : (n + 1) % 11 ≠ 0 := h
    have e1 : n % 11 + 1 = (n + 1) % 11 := by omega
    have e2 : row n h' u = row (n + 1) hn u := Fin.ext (by show 1024 * (n / 22) + u.val = 1024 * ((n + 1) / 22) + u.val; omega)
    have e3 : col n v = col (n + 1) v := Fin.ext (by show 1024 * (n / 11 % 2) + v.val = 1024 * ((n + 1) / 11 % 2) + v.val; omega)
    rw [e1, e2, e3]

end Cert.Kernel4Ideal.Sums

end
-- ==== Proof.Down.Final.lean ====
/-
  The down-projection's result after the run, the run itself, and the reference's result.
-/
module

public import proofs.«01_k».proof.Proof.Down.Sums
public import proofs.«01_k».proof.Proof.Gen.Reference4Ideal.Run

@[expose] public section

set_option maxRecDepth 16384

noncomputable section

open Idealize.ShloMosaic Idealize.ShloMosaic.TcCoe Idealize.SL.Sem
open Idealize.ShloMosaic.Pipeline (Dat)

namespace Cert.Kernel4Ideal.Sums

open Cert.Kernel4Ideal Cert.Kernel4Ideal.Gen

variable (m : (ℓ : Loc nD τ sig) → Buf (Elt Ideal) ℓ)

/-- The result: the residual plus every row times every column of the weights. -/
def down (a : FVec Ideal S33792x5632 .f32) (w : FVec Ideal S5632x2048 .f32) (x : FVec Ideal S33792x2048 .f32) : FVec Ideal S33792x2048 .f32 := fun i =>
  x i + ∑ k : Fin 5632, a (ix2 (i 0) k) * w (ix2 k (i 1))

/-- The result from the arguments. -/
def downOf (c : Dev nD) : FVec Ideal S33792x2048 .f32 :=
  down (m ((c : Thread nD τ).loc main_arg0)) (m ((c : Thread nD τ).loc main_arg1)) (m ((c : Thread nD τ).loc main_arg2))

/-- The residual, as launched. -/
abbrev residualOf (c : Dev nD) : FVec Ideal S33792x2048 .f32 := m ((c : Thread nD τ).loc main_arg2)

/-- All the terms of an entry's sum. -/
theorem whole (c : Dev nD) (r : Fin 33792) (j : Fin 2048) :
    residualOf m c (ix2 r j) + ∑ k ∈ Finset.range 5632, term m c r j k
      = downOf m c (ix2 r j) := by
  unfold downOf down
  refine congrArg _ ?_
  rw [Finset.sum_range]
  refine Finset.sum_congr rfl fun k _ => ?_
  unfold term product
  rw [dif_pos k.isLt]
  rfl

/-- What the last point of a block's sums stores of the result. -/
theorem stored (c : Dev nD) (t : Fin cfg0.N) (h1 : t.val % 11 = 10) (u v : Fin 1024) :
    ((outsAt0 m c t.val t.isLt).1 : FVec Ideal S1024x1024 .f32) (ix2 u v) = downOf m c (ix2 (row t.val t.isLt u) (col t.val v)) := by
  have h0 : ¬ t.val % 11 = 0 := by omega
  rw [← whole]
  have e := kept m c t.val t.isLt u v
  rw [h1] at e
  rw [outsAt0_C m c t h0 h1] at e ⊢
  frame_out
  revert e
  frame_out
  intro e
  exact (pay3_eq _ _ u v).trans (congrArg₂ (· + ·) (residual m c t u v) e)

/-- The result's array after the run. -/
theorem final (c : Dev nD) : (dats m 0 c).arrAt 3 cfg0.N = downOf m c := by
  refine (dats m 0 c).arrAt_eq_of_covers 3 _ (by decide +kernel) fun t hf y => ?_
  have hl := lt_points t
  blk_simp
  rw [after0_3]
  obtain ⟨u, v, rfl⟩ : ∃ (u v : Fin 1024), y = (ix2 u v : S1024x1024.Idx) := ⟨y 0, y 1, by funext a; match a with | 0 => rfl | 1 => rfl⟩
  have e : downOf m c (ix2 (row t.val t.isLt u) (col t.val v)) = downOf m c ((win0_3.blk t).view.emb (ix2 u v)) := by
    unfold row col
    blk_ext [idx t]
  rw [← e]
  exact stored m c t ((flush0_3 t).mp hf) u v

/-- Every run of the kernel ends with the result so, and its arguments unchanged. -/
theorem run (ρ : Dev nD → PrngReg) : θ_run defs (onTc (τ := τ) (main (F := Ideal))) ⟨m, fun _ => 0, ρ⟩ fun r => ∀ c : Dev nD,
      r.2.mem ((c : Thread nD τ).loc main_v2) = downOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  run_from Cert.Kernel4Ideal.Gen.run_main m ρ
  exact final m _

end Cert.Kernel4Ideal.Sums

namespace Cert.Reference4Ideal.Sums

open Cert.Reference4Ideal Cert.Reference4Ideal.Gen

/-- Every run of the reference ends with the same result, and its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v1)
        = Cert.Kernel4Ideal.Sums.down (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun r h c => ⟨(h c).1.trans (by
      funext i
      pointwise [Cert.Kernel4Ideal.Sums.down]), (h c).2⟩) (Cert.Reference4Ideal.Value.run m ρ)

end Cert.Reference4Ideal.Sums

end
-- ==== Proof.Merge.Rows.lean ====
/-
  The merge of the three mixers: the gated sums a point keeps, and what it stores, in plain formulas.
-/
module

public import proofs.«01_k».proof.Proof.Layer.Spec
public import proofs.«01_k».proof.Proof.Gen.Kernel5Ideal.Frame
public import Idealize.ShloMosaic.Lib.Pipeline.Value
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel5Ideal.Rows

open Cert.Kernel5Ideal Cert.Kernel5Ideal.Gen

variable (m : (ℓ : Loc nD τ sig) → Buf (Elt Ideal) ℓ)

theorem lt_points (t : Fin cfg0.N) : t.val < 132 := lt_of_lt_of_eq t.isLt N_0

/-- The blocks a point works on: its block of rows of each array, and all of the weights. -/
theorem idx : ∀ t : Fin cfg0.N, win0_0.index t = ![t.val, 0] ∧ win0_1.index t = ![t.val, 0] ∧ win0_2.index t = ![t.val, 1]
    ∧ win0_3.index t = ![t.val, 2] ∧ win0_4.index t = ![t.val, 0] ∧ win0_5.index t = ![t.val, 0] ∧ win0_6.index t = ![t.val, 0]
    ∧ win0_7.index t = ![0, 0, 0] ∧ win0_8.index t = ![0, 0] ∧ win0_9.index t = ![t.val, 0] :=
  (by decide +kernel : ∀ t : Fin grid0.N, _)

/-- The three mixers' rows through their weights, each gated, added up. -/
def mixed (z : FVec Ideal S33792x17920 .f32) (p q s : FVec Ideal S33792x1024 .f32) (w : FVec Ideal S3x1024x2048 .f32) (r : Fin 33792) (j : Fin 2048) : EReal :=
  Layer.sigmoid (z (ix2 r ⟨j.val, by omega⟩)) * (∑ k : Fin 1024, p (ix2 r k) * w (ix3 (0 : Fin 3) k j))
    + Layer.sigmoid (z (ix2 r ⟨2048 + j.val, by omega⟩)) * (∑ k : Fin 1024, q (ix2 r k) * w (ix3 (1 : Fin 3) k j))
    + Layer.sigmoid (z (ix2 r ⟨4096 + j.val, by omega⟩)) * (∑ k : Fin 1024, s (ix2 r k) * w (ix3 (2 : Fin 3) k j))

/-- The result: the residual plus every row so merged times every column of the last weights. -/
def merged (x : FVec Ideal S33792x2048 .f32) (z : FVec Ideal S33792x17920 .f32) (p q s : FVec Ideal S33792x1024 .f32) (w : FVec Ideal S3x1024x2048 .f32)
    (o : FVec Ideal S2048x2048 .f32) : FVec Ideal S33792x2048 .f32 := fun i =>
  x i + ∑ k : Fin 2048, mixed z p q s w (i 0) k * o (ix2 k (i 1))

/-- Row `r` mixed, from the arguments; and the result from them. -/
def mixedOf (c : Dev nD) : Fin 33792 → Fin 2048 → EReal :=
  mixed (m ((c : Thread nD τ).loc main_arg1)) (m ((c : Thread nD τ).loc main_arg2)) (m ((c : Thread nD τ).loc main_arg3))
    (m ((c : Thread nD τ).loc main_arg4)) (m ((c : Thread nD τ).loc main_arg5))
def mergedOf (c : Dev nD) : FVec Ideal S33792x2048 .f32 :=
  merged (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

/-- The row an entry of a point's block stands in. -/
def row (t : Fin cfg0.N) (u : Fin 256) : Fin 33792 := ⟨256 * t.val + u.val, by have := lt_points t; omega⟩

/-- The three blocks of the gates. -/
theorem gate1 (c : Dev nD) (t : Fin cfg0.N) (u : Fin 256) (j : Fin 2048) :
    (X0_1 m c t : FVec Ideal S256x2048 .f32) (ix2 u j) = (m ((c : Thread nD τ).loc main_arg1) : FVec Ideal S33792x17920 .f32) (ix2 (row t u) ⟨j.val, by omega⟩) := by
  unfold X0_1 Pipeline.Window.fill row
  rw [dif_pos (moved0_1 t _)]
  blk_simp [iblk, idx t, V_main_arg1]
  blk_ext [idx t]
theorem gate2 (c : Dev nD) (t : Fin cfg0.N) (u : Fin 256) (j : Fin 2048) :
    (X0_2 m c t : FVec Ideal S256x2048 .f32) (ix2 u j) = (m ((c : Thread nD τ).loc main_arg1) : FVec Ideal S33792x17920 .f32) (ix2 (row t u) ⟨2048 + j.val, by omega⟩) := by
  unfold X0_2 Pipeline.Window.fill row
  rw [dif_pos (moved0_2 t _)]
  blk_simp [iblk, idx t, V_main_arg1]
  blk_ext [idx t]
theorem gate3 (c : Dev nD) (t : Fin cfg0.N) (u : Fin 256) (j : Fin 2048) :
    (X0_3 m c t : FVec Ideal S256x2048 .f32) (ix2 u j) = (m ((c : Thread nD τ).loc main_arg1) : FVec Ideal S33792x17920 .f32) (ix2 (row t u) ⟨4096 + j.val, by omega⟩) := by
  unfold X0_3 Pipeline.Window.fill row
  rw [dif_pos (moved0_3 t _)]
  blk_simp [iblk, idx t, V_main_arg1]
  blk_ext [idx t]

/-- The residual's block, and the last weights'. -/
theorem residual (c : Dev nD) (t : Fin cfg0.N) (u : Fin 256) (j : Fin 2048) :
    (iblk m c 0 t : FVec Ideal S256x2048 .f32) (ix2 u j) = (m ((c : Thread nD τ).loc main_arg0) : FVec Ideal S33792x2048 .f32) (ix2 (row t u) j) := by
  unfold row
  blk_point [iblk, V, idx t]
theorem last (c : Dev nD) (t : Fin cfg0.N) (k j : Fin 2048) :
    (iblk m c 8 t : FVec Ideal S2048x2048 .bf16) (ix2 k j) = (m ((c : Thread nD τ).loc main_arg6) : FVec Ideal S2048x2048 .f32) (ix2 k j) := by
  blk_point [iblk, V, idx t]

/-- What a point stores of the result: block by block of its columns, from the gated sums kept block by block likewise. -/
theorem stored (c : Dev nD) (t : Fin cfg0.N) (u : Fin 256) (j : Fin 2048) :
    (outsAt0 m c t : FVec Ideal S256x2048 .f32) (ix2 u j) = mergedOf m c (ix2 (row t u) j) := by
  unfold outsAt0
  frame_out
  generalize eS : View.readCov (Val := Elt Ideal) (View.whole cc0_scratch0) _ _ = S
  have scratch : ∀ (a : Fin 256) (k : Fin 2048), S (ix2 a k) = mixedOf m c (row t a) k := by
    intro a k
    rw [← eS, View.readCov_eq_canon']
    clear eS
    show View.canon _ _ = _
    rw [show (Rect.unit (s := S256x2048) ![0, 0] ![256, 2048] inb_S256x2048_S256x2048_0_0).toLoadRect.idx (ix2 a k) = (ix2 a k : S256x2048.Idx) from
      funext fun i => Fin.ext (by match i with | ⟨0, _⟩ => (show 0 + 1 * a.val = a.val; omega) | ⟨1, _⟩ => (show 0 + 1 * k.val = k.val; omega))]
    canon_tiles x b
    · obtain ⟨v, w, rfl⟩ : ∃ (v : Fin 256) (w : Fin 512), x = (ix2 v w : S256x512.Idx) := ⟨x 0, x 1, by funext a; match a with | 0 => rfl | 1 => rfl⟩
      obtain rfl : a = v := Fin.ext b0
      obtain rfl : k = ⟨1536 + w.val, by clear b0 b1; omega⟩ := Fin.ext b1
      clear b0 b1 x0_lt x1_lt
      pointwise [k0_pay15, k0_pay16, k0_pay17, k0_pay18, k0_pay19, mixedOf, mixed, Layer.sigmoid]
      simp only [zero_sub, gate1, gate2, gate3]
      unfold row
      blk_point [iblk, V, idx t]
    · obtain ⟨v, w, rfl⟩ : ∃ (v : Fin 256) (w : Fin 512), x = (ix2 v w : S256x512.Idx) := ⟨x 0, x 1, by funext a; match a with | 0 => rfl | 1 => rfl⟩
      obtain rfl : a = v := Fin.ext b0
      obtain rfl : k = ⟨1024 + w.val, by clear b0 b1; omega⟩ := Fin.ext b1
      clear b0 b1 x0_lt x1_lt
      pointwise [k0_pay10, k0_pay11, k0_pay12, k0_pay13, k0_pay14, mixedOf, mixed, Layer.sigmoid]
      simp only [zero_sub, gate1, gate2, gate3]
      unfold row
      blk_point [iblk, V, idx t]
    · obtain ⟨v, w, rfl⟩ : ∃ (v : Fin 256) (w : Fin 512), x = (ix2 v w : S256x512.Idx) := ⟨x 0, x 1, by funext a; match a with | 0 => rfl | 1 => rfl⟩
      obtain rfl : a = v := Fin.ext b0
      obtain rfl : k = ⟨512 + w.val, by clear b0 b1; omega⟩ := Fin.ext b1
      clear b0 b1 x0_lt x1_lt
      pointwise [k0_pay7, k0_pay8, k0_pay9, mixedOf, mixed, Layer.sigmoid]
      simp only [zero_sub, gate1, gate2, gate3]
      unfold row
      blk_point [iblk, V, idx t]
    · obtain ⟨v, w, rfl⟩ : ∃ (v : Fin 256) (w : Fin 512), x = (ix2 v w : S256x512.Idx) := ⟨x 0, x 1, by funext a; match a with | 0 => rfl | 1 => rfl⟩
      obtain rfl : a = v := Fin.ext b0
      obtain rfl : k = ⟨w.val, by clear b0 b1; omega⟩ := Fin.ext b1
      clear b0 b1 x0_lt x1_lt
      pointwise [k0_pay4, k0_pay5, k0_pay6, mixedOf, mixed, Layer.sigmoid]
      simp only [zero_sub, gate1, gate2, gate3]
      unfold row
      blk_point [iblk, V, idx t]
  clear eS
  canon_tiles x b
  · obtain ⟨v, w, rfl⟩ : ∃ (v : Fin 256) (w : Fin 512), x = (ix2 v w : S256x512.Idx) := ⟨x 0, x 1, by funext a; match a with | 0 => rfl | 1 => rfl⟩
    obtain rfl : u = v := Fin.ext b0
    obtain rfl : j = ⟨1536 + w.val, by clear b0 b1; omega⟩ := Fin.ext b1
    clear b0 b1 x0_lt x1_lt
    pointwise [k0_pay3, mergedOf, merged, scratch]
    exact congrArg₂ (· + ·) (residual m c t u _) (Finset.sum_congr rfl fun k _ => congrArg (mixedOf m c (row t u) k * ·) (last m c t k _))
  · obtain ⟨v, w, rfl⟩ : ∃ (v : Fin 256) (w : Fin 512), x = (ix2 v w : S256x512.Idx) := ⟨x 0, x 1, by funext a; match a with | 0 => rfl | 1 => rfl⟩
    obtain rfl : u = v := Fin.ext b0
    obtain rfl : j = ⟨1024 + w.val, by clear b0 b1; omega⟩ := Fin.ext b1
    clear b0 b1 x0_lt x1_lt
    pointwise [k0_pay2, mergedOf, merged, scratch]
    exact congrArg₂ (· + ·) (residual m c t u _) (Finset.sum_congr rfl fun k _ => congrArg (mixedOf m c (row t u) k * ·) (last m c t k _))
  · obtain ⟨v, w, rfl⟩ : ∃ (v : Fin 256) (w : Fin 512), x = (ix2 v w : S256x512.Idx) := ⟨x 0, x 1, by funext a; match a with | 0 => rfl | 1 => rfl⟩
    obtain rfl : u = v := Fin.ext b0
    obtain rfl : j = ⟨512 + w.val, by clear b0 b1; omega⟩ := Fin.ext b1
    clear b0 b1 x0_lt x1_lt
    pointwise [k0_pay1, mergedOf, merged, scratch]
    exact congrArg₂ (· + ·) (residual m c t u _) (Finset.sum_congr rfl fun k _ => congrArg (mixedOf m c (row t u) k * ·) (last m c t k _))
  · obtain ⟨v, w, rfl⟩ : ∃ (v : Fin 256) (w : Fin 512), x = (ix2 v w : S256x512.Idx) := ⟨x 0, x 1, by funext a; match a with | 0 => rfl | 1 => rfl⟩
    obtain rfl : u = v := Fin.ext b0
    obtain rfl : j = ⟨w.val, by clear b0 b1; omega⟩ := Fin.ext b1
    clear b0 b1 x0_lt x1_lt
    pointwise [k0_pay20, mergedOf, merged, scratch]
    exact congrArg₂ (· + ·) (residual m c t u _) (Finset.sum_congr rfl fun k _ => congrArg (mixedOf m c (row t u) k * ·) (last m c t k _))

end Cert.Kernel5Ideal.Rows

end
-- ==== Proof.Merge.Final.lean ====
/-
  The merge's result after the run, the run itself, and the reference's result.
-/
module

public import proofs.«01_k».proof.Proof.Merge.Rows
public import proofs.«01_k».proof.Proof.Gen.Reference5Ideal.Run

@[expose] public section

set_option maxRecDepth 16384

noncomputable section

open Idealize.ShloMosaic Idealize.ShloMosaic.TcCoe Idealize.SL.Sem
open Idealize.ShloMosaic.Pipeline (Dat)

namespace Cert.Kernel5Ideal.Rows

open Cert.Kernel5Ideal Cert.Kernel5Ideal.Gen

variable (m : (ℓ : Loc nD τ sig) → Buf (Elt Ideal) ℓ)

/-- The result's array after the run. -/
theorem final (c : Dev nD) : (dats m 0 c).arrAt 9 cfg0.N = mergedOf m c := by
  refine (dats m 0 c).arrAt_eq_of_covers 9 _ (by decide +kernel) fun t hf y => ?_
  have hl := lt_points t
  blk_simp
  rw [after0_9]
  obtain ⟨u, j, rfl⟩ : ∃ (u : Fin 256) (j : Fin 2048), y = (ix2 u j : S256x2048.Idx) := ⟨y 0, y 1, by funext a; match a with | 0 => rfl | 1 => rfl⟩
  have e : mergedOf m c (ix2 (row t u) j) = mergedOf m c ((win0_9.blk t).view.emb (ix2 u j)) := by
    unfold row
    blk_ext [idx t]
  rw [← e]
  exact stored m c t u j

/-- Every run of the kernel ends with the result so, and its arguments unchanged. -/
theorem run (ρ : Dev nD → PrngReg) : θ_run defs (onTc (τ := τ) (main (F := Ideal))) ⟨m, fun _ => 0, ρ⟩ fun r => ∀ c : Dev nD,
      r.2.mem ((c : Thread nD τ).loc main_v5) = mergedOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) := by
  run_from Cert.Kernel5Ideal.Gen.run_main m ρ
  exact final m _

end Cert.Kernel5Ideal.Rows

namespace Cert.Reference5Ideal.Rows

open Cert.Reference5Ideal Cert.Reference5Ideal.Gen

/-- Every run of the reference ends with the same result, and its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v37)
        = Cert.Kernel5Ideal.Rows.merged (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run _ _ _).mono (fun r h c => ⟨(h c).1.trans (by
      funext i
      pointwise [Cert.Kernel5Ideal.Rows.merged, Cert.Kernel5Ideal.Rows.mixed, Layer.sigmoid]), (h c).2⟩) (Cert.Reference5Ideal.Value.run m ρ)

end Cert.Reference5Ideal.Rows

end
-- ==== Proof.Ple.Rows.lean ====
/-
  The gated embedding with the norm that ends the trunk: what a point stores, in plain formulas.
-/
module

public import proofs.«01_k».proof.Proof.Layer.Spec
public import proofs.«01_k».proof.Proof.Gen.Kernel6Ideal.Frame
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.Kernel6Ideal.Rows

open Cert.Kernel6Ideal Cert.Kernel6Ideal.Gen

variable (m : (ℓ : Loc nD τ sig) → Buf (Elt Ideal) ℓ)

theorem lt_points (t : Fin cfg0.N) : t.val < 66 := lt_of_lt_of_eq t.isLt N_0

/-- The blocks a point works on: its block of rows, and all of the weights. -/
theorem idx : ∀ t : Fin cfg0.N, win0_0.index t = ![t.val, 0] ∧ win0_1.index t = ![0, 0] ∧ win0_2.index t = ![0, 0]
    ∧ win0_3.index t = ![t.val, 0] ∧ win0_4.index t = ![0, 0] ∧ win0_5.index t = ![0, 0] ∧ win0_6.index t = ![t.val, 0] :=
  (by decide +kernel : ∀ t : Fin grid0.N, _)

/-- A row with the embedding's part added, gated by the normalised row. -/
def mixed (x : FVec Ideal S33792x2048 .f32) (g : FVec Ideal S2048 .f32) (w : FVec Ideal S2048x2048 .f32) (p : FVec Ideal S33792x256 .f32)
    (q : FVec Ideal S256x2048 .f32) (r : Fin 33792) (j : Fin 2048) : EReal :=
  x (ix2 r j) + (∑ k : Fin 256, p (ix2 r k) * q (ix2 k j)) * Layer.sigmoid (∑ k : Fin 2048, Layer.norm x g r k * w (ix2 k j))

/-- The result: those rows, normalised. -/
def ended (x : FVec Ideal S33792x2048 .f32) (g : FVec Ideal S2048 .f32) (w : FVec Ideal S2048x2048 .f32) (p : FVec Ideal S33792x256 .f32)
    (q : FVec Ideal S256x2048 .f32) (f : FVec Ideal S2048 .f32) : FVec Ideal S33792x2048 .f32 := fun i =>
  Layer.normed (mixed x g w p q (i 0)) (fun k => f (ix1 k)) (i 1)

/-- Row `r` mixed, from the arguments; and the result from them. -/
def mixedOf (c : Dev nD) : Fin 33792 → Fin 2048 → EReal :=
  mixed (m ((c : Thread nD τ).loc main_arg0)) (m ((c : Thread nD τ).loc main_arg1)) (m ((c : Thread nD τ).loc main_arg2))
    (m ((c : Thread nD τ).loc main_arg3)) (m ((c : Thread nD τ).loc main_arg4))
def endedOf (c : Dev nD) : FVec Ideal S33792x2048 .f32 :=
  ended (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The row an entry of a point's block stands in. -/
def row (t : Fin cfg0.N) (u : Fin 512) : Fin 33792 := ⟨512 * t.val + u.val, by have := lt_points t; omega⟩

/-- The point's rows, mixed. -/
theorem pay2_eq (c : Dev nD) (t : Fin cfg0.N) (u : Fin 512) (j : Fin 2048) :
    k0_pay2 (F := Ideal) (iblk m c 0 t) (iblk m c 1 t) (iblk m c 2 t) (iblk m c 3 t) (iblk m c 4 t) (ix2 u j) = mixedOf m c (row t u) j := by
  have hl := lt_points t
  unfold row
  pointwise [k0_pay2, mixedOf, mixed, Layer.sigmoid, Layer.norm, Layer.normed]
  simp only [zero_sub]
  blk_point [iblk, V, idx t]

/-- The norm that ends the trunk, over any rows. -/
theorem pay1_eq (x : FVec Ideal S512x2048 .f32) (f : FVec Ideal S1x2048 .f32) (s : FVec Ideal S512x1 .f32) (u : Fin 512) (j : Fin 2048) :
    k0_pay1 (F := Ideal) x f s (ix2 u j)
      = x (ix2 u j) * Ideal.rsqrt (Ideal.div (s (ix2 u (0 : Fin 1))) (Ideal.ofBits FTy.f32 0x45000000#32) + Ideal.ofBits FTy.f32 0x358637BD#32) * f (ix2 (0 : Fin 1) j) := by
  pointwise [k0_pay1]

/-- Its sum of squares. -/
theorem pay4_eq (c : Dev nD) (t : Fin cfg0.N) (u : Fin 512) :
    k0_pay4 (F := Ideal) (iblk m c 0 t) (iblk m c 1 t) (iblk m c 2 t) (iblk m c 3 t) (iblk m c 4 t) (ix2 u (0 : Fin 1))
      = ∑ j, mixedOf m c (row t u) j * mixedOf m c (row t u) j := by
  pointwise [k0_pay4]
  exact Finset.sum_congr rfl fun j _ => congrArg₂ (· * ·) (pay2_eq m c t u j) (pay2_eq m c t u j)

/-- Its weights. -/
theorem pay3_eq (c : Dev nD) (t : Fin cfg0.N) (j : Fin 2048) :
    k0_pay3 (F := Ideal) (iblk m c 5 t) (ix2 (0 : Fin 1) j) = (m ((c : Thread nD τ).loc main_arg5) : FVec Ideal S2048 .f32) (ix1 j) := by
  pointwise [k0_pay3]
  blk_point [iblk, V, idx t]

/-- What a point stores of the result. -/
theorem stored (c : Dev nD) (t : Fin cfg0.N) (u : Fin 512) (j : Fin 2048) :
    k0_pay1 (F := Ideal) (k0_pay2 (iblk m c 0 t) (iblk m c 1 t) (iblk m c 2 t) (iblk m c 3 t) (iblk m c 4 t)) (k0_pay3 (iblk m c 5 t))
        (k0_pay4 (iblk m c 0 t) (iblk m c 1 t) (iblk m c 2 t) (iblk m c 3 t) (iblk m c 4 t)) (ix2 u j)
      = endedOf m c (ix2 (row t u) j) := by
  rw [pay1_eq, pay2_eq, pay4_eq, pay3_eq]
  rfl

end Cert.Kernel6Ideal.Rows

end
-- ==== Proof.Ple.Final.lean ====
/-
  The gated embedding's result after the run, the run itself, and the reference's result.
-/
module

public import proofs.«01_k».proof.Proof.Ple.Rows
public import proofs.«01_k».proof.Proof.Gen.Reference6Ideal.Run

@[expose] public section

set_option maxRecDepth 16384

noncomputable section

open Idealize.ShloMosaic Idealize.ShloMosaic.TcCoe Idealize.SL.Sem
open Idealize.ShloMosaic.Pipeline (Dat)

namespace Cert.Kernel6Ideal.Rows

open Cert.Kernel6Ideal Cert.Kernel6Ideal.Gen

variable (m : (ℓ : Loc nD τ sig) → Buf (Elt Ideal) ℓ)

/-- The result's array after the run. -/
theorem final (c : Dev nD) : (dats m 0 c).arrAt 6 cfg0.N = endedOf m c := by
  refine (dats m 0 c).arrAt_eq_of_covers 6 _ (by decide +kernel) fun t hf y => ?_
  have hl := lt_points t
  blk_simp
  rw [after0_6]
  obtain ⟨u, j, rfl⟩ : ∃ (u : Fin 512) (j : Fin 2048), y = (ix2 u j : S512x2048.Idx) := ⟨y 0, y 1, by funext a; match a with | 0 => rfl | 1 => rfl⟩
  have e : endedOf m c (ix2 (row t u) j) = endedOf m c ((win0_6.blk t).view.emb (ix2 u j)) := by
    unfold row
    blk_ext [idx t]
  rw [← e, ← stored]
  frame_out

/-- Every run of the kernel ends with the result so, and its arguments unchanged. -/
theorem run (ρ : Dev nD → PrngReg) : θ_run defs (onTc (τ := τ) (main (F := Ideal))) ⟨m, fun _ => 0, ρ⟩ fun r => ∀ c : Dev nD,
      r.2.mem ((c : Thread nD τ).loc main_v4) = endedOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  run_from Cert.Kernel6Ideal.Gen.run_main m ρ
  exact final m _

end Cert.Kernel6Ideal.Rows

namespace Cert.Reference6Ideal.Rows

open Cert.Reference6Ideal Cert.Reference6Ideal.Gen

/-- The reference's result. -/
theorem result_eq (m : (ℓ : Loc nD τ sig) → Buf (Elt Ideal) ℓ) (c : Dev nD) :
    Value.res_main_v35 m c = Cert.Kernel6Ideal.Rows.ended (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  funext i
  pointwise [Value.res_main_v35, Cert.Kernel6Ideal.Rows.ended, Cert.Kernel6Ideal.Rows.mixed, Layer.sigmoid, Layer.norm, Layer.normed]

/-- Every run of the reference ends with the same result, and its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v35)
        = Cert.Kernel6Ideal.Rows.ended (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run _ _ _).mono (fun r h c => ⟨(h c).1.trans (result_eq m c), (h c).2⟩) (Cert.Reference6Ideal.Value.run m ρ)

end Cert.Reference6Ideal.Rows

end
-- ==== Proof.Embed.Rows.lean ====
/-
  The gated embedding of a layer before the last: what a point stores, in plain formulas.
-/
module

public import proofs.«01_k».proof.Proof.Ple.Rows
public import proofs.«01_k».proof.Proof.Gen.Kernel7Ideal.Frame
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.Kernel7Ideal.Rows

open Cert.Kernel7Ideal Cert.Kernel7Ideal.Gen

variable (m : (ℓ : Loc nD τ sig) → Buf (Elt Ideal) ℓ)

theorem lt_points (t : Fin cfg0.N) : t.val < 66 := lt_of_lt_of_eq t.isLt N_0

/-- The blocks a point works on: its block of rows, and all of the weights. -/
theorem idx : ∀ t : Fin cfg0.N, win0_0.index t = ![t.val, 0] ∧ win0_1.index t = ![0, 0] ∧ win0_2.index t = ![0, 0]
    ∧ win0_3.index t = ![t.val, 0] ∧ win0_4.index t = ![0, 0] ∧ win0_5.index t = ![0, 0] ∧ win0_6.index t = ![t.val, 0] :=
  (by decide +kernel : ∀ t : Fin grid0.N, _)

/-- The result: the rows with the embedding's part added (`mixed`, of the last layer's call), without the norm after them. -/
def mixed (x : FVec Ideal S33792x2048 .f32) (g : FVec Ideal S2048 .f32) (w : FVec Ideal S2048x2048 .f32) (p : FVec Ideal S33792x256 .f32)
    (q : FVec Ideal S256x2048 .f32) : FVec Ideal S33792x2048 .f32 := fun i => Cert.Kernel6Ideal.Rows.mixed x g w p q (i 0) (i 1)

/-- The result, from the arguments. -/
def mixedOf (c : Dev nD) : FVec Ideal S33792x2048 .f32 :=
  mixed (m ((c : Thread nD τ).loc main_arg0)) (m ((c : Thread nD τ).loc main_arg1)) (m ((c : Thread nD τ).loc main_arg2))
    (m ((c : Thread nD τ).loc main_arg3)) (m ((c : Thread nD τ).loc main_arg4))

/-- The row an entry of a point's block stands in. -/
def row (t : Fin cfg0.N) (u : Fin 512) : Fin 33792 := ⟨512 * t.val + u.val, by have := lt_points t; omega⟩

/-- What a point stores of the result. -/
theorem stored (c : Dev nD) (t : Fin cfg0.N) (u : Fin 512) (j : Fin 2048) :
    k0_pay1 (F := Ideal) (iblk m c 0 t) (iblk m c 1 t) (iblk m c 2 t) (iblk m c 3 t) (iblk m c 4 t) (ix2 u j) = mixedOf m c (ix2 (row t u) j) := by
  have hl := lt_points t
  unfold row
  pointwise [k0_pay1, mixedOf, mixed, Cert.Kernel6Ideal.Rows.mixed, Layer.sigmoid, Layer.norm, Layer.normed]
  simp only [zero_sub]
  blk_point [iblk, V, idx t]

end Cert.Kernel7Ideal.Rows

end
-- ==== Proof.Embed.Final.lean ====
/-
  The gated embedding's result, in a layer before the last, after the run, the run itself, and the reference's result.
-/
module

public import proofs.«01_k».proof.Proof.Embed.Rows
public import proofs.«01_k».proof.Proof.Gen.Reference7Ideal.Run

@[expose] public section

set_option maxRecDepth 16384

noncomputable section

open Idealize.ShloMosaic Idealize.ShloMosaic.TcCoe Idealize.SL.Sem
open Idealize.ShloMosaic.Pipeline (Dat)

namespace Cert.Kernel7Ideal.Rows

open Cert.Kernel7Ideal Cert.Kernel7Ideal.Gen

variable (m : (ℓ : Loc nD τ sig) → Buf (Elt Ideal) ℓ)

/-- The result's array after the run. -/
theorem final (c : Dev nD) : (dats m 0 c).arrAt 6 cfg0.N = mixedOf m c := by
  refine (dats m 0 c).arrAt_eq_of_covers 6 _ (by decide +kernel) fun t hf y => ?_
  have hl := lt_points t
  blk_simp
  rw [after0_6]
  obtain ⟨u, j, rfl⟩ : ∃ (u : Fin 512) (j : Fin 2048), y = (ix2 u j : S512x2048.Idx) := ⟨y 0, y 1, by funext a; match a with | 0 => rfl | 1 => rfl⟩
  have e : mixedOf m c (ix2 (row t u) j) = mixedOf m c ((win0_6.blk t).view.emb (ix2 u j)) := by
    unfold row
    blk_ext [idx t]
  rw [← e, ← stored]
  frame_out

/-- Every run of the kernel ends with the result so, and its arguments unchanged. -/
theorem run (ρ : Dev nD → PrngReg) : θ_run defs (onTc (τ := τ) (main (F := Ideal))) ⟨m, fun _ => 0, ρ⟩ fun r => ∀ c : Dev nD,
      r.2.mem ((c : Thread nD τ).loc main_v4) = mixedOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  run_from Cert.Kernel7Ideal.Gen.run_main m ρ
  exact final m _

end Cert.Kernel7Ideal.Rows

namespace Cert.Reference7Ideal.Rows

open Cert.Reference7Ideal Cert.Reference7Ideal.Gen

/-- Every run of the reference ends with the same result, and its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v22)
        = Cert.Kernel7Ideal.Rows.mixed (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run _ _ _).mono (fun r h c => ⟨(h c).1.trans (by
      funext i
      pointwise [Cert.Kernel7Ideal.Rows.mixed, Cert.Kernel6Ideal.Rows.mixed, Layer.sigmoid, Layer.norm, Layer.normed]), (h c).2⟩)
    (Cert.Reference7Ideal.Value.run m ρ)

end Cert.Reference7Ideal.Rows

end
-- ==== Proof.Act.Spec.lean ====
/-
  The activation call's results, in plain formulas.
-/
module

public import proofs.«01_k».proof.Proof.Layer.Spec
public import proofs.«01_k».proof.Proof.Gen.Kernel8Ideal.Frame
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.Kernel8Ideal.Act

open Cert.Kernel8Ideal Cert.Kernel8Ideal.Gen

/-- The place of a row in its stream: the prompts' rows come first, 8192 for each, then the samples', 64 for each. -/
def place (r : ℕ) : ℕ := if r < 32768 then r % 8192 else r % 64

/-- Row `r` of the first half of the columns, `k` frames back: a row of the same stream, or of the stream's state before
    it (two rows, for a sample; zero, for a prompt). -/
def past (up : FVec Ideal S33792x11264 .f32) (st : FVec Ideal S16x2x5632 .f32) (k : ℕ) (r : Fin 33792) (j : Fin 5632) : EReal :=
  if k ≤ place r.val then up (ix2 ⟨r.val - k, by omega⟩ ⟨j.val, by omega⟩)
  else if r.val < 32768 then 0
  else st (ix3 ⟨(r.val - 32768) / 64, by omega⟩ ⟨(2 + r.val % 64 - k) % 2, by omega⟩ j)

/-- The convolution of a row with the two before it. -/
def conv (up : FVec Ideal S33792x11264 .f32) (st : FVec Ideal S16x2x5632 .f32) (w : FVec Ideal S3x5632 .f32) (r : Fin 33792) (j : Fin 5632) : EReal :=
  past up st 2 r j * w (ix2 0 j) + past up st 1 r j * w (ix2 1 j) + past up st 0 r j * w (ix2 2 j)

/-- The Gaussian error linear unit, and its product with the second half of the columns. -/
def gelu (x : EReal) : EReal :=
  Ideal.ofBits FTy.f32 0x3F000000#32 * x * (1 + Ideal.erf (x * Ideal.ofBits FTy.f32 0x3F3504F3#32))
def active (up : FVec Ideal S33792x11264 .f32) (st : FVec Ideal S16x2x5632 .f32) (w : FVec Ideal S3x5632 .f32) : FVec Ideal S33792x5632 .bf16 := fun i =>
  gelu (conv up st w (i 0) (i 1)) * up (ix2 (i 0) ⟨5632 + (i 1).val, by have : (i 1).val < 5632 := (i 1).isLt; omega⟩)

/-- The last eight rows of stream `b`, and of those the last two: the first half of the columns. -/
def lastRow (b : ℕ) : ℕ := if b < 4 then 8192 * b + 8191 else 32768 + 64 * (b - 4) + 63
theorem lastRow_lt (b : Fin 20) : lastRow b.val < 33792 := by unfold lastRow; split <;> omega
theorem le_lastRow (b : ℕ) : 63 ≤ lastRow b := by unfold lastRow; split <;> omega
def eight (up : FVec Ideal S33792x11264 .f32) : FVec Ideal S20x8x5632 .f32 := fun i =>
  up (ix2 ⟨lastRow (i 0).val + (i 1).val - 7, by have h0 := lastRow_lt (i 0); have h1 : (i 1).val < 8 := (i 1).isLt; have h2 := le_lastRow (i 0).val; omega⟩
    ⟨(i 2).val, by have : (i 2).val < 5632 := (i 2).isLt; omega⟩)
def states (up : FVec Ideal S33792x11264 .f32) : FVec Ideal S20x2x5632 .f32 := fun i =>
  up (ix2 ⟨lastRow (i 0).val + (i 1).val - 1, by have h0 := lastRow_lt (i 0); have h1 : (i 1).val < 2 := (i 1).isLt; have h2 := le_lastRow (i 0).val; omega⟩
    ⟨(i 2).val, by have : (i 2).val < 5632 := (i 2).isLt; omega⟩)

end Cert.Kernel8Ideal.Act

end
-- ==== Proof.Act.Conditions.lean ====
/-
  The activation's launch: where a stream starts and ends, and the buffers each grid point works on.
-/
module

public import proofs.«01_k».proof.Proof.Gen.Kernel8Ideal.Frame
public import proofs.«01_k».proof.Proof.Gen.Kernel8Ideal.Skeleton
public import proofs.«01_k».proof.Proof.Gen.Kernel8Ideal.Points
public import Idealize.ShloMosaic.Lib.Pipeline.FrameBody
public import Idealize.ShloMosaic.Lib.Ring
public import Idealize.ShloMosaic.Lib.WritesUnit
public import Idealize.ShloMosaic.Lib.Tactic
public import Idealize.ShloMosaic.Lib.WordCmp

@[expose] public section

set_option maxRecDepth 16384

noncomputable section

namespace Cert.Kernel8Ideal.Act

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition under which a chunk copies its stream's last rows from before, from the grid coordinates. -/
abbrev startsStream (i : grid0.Coords) : Prop := (Scalar.cmpi .ne (Scalar.extui (Scalar.cmpi .eq (Scalar.select (Scalar.cmpi .slt (BitVec.ofNat 32 (i 0).val) 512#32) (Scalar.select (Scalar.andi (Scalar.xori (Scalar.cmpi .slt (Scalar.remsi (BitVec.ofNat 32 (i 0).val) (Scalar.select (Scalar.cmpi .eq 128#32 0#32) 1#32 128#32)) 0#32) (Scalar.cmpi .slt (Scalar.select (Scalar.cmpi .eq 128#32 0#32) 1#32 128#32) 0#32)) (Scalar.cmpi .ne (Scalar.remsi (BitVec.ofNat 32 (i 0).val) (Scalar.select (Scalar.cmpi .eq 128#32 0#32) 1#32 128#32)) 0#32)) (Scalar.addi (Scalar.remsi (BitVec.ofNat 32 (i 0).val) (Scalar.select (Scalar.cmpi .eq 128#32 0#32) 1#32 128#32)) (Scalar.select (Scalar.cmpi .eq 128#32 0#32) 1#32 128#32)) (Scalar.remsi (BitVec.ofNat 32 (i 0).val) (Scalar.select (Scalar.cmpi .eq 128#32 0#32) 1#32 128#32))) (Scalar.select (Scalar.andi (Scalar.xori (Scalar.cmpi .slt (Scalar.remsi (Scalar.subi (BitVec.ofNat 32 (i 0).val) 512#32) (Scalar.select (Scalar.cmpi .eq 1#32 0#32) 1#32 1#32)) 0#32) (Scalar.cmpi .slt (Scalar.select (Scalar.cmpi .eq 1#32 0#32) 1#32 1#32) 0#32)) (Scalar.cmpi .ne (Scalar.remsi (Scalar.subi (BitVec.ofNat 32 (i 0).val) 512#32) (Scalar.select (Scalar.cmpi .eq 1#32 0#32) 1#32 1#32)) 0#32)) (Scalar.addi (Scalar.remsi (Scalar.subi (BitVec.ofNat 32 (i 0).val) 512#32) (Scalar.select (Scalar.cmpi .eq 1#32 0#32) 1#32 1#32)) (Scalar.select (Scalar.cmpi .eq 1#32 0#32) 1#32 1#32)) (Scalar.remsi (Scalar.subi (BitVec.ofNat 32 (i 0).val) 512#32) (Scalar.select (Scalar.cmpi .eq 1#32 0#32) 1#32 1#32)))) 0#32)) 0#32) = 1#1

/-- It holds at the first chunk of each stream. -/
theorem startsStream_iff : ∀ t : Fin cfg0.N, startsStream (grid0.coords t) ↔ (t.val % 128 = 0 ∨ 512 ≤ t.val) :=
  (by decide +kernel : ∀ t : Fin grid0.N, startsStream (grid0.coords t) ↔ (t.val % 128 = 0 ∨ 512 ≤ t.val))

/-- The condition under which a chunk hands on its stream's last rows. -/
abbrev endsStream (i : grid0.Coords) : Prop := k0_cond2 i = 1#1

/-- It holds at the last chunk of each stream. -/
theorem endsStream_iff : ∀ t : Fin cfg0.N, endsStream (grid0.coords t) ↔ (t.val % 128 = 127 ∨ 512 ≤ t.val) :=
  (by decide +kernel : ∀ t : Fin grid0.N, endsStream (grid0.coords t) ↔ (t.val % 128 = 127 ∨ 512 ≤ t.val))

/-- There, and only there, the block of last rows is stored, and written back. -/
theorem idle_end : ∀ t : Fin cfg0.N, ¬endsStream (grid0.coords t) → cfg0.idle 5 (grid0.coords t) = true := by decide +kernel
theorem noFlush_end : ∀ t : Fin cfg0.N, ¬endsStream (grid0.coords t) → (cfg0.win 5).flush t = false := by decide +kernel
theorem live_end : ∀ t : Fin cfg0.N, endsStream (grid0.coords t) → cfg0.idle 5 (grid0.coords t) = false := by decide +kernel

/-- The buffers each grid point works on, window by window, and the one the rows are laid out in. -/
abbrev ms0_0 (t : Fin cfg0.N) : Memref sig .tc .vmem S64x5632 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x5632 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8x5632 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3x5632 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x5632 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8x5632 .f32 := win0_5.stage (cfg0.slots t 5)
abbrev hs0_5 (t : Fin cfg0.N) : (ms0_5 t).IsWhole := hstage0_5 ((cfg0.slots t 5).cast nbuf0_5)
abbrev lay : Memref sig .tc .vmem S72x5632 .f32 := Memref.whole cc0_scratch0

end Cert.Kernel8Ideal.Act

end
-- ==== Proof.Act.Runs.lean ====
/-
  What a grid point of the activation stores: the four cases of a stream's first and last chunk.
-/
module

public import proofs.«01_k».proof.Proof.Act.Conditions

@[expose] public section

set_option maxRecDepth 16384

noncomputable section

namespace Cert.Kernel8Ideal.Act

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the first chunk of a prompt stores, found by running the body over any contents of the buffer the rows are laid out in. -/
noncomputable def stores_first (c : Dev nD) (i : grid0.Coords) (arg1 : Memref sig .tc .vmem S64x5632 .f32) (harg1 : arg1.IsWhole) (arg2 : Memref sig .tc .vmem S64x5632 .f32) (harg2 : arg2.IsWhole) (arg3 : Memref sig .tc .vmem S1x8x5632 .f32) (harg3 : arg3.IsWhole) (arg4 : Memref sig .tc .vmem S3x5632 .f32) (harg4 : arg4.IsWhole) (arg5 : Memref sig .tc .vmem S64x5632 .bf16) (harg5 : arg5.IsWhole) (arg6 : Memref sig .tc .vmem S1x8x5632 .f32) (harg6 : arg6.IsWhole) (arg7 : Memref sig .tc .vmem S72x5632 .f32) (harg7 : arg7.IsWhole) (hc0 : startsStream i) (hc1 : ¬endsStream i)
    (x0 : Vec F S64x5632 .f32) (x1 : Vec F S64x5632 .f32) (x2 : Vec F S1x8x5632 .f32) (x3 : Vec F S3x5632 .f32) (xs : Vec F S72x5632 .f32) :
    Σ' (L4 : List (View.Piece (Elt F) S64x5632 .bf16)), { LS : List (View.Piece (Elt F) S72x5632 .f32) //
      ∀ (xi : Vec F S1x8x5632 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi ∗ owns (c : Thread nD τ) arg7 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi ∗ arg7.view.loc (c : Thread nD τ) ↦[arg7.view.set]{fullShare} arg7.view.writes (Elt F) (harg7.unread xs) LS) -∗ K ⟨⟩))
          ⊢ wp frame (wpE (defs₀ (F := F)) Variants.none c none) E (cc0_ffn_act i arg1 harg1 arg2 harg2 arg3 harg3 arg4 harg4 arg5 harg5 arg6 harg6 arg7 harg7) K } := by
  refine ⟨?_, ?_, fun xi E K => ?run⟩
  case run =>
    simp only [cc0_ffn_act_eq_skeleton]; unfold cc0_ffn_act_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs, %hfs, HS⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hfs
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    iexact HS

set_option maxHeartbeats 1000000 in
/-- What a chunk within a prompt stores, found by running the body over any contents of the buffer the rows are laid out in. -/
noncomputable def stores_next (c : Dev nD) (i : grid0.Coords) (arg1 : Memref sig .tc .vmem S64x5632 .f32) (harg1 : arg1.IsWhole) (arg2 : Memref sig .tc .vmem S64x5632 .f32) (harg2 : arg2.IsWhole) (arg3 : Memref sig .tc .vmem S1x8x5632 .f32) (harg3 : arg3.IsWhole) (arg4 : Memref sig .tc .vmem S3x5632 .f32) (harg4 : arg4.IsWhole) (arg5 : Memref sig .tc .vmem S64x5632 .bf16) (harg5 : arg5.IsWhole) (arg6 : Memref sig .tc .vmem S1x8x5632 .f32) (harg6 : arg6.IsWhole) (arg7 : Memref sig .tc .vmem S72x5632 .f32) (harg7 : arg7.IsWhole) (hc0 : ¬startsStream i) (hc1 : ¬endsStream i)
    (x0 : Vec F S64x5632 .f32) (x1 : Vec F S64x5632 .f32) (x2 : Vec F S1x8x5632 .f32) (x3 : Vec F S3x5632 .f32) (xs : Vec F S72x5632 .f32) :
    Σ' (L4 : List (View.Piece (Elt F) S64x5632 .bf16)), { LS : List (View.Piece (Elt F) S72x5632 .f32) //
      ∀ (xi : Vec F S1x8x5632 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi ∗ owns (c : Thread nD τ) arg7 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi ∗ arg7.view.loc (c : Thread nD τ) ↦[arg7.view.set]{fullShare} arg7.view.writes (Elt F) (harg7.unread xs) LS) -∗ K ⟨⟩))
          ⊢ wp frame (wpE (defs₀ (F := F)) Variants.none c none) E (cc0_ffn_act i arg1 harg1 arg2 harg2 arg3 harg3 arg4 harg4 arg5 harg5 arg6 harg6 arg7 harg7) K } := by
  refine ⟨?_, ?_, fun xi E K => ?run⟩
  case run =>
    simp only [cc0_ffn_act_eq_skeleton]; unfold cc0_ffn_act_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs, %hfs, HS⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hfs
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    iexact HS

set_option maxHeartbeats 1000000 in
/-- What the last chunk of a prompt stores, found by running the body over any contents of the buffer the rows are laid out in. -/
noncomputable def stores_last (c : Dev nD) (i : grid0.Coords) (arg1 : Memref sig .tc .vmem S64x5632 .f32) (harg1 : arg1.IsWhole) (arg2 : Memref sig .tc .vmem S64x5632 .f32) (harg2 : arg2.IsWhole) (arg3 : Memref sig .tc .vmem S1x8x5632 .f32) (harg3 : arg3.IsWhole) (arg4 : Memref sig .tc .vmem S3x5632 .f32) (harg4 : arg4.IsWhole) (arg5 : Memref sig .tc .vmem S64x5632 .bf16) (harg5 : arg5.IsWhole) (arg6 : Memref sig .tc .vmem S1x8x5632 .f32) (harg6 : arg6.IsWhole) (arg7 : Memref sig .tc .vmem S72x5632 .f32) (harg7 : arg7.IsWhole) (hc0 : ¬startsStream i) (hc1 : endsStream i)
    (x0 : Vec F S64x5632 .f32) (x1 : Vec F S64x5632 .f32) (x2 : Vec F S1x8x5632 .f32) (x3 : Vec F S3x5632 .f32) (xs : Vec F S72x5632 .f32) :
    Σ' (L4 : List (View.Piece (Elt F) S64x5632 .bf16)) (L5 : List (View.Piece (Elt F) S1x8x5632 .f32)), { LS : List (View.Piece (Elt F) S72x5632 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ arg7.view.loc (c : Thread nD τ) ↦[arg7.view.set]{fullShare} arg7.view.writes (Elt F) (harg7.unread xs) LS) -∗ K ⟨⟩))
          ⊢ wp frame (wpE (defs₀ (F := F)) Variants.none c none) E (cc0_ffn_act i arg1 harg1 arg2 harg2 arg3 harg3 arg4 harg4 arg5 harg5 arg6 harg6 arg7 harg7) K } := by
  refine ⟨?_, ?_, ?_, fun E K => ?run⟩
  case run =>
    simp only [cc0_ffn_act_eq_skeleton]; unfold cc0_ffn_act_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs, %hfs, HS⟩, Hk⟩
    obtain rfl := harg1.eq_unread hf0; obtain rfl := harg2.eq_unread hf1; obtain rfl := harg3.eq_unread hf2; obtain rfl := harg4.eq_unread hf3; obtain rfl := harg7.eq_unread hfs
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexact HS

set_option maxHeartbeats 1000000 in
/-- What a sample's one chunk stores, found by running the body over any contents of the buffer the rows are laid out in. -/
noncomputable def stores_only (c : Dev nD) (i : grid0.Coords) (arg1 : Memref sig .tc .vmem S64x5632 .f32) (harg1 : arg1.IsWhole) (arg2 : Memref sig .tc .vmem S64x5632 .f32) (harg2 : arg2.IsWhole) (arg3 : Memref sig .tc .vmem S1x8x5632 .f32) (harg3 : arg3.IsWhole) (arg4 : Memref sig .tc .vmem S3x5632 .f32) (harg4 : arg4.IsWhole) (arg5 : Memref sig .tc .vmem S64x5632 .bf16) (harg5 : arg5.IsWhole) (arg6 : Memref sig .tc .vmem S1x8x5632 .f32) (harg6 : arg6.IsWhole) (arg7 : Memref sig .tc .vmem S72x5632 .f32) (harg7 : arg7.IsWhole) (hc0 : startsStream i) (hc1 : endsStream i)
    (x0 : Vec F S64x5632 .f32) (x1 : Vec F S64x5632 .f32) (x2 : Vec F S1x8x5632 .f32) (x3 : Vec F S3x5632 .f32) (xs : Vec F S72x5632 .f32) :
    Σ' (L4 : List (View.Piece (Elt F) S64x5632 .bf16)) (L5 : List (View.Piece (Elt F) S1x8x5632 .f32)), { LS : List (View.Piece (Elt F) S72x5632 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ arg7.view.loc (c : Thread nD τ) ↦[arg7.view.set]{fullShare} arg7.view.writes (Elt F) (harg7.unread xs) LS) -∗ K ⟨⟩))
          ⊢ wp frame (wpE (defs₀ (F := F)) Variants.none c none) E (cc0_ffn_act i arg1 harg1 arg2 harg2 arg3 harg3 arg4 harg4 arg5 harg5 arg6 harg6 arg7 harg7) K } := by
  refine ⟨?_, ?_, ?_, fun E K => ?run⟩
  case run =>
    simp only [cc0_ffn_act_eq_skeleton]; unfold cc0_ffn_act_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs, %hfs, HS⟩, Hk⟩
    obtain rfl := harg1.eq_unread hf0; obtain rfl := harg2.eq_unread hf1; obtain rfl := harg3.eq_unread hf2; obtain rfl := harg4.eq_unread hf3; obtain rfl := harg7.eq_unread hfs
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexact HS

end Cert.Kernel8Ideal.Act

end
-- ==== Proof.Act.Laid.lean ====
/-
  The buffer the rows of a chunk are laid out in: eight rows from before, then the chunk's sixty-four.
-/
module

public import proofs.«01_k».proof.Proof.Act.Runs
public import Idealize.ShloMosaic.Lib.VecWindow
public import Idealize.ShloMosaic.Lib.Pointwise.Index

@[expose] public section

set_option maxRecDepth 16384

noncomputable section

namespace Cert.Kernel8Ideal.Act

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Eight rows, then sixty-four. -/
def ext (h : Vec F S8x5632 .f32) (p : Vec F S64x5632 .f32) : Vec F S72x5632 .f32 := fun y =>
  if hy : (y 0).val < 8 then h (ix2 (⟨(y 0).val, hy⟩ : Fin 8) (y 1))
  else p (ix2 (⟨(y 0).val - 8, by have : (y 0).val < 72 := (y 0).isLt; omega⟩ : Fin 64) (y 1))

/-- Sixty-four, or eight, of the seventy-two rows, from row `o` on. -/
def rows (o : ℕ) (ho : o + 64 ≤ 72) (e : Vec F S72x5632 .f32) : Vec F S64x5632 .f32 := fun y =>
  e (ix2 (⟨o + (y 0).val, by have : (y 0).val < 64 := (y 0).isLt; omega⟩ : Fin 72) (y 1))
def few (o : ℕ) (ho : o + 8 ≤ 72) (e : Vec F S72x5632 .f32) : Vec F S8x5632 .f32 := fun y =>
  e (ix2 (⟨o + (y 0).val, by have : (y 0).val < 8 := (y 0).isLt; omega⟩ : Fin 72) (y 1))

/-- The last eight of sixty-four rows. -/
def tail (p : Vec F S64x5632 .f32) : Vec F S8x5632 .f32 := fun y =>
  p (ix2 (⟨56 + (y 0).val, by have : (y 0).val < 8 := (y 0).isLt; omega⟩ : Fin 64) (y 1))

/-- One row of the convolution's weights. -/
def tap (j : Fin 3) (w : Vec F S3x5632 .f32) : Vec F S1x5632 .f32 := fun y => w (ix2 j (y 1))

theorem few_ext (h : Vec F S8x5632 .f32) (p : Vec F S64x5632 .f32) : few 0 (by decide) (ext h p) = h := by
  funext y
  have hy : (y 0).val < 8 := (y 0).isLt
  unfold few ext
  rw [dif_pos (show ((ix2 (⟨0 + (y 0).val, by omega⟩ : Fin 72) (y 1) : S72x5632.Idx) 0).val < 8 from by show 0 + (y 0).val < 8; omega)]
  refine congrArg h (funext fun a => ?_)
  match a with
  | 0 => exact Fin.ext (Nat.zero_add _)
  | 1 => rfl

theorem rows_ext (h : Vec F S8x5632 .f32) (p : Vec F S64x5632 .f32) : rows 8 (by decide) (ext h p) = p := by
  funext y
  have hy : (y 0).val < 64 := (y 0).isLt
  unfold rows ext
  rw [dif_neg (show ¬((ix2 (⟨8 + (y 0).val, by omega⟩ : Fin 72) (y 1) : S72x5632.Idx) 0).val < 8 from by show ¬8 + (y 0).val < 8; omega)]
  refine congrArg p (funext fun a => ?_)
  match a with
  | 0 => exact Fin.ext (Nat.add_sub_cancel_left _ _)
  | 1 => rfl

theorem few_tail (h : Vec F S8x5632 .f32) (p : Vec F S64x5632 .f32) : few 64 (by decide) (ext h p) = tail p := by
  funext y
  have hy : (y 0).val < 8 := (y 0).isLt
  unfold few ext tail
  rw [dif_neg (show ¬((ix2 (⟨64 + (y 0).val, by omega⟩ : Fin 72) (y 1) : S72x5632.Idx) 0).val < 8 from by show ¬64 + (y 0).val < 8; omega)]
  refine congrArg p (funext fun a => ?_)
  match a with
  | 0 => exact Fin.ext (by show 64 + (y 0).val - 8 = 56 + (y 0).val; omega)
  | 1 => rfl

/-! ## Loads and stores of rows -/

section

variable (v : View sig .tc .vmem S72x5632 .f32) (f : v.ty.Contents (Elt F))

theorem readAt_rows (o : ℕ) (ho : o + 64 ≤ 72) (inb : ∀ a, (![o, 0] : Fin 2 → ℕ) a + (![64, 5632] : Fin 2 → ℕ) a ≤ S72x5632.size a) :
    v.readAt (Elt F) (Rect.unit (s := S72x5632) ![o, 0] ![64, 5632] inb).toLoadRect f = rows o ho (v.read (Elt F) f) := by
  funext y
  refine congrArg (v.read (Elt F) f) (funext fun a => ?_)
  match a with
  | 0 => exact Fin.ext (by show o + 1 * (y 0).val = o + (y 0).val; omega)
  | 1 => exact Fin.ext (by show 0 + 1 * (y 1).val = (y 1).val; omega)

theorem readAt_few (o : ℕ) (ho : o + 8 ≤ 72) (inb : ∀ a, (![o, 0] : Fin 2 → ℕ) a + (![8, 5632] : Fin 2 → ℕ) a ≤ S72x5632.size a) :
    v.readAt (Elt F) (Rect.unit (s := S72x5632) ![o, 0] ![8, 5632] inb).toLoadRect f = few o ho (v.read (Elt F) f) := by
  funext y
  refine congrArg (v.read (Elt F) f) (funext fun a => ?_)
  match a with
  | 0 => exact Fin.ext (by show o + 1 * (y 0).val = o + (y 0).val; omega)
  | 1 => exact Fin.ext (by show 0 + 1 * (y 1).val = (y 1).val; omega)

theorem writes_none : v.writes (Elt F) f [] = f := rfl

/-- After a store of the chunk's rows. -/
theorem read_body (p : Vec F S64x5632 .f32) (inb : ∀ a, (![8, 0] : Fin 2 → ℕ) a + (![64, 5632] : Fin 2 → ℕ) a ≤ S72x5632.size a) (L : List (View.Piece (Elt F) S72x5632 .f32)) :
    v.read (Elt F) (v.writes (Elt F) f (⟨Rect.unit (s := S72x5632) ![8, 0] ![64, 5632] inb, p⟩ :: L))
      = ext (few 0 (by decide) (v.read (Elt F) (v.writes (Elt F) f L))) p := by
  funext y
  have hb : (y 0).val < 72 := (y 0).isLt
  unfold ext
  by_cases hy : (y 0).val < 8
  · rw [dif_pos hy]
    refine (View.read_writes_cons_rows_of_not_mem (d := ![72, 5632]) (o := 8) (W := 64) v f inb p L y rfl rfl (Or.inl hy)).trans ?_
    refine congrArg (v.read (Elt F) (v.writes (Elt F) f L)) (funext fun a => ?_)
    match a with
    | 0 => exact Fin.ext (Nat.zero_add _).symm
    | 1 => rfl
  · rw [dif_neg hy]
    exact View.read_writes_cons_rows_of_mem (d := ![72, 5632]) (o := 8) v f inb p L y _ rfl (by show (y 0).val = 8 + ((y 0).val - 8); omega) rfl

/-- After a store of the rows from before. -/
theorem read_head (h : Vec F S8x5632 .f32) (inb : ∀ a, (![0, 0] : Fin 2 → ℕ) a + (![8, 5632] : Fin 2 → ℕ) a ≤ S72x5632.size a) (L : List (View.Piece (Elt F) S72x5632 .f32)) :
    v.read (Elt F) (v.writes (Elt F) f (⟨Rect.unit (s := S72x5632) ![0, 0] ![8, 5632] inb, h⟩ :: L))
      = ext h (rows 8 (by decide) (v.read (Elt F) (v.writes (Elt F) f L))) := by
  funext y
  have hb : (y 0).val < 72 := (y 0).isLt
  unfold ext
  by_cases hy : (y 0).val < 8
  · rw [dif_pos hy]
    exact View.read_writes_cons_rows_of_mem (d := ![72, 5632]) (o := 0) v f inb h L y _ rfl (by show (y 0).val = 0 + (y 0).val; omega) rfl
  · rw [dif_neg hy]
    refine (View.read_writes_cons_rows_of_not_mem (d := ![72, 5632]) (o := 0) (W := 8) v f inb h L y rfl rfl (Or.inr (by omega))).trans ?_
    refine congrArg (v.read (Elt F) (v.writes (Elt F) f L)) (funext fun a => ?_)
    match a with
    | 0 => exact Fin.ext (by show (y 0).val = 8 + ((y 0).val - 8); omega)
    | 1 => rfl

end

/-- A load of one row of the convolution's weights. -/
theorem readAt_tap (v : View sig .tc .vmem S3x5632 .f32) (f : v.ty.Contents (Elt F)) (o : ℕ) (ho : o < 3)
    (inb : ∀ a, (![o, 0] : Fin 2 → ℕ) a + (![1, 5632] : Fin 2 → ℕ) a ≤ S3x5632.size a) :
    v.readAt (Elt F) (Rect.unit (s := S3x5632) ![o, 0] ![1, 5632] inb).toLoadRect f = tap ⟨o, ho⟩ (v.read (Elt F) f) := by
  funext y
  refine congrArg (v.read (Elt F) f) (funext fun a => ?_)
  have h0 : (y 0).val < 1 := (y 0).isLt
  match a with
  | 0 => exact Fin.ext (by show o + 1 * (y 0).val = o; omega)
  | 1 => exact Fin.ext (by show 0 + 1 * (y 1).val = (y 1).val; omega)

/-- A load of a whole block. -/
theorem readAt_chunk (v : View sig .tc .vmem S64x5632 .f32) (f : v.ty.Contents (Elt F)) (inb : ∀ a, (![0, 0] : Fin 2 → ℕ) a + (![64, 5632] : Fin 2 → ℕ) a ≤ S64x5632.size a) :
    v.readAt (Elt F) (Rect.unit (s := S64x5632) ![0, 0] ![64, 5632] inb).toLoadRect f = v.read (Elt F) f := by
  funext y
  refine congrArg (v.read (Elt F) f) (funext fun a => ?_)
  match a with
  | 0 => exact Fin.ext (by show 0 + 1 * (y 0).val = (y 0).val; omega)
  | 1 => exact Fin.ext (by show 0 + 1 * (y 1).val = (y 1).val; omega)

theorem readAt_halo (v : View sig .tc .vmem S1x8x5632 .f32) (f : v.ty.Contents (Elt F)) (inb : ∀ a, (![0, 0, 0] : Fin 3 → ℕ) a + (![1, 8, 5632] : Fin 3 → ℕ) a ≤ S1x8x5632.size a) :
    v.readAt (Elt F) (Rect.unit (s := S1x8x5632) ![0, 0, 0] ![1, 8, 5632] inb).toLoadRect f = v.read (Elt F) f := by
  funext y
  refine congrArg (v.read (Elt F) f) (funext fun a => ?_)
  match a with
  | 0 => exact Fin.ext (by show 0 + 1 * (y 0).val = (y 0).val; omega)
  | 1 => exact Fin.ext (by show 0 + 1 * (y 1).val = (y 1).val; omega)
  | 2 => exact Fin.ext (by show 0 + 1 * (y 2).val = (y 2).val; omega)

/-- A store of a whole block. -/
theorem read_chunk (v : View sig .tc .vmem S64x5632 .bf16) (f : v.ty.Contents (Elt F)) (p : Vec F S64x5632 .bf16) (inb : ∀ a, (![0, 0] : Fin 2 → ℕ) a + (![64, 5632] : Fin 2 → ℕ) a ≤ S64x5632.size a) :
    v.read (Elt F) (v.writes (Elt F) f [⟨Rect.unit (s := S64x5632) ![0, 0] ![64, 5632] inb, p⟩]) = p :=
  funext fun y => View.read_writes_cons_rows_of_mem (d := ![64, 5632]) (o := 0) v f inb p [] y y rfl (Nat.zero_add _).symm rfl

/-! ## What a point leaves -/

/-- The activation's rows, from the rows from before and the blocks. -/
def acted (h : Vec F S8x5632 .f32) (x0 : Vec F S64x5632 .f32) (x1 : Vec F S64x5632 .f32) (x3 : Vec F S3x5632 .f32) : Vec F S64x5632 .bf16 :=
  k0_pay5 x0 (rows 7 (by decide) (ext h (k0_pay3 x0))) (rows 6 (by decide) (ext h (k0_pay3 x0))) (tap 0 x3) (tap 1 x3) (tap 2 x3) x1

/-- The chunk's last rows, and the buffer with them in front. -/
def kept (x0 : Vec F S64x5632 .f32) : Vec F S8x5632 .f32 := k0_pay4 (tail (k0_pay3 x0))
def laid (x0 : Vec F S64x5632 .f32) : Vec F S72x5632 .f32 := ext (kept x0) (k0_pay3 x0)

/-- The first chunk of a prompt: its rows of the activation, the buffer after it. -/
theorem stores_first_rows (c : Dev nD) (i : grid0.Coords) (arg1 : Memref sig .tc .vmem S64x5632 .f32) (harg1 : arg1.IsWhole) (arg2 : Memref sig .tc .vmem S64x5632 .f32) (harg2 : arg2.IsWhole) (arg3 : Memref sig .tc .vmem S1x8x5632 .f32) (harg3 : arg3.IsWhole) (arg4 : Memref sig .tc .vmem S3x5632 .f32) (harg4 : arg4.IsWhole) (arg5 : Memref sig .tc .vmem S64x5632 .bf16) (harg5 : arg5.IsWhole) (arg6 : Memref sig .tc .vmem S1x8x5632 .f32) (harg6 : arg6.IsWhole) (arg7 : Memref sig .tc .vmem S72x5632 .f32) (harg7 : arg7.IsWhole) (hc0 : startsStream i) (hc1 : ¬endsStream i)
    (x0 : Vec F S64x5632 .f32) (x1 : Vec F S64x5632 .f32) (x2 : Vec F S1x8x5632 .f32) (x3 : Vec F S3x5632 .f32) (xs : Vec F S72x5632 .f32) (f) :
    arg5.view.read (Elt F) (arg5.view.writes (Elt F) f (stores_first c i arg1 harg1 arg2 harg2 arg3 harg3 arg4 harg4 arg5 harg5 arg6 harg6 arg7 harg7 hc0 hc1 x0 x1 x2 x3 xs).1) = acted (k0_pay2 x2) x0 x1 x3 := by
  unfold stores_first
  dsimp only
  refine (read_chunk _ _ _ _).trans ?_
  simp only [stores_first.sl.HS_2, stores_first.sl.r, stores_first.sl.v30, stores_first.sl.v31, stores_first.sl.v43, View.readCov, readAt_chunk, readAt_halo, readAt_rows _ _ 7 (by decide), readAt_rows _ _ 6 (by decide), readAt_few _ _ 0 (by decide), readAt_few _ _ 64 (by decide), read_body, read_head, few_ext, rows_ext, few_tail, readAt_tap _ _ 0 (by decide), readAt_tap _ _ 1 (by decide), readAt_tap _ _ 2 (by decide)]
  simp only [harg1.read_unread, harg2.read_unread, harg3.read_unread, harg4.read_unread, harg7.read_unread]
  rfl

theorem stores_first_laid (c : Dev nD) (i : grid0.Coords) (arg1 : Memref sig .tc .vmem S64x5632 .f32) (harg1 : arg1.IsWhole) (arg2 : Memref sig .tc .vmem S64x5632 .f32) (harg2 : arg2.IsWhole) (arg3 : Memref sig .tc .vmem S1x8x5632 .f32) (harg3 : arg3.IsWhole) (arg4 : Memref sig .tc .vmem S3x5632 .f32) (harg4 : arg4.IsWhole) (arg5 : Memref sig .tc .vmem S64x5632 .bf16) (harg5 : arg5.IsWhole) (arg6 : Memref sig .tc .vmem S1x8x5632 .f32) (harg6 : arg6.IsWhole) (arg7 : Memref sig .tc .vmem S72x5632 .f32) (harg7 : arg7.IsWhole) (hc0 : startsStream i) (hc1 : ¬endsStream i)
    (x0 : Vec F S64x5632 .f32) (x1 : Vec F S64x5632 .f32) (x2 : Vec F S1x8x5632 .f32) (x3 : Vec F S3x5632 .f32) (xs : Vec F S72x5632 .f32) (f) :
    arg7.view.read (Elt F) (arg7.view.writes (Elt F) f (stores_first c i arg1 harg1 arg2 harg2 arg3 harg3 arg4 harg4 arg5 harg5 arg6 harg6 arg7 harg7 hc0 hc1 x0 x1 x2 x3 xs).2.1) = laid x0 := by
  unfold stores_first
  dsimp only
  simp only [stores_first.sl.HS_2, stores_first.sl.r, stores_first.sl.v30, stores_first.sl.v31, stores_first.sl.v43, View.readCov, readAt_chunk, readAt_halo, readAt_rows _ _ 7 (by decide), readAt_rows _ _ 6 (by decide), readAt_few _ _ 0 (by decide), readAt_few _ _ 64 (by decide), read_body, read_head, few_ext, rows_ext, few_tail]
  simp only [harg1.read_unread, harg3.read_unread, harg7.read_unread]
  rfl

/-- A chunk within a prompt: its rows of the activation, the buffer after it. -/
theorem stores_next_rows (c : Dev nD) (i : grid0.Coords) (arg1 : Memref sig .tc .vmem S64x5632 .f32) (harg1 : arg1.IsWhole) (arg2 : Memref sig .tc .vmem S64x5632 .f32) (harg2 : arg2.IsWhole) (arg3 : Memref sig .tc .vmem S1x8x5632 .f32) (harg3 : arg3.IsWhole) (arg4 : Memref sig .tc .vmem S3x5632 .f32) (harg4 : arg4.IsWhole) (arg5 : Memref sig .tc .vmem S64x5632 .bf16) (harg5 : arg5.IsWhole) (arg6 : Memref sig .tc .vmem S1x8x5632 .f32) (harg6 : arg6.IsWhole) (arg7 : Memref sig .tc .vmem S72x5632 .f32) (harg7 : arg7.IsWhole) (hc0 : ¬startsStream i) (hc1 : ¬endsStream i)
    (x0 : Vec F S64x5632 .f32) (x1 : Vec F S64x5632 .f32) (x2 : Vec F S1x8x5632 .f32) (x3 : Vec F S3x5632 .f32) (xs : Vec F S72x5632 .f32) (f) :
    arg5.view.read (Elt F) (arg5.view.writes (Elt F) f (stores_next c i arg1 harg1 arg2 harg2 arg3 harg3 arg4 harg4 arg5 harg5 arg6 harg6 arg7 harg7 hc0 hc1 x0 x1 x2 x3 xs).1) = acted (few 0 (by decide) xs) x0 x1 x3 := by
  unfold stores_next
  dsimp only
  refine (read_chunk _ _ _ _).trans ?_
  simp only [stores_next.sl.HS_1, stores_next.sl.r, stores_next.sl.r_1, stores_next.sl.r_2, stores_next.sl.v43, writes_none, View.readCov, readAt_chunk, readAt_halo, readAt_rows _ _ 7 (by decide), readAt_rows _ _ 6 (by decide), readAt_few _ _ 0 (by decide), readAt_few _ _ 64 (by decide), read_body, read_head, readAt_tap _ _ 0 (by decide), readAt_tap _ _ 1 (by decide), readAt_tap _ _ 2 (by decide)]
  simp only [harg1.read_unread, harg2.read_unread, harg3.read_unread, harg4.read_unread, harg7.read_unread]
  rfl

theorem stores_next_laid (c : Dev nD) (i : grid0.Coords) (arg1 : Memref sig .tc .vmem S64x5632 .f32) (harg1 : arg1.IsWhole) (arg2 : Memref sig .tc .vmem S64x5632 .f32) (harg2 : arg2.IsWhole) (arg3 : Memref sig .tc .vmem S1x8x5632 .f32) (harg3 : arg3.IsWhole) (arg4 : Memref sig .tc .vmem S3x5632 .f32) (harg4 : arg4.IsWhole) (arg5 : Memref sig .tc .vmem S64x5632 .bf16) (harg5 : arg5.IsWhole) (arg6 : Memref sig .tc .vmem S1x8x5632 .f32) (harg6 : arg6.IsWhole) (arg7 : Memref sig .tc .vmem S72x5632 .f32) (harg7 : arg7.IsWhole) (hc0 : ¬startsStream i) (hc1 : ¬endsStream i)
    (x0 : Vec F S64x5632 .f32) (x1 : Vec F S64x5632 .f32) (x2 : Vec F S1x8x5632 .f32) (x3 : Vec F S3x5632 .f32) (xs : Vec F S72x5632 .f32) (f) :
    arg7.view.read (Elt F) (arg7.view.writes (Elt F) f (stores_next c i arg1 harg1 arg2 harg2 arg3 harg3 arg4 harg4 arg5 harg5 arg6 harg6 arg7 harg7 hc0 hc1 x0 x1 x2 x3 xs).2.1) = laid x0 := by
  unfold stores_next
  dsimp only
  simp only [stores_next.sl.HS_1, stores_next.sl.r, stores_next.sl.r_1, stores_next.sl.r_2, stores_next.sl.v43, View.readCov, readAt_chunk, readAt_halo, readAt_rows _ _ 7 (by decide), readAt_rows _ _ 6 (by decide), readAt_few _ _ 0 (by decide), readAt_few _ _ 64 (by decide), read_body, read_head, few_ext, rows_ext, few_tail]
  simp only [harg1.read_unread, harg3.read_unread, harg7.read_unread]
  rfl

/-- The last chunk of a prompt: its rows of the activation, the buffer after it, and the last rows it hands on. -/
theorem stores_last_rows (c : Dev nD) (i : grid0.Coords) (arg1 : Memref sig .tc .vmem S64x5632 .f32) (harg1 : arg1.IsWhole) (arg2 : Memref sig .tc .vmem S64x5632 .f32) (harg2 : arg2.IsWhole) (arg3 : Memref sig .tc .vmem S1x8x5632 .f32) (harg3 : arg3.IsWhole) (arg4 : Memref sig .tc .vmem S3x5632 .f32) (harg4 : arg4.IsWhole) (arg5 : Memref sig .tc .vmem S64x5632 .bf16) (harg5 : arg5.IsWhole) (arg6 : Memref sig .tc .vmem S1x8x5632 .f32) (harg6 : arg6.IsWhole) (arg7 : Memref sig .tc .vmem S72x5632 .f32) (harg7 : arg7.IsWhole) (hc0 : ¬startsStream i) (hc1 : endsStream i)
    (x0 : Vec F S64x5632 .f32) (x1 : Vec F S64x5632 .f32) (x2 : Vec F S1x8x5632 .f32) (x3 : Vec F S3x5632 .f32) (xs : Vec F S72x5632 .f32) (f) :
    arg5.view.read (Elt F) (arg5.view.writes (Elt F) f (stores_last c i arg1 harg1 arg2 harg2 arg3 harg3 arg4 harg4 arg5 harg5 arg6 harg6 arg7 harg7 hc0 hc1 x0 x1 x2 x3 xs).1) = acted (few 0 (by decide) xs) x0 x1 x3 := by
  unfold stores_last
  dsimp only
  refine (read_chunk _ _ _ _).trans ?_
  simp only [stores_last.sl.HS_1, stores_last.sl.HS_2, stores_last.sl.r, stores_last.sl.r_1, stores_last.sl.r_2, stores_last.sl.v43, writes_none, View.readCov, readAt_chunk, readAt_halo, readAt_rows _ _ 7 (by decide), readAt_rows _ _ 6 (by decide), readAt_few _ _ 0 (by decide), readAt_few _ _ 64 (by decide), read_body, read_head, readAt_tap _ _ 0 (by decide), readAt_tap _ _ 1 (by decide), readAt_tap _ _ 2 (by decide)]
  simp only [harg1.read_unread, harg2.read_unread, harg3.read_unread, harg4.read_unread, harg7.read_unread]
  rfl

theorem stores_last_laid (c : Dev nD) (i : grid0.Coords) (arg1 : Memref sig .tc .vmem S64x5632 .f32) (harg1 : arg1.IsWhole) (arg2 : Memref sig .tc .vmem S64x5632 .f32) (harg2 : arg2.IsWhole) (arg3 : Memref sig .tc .vmem S1x8x5632 .f32) (harg3 : arg3.IsWhole) (arg4 : Memref sig .tc .vmem S3x5632 .f32) (harg4 : arg4.IsWhole) (arg5 : Memref sig .tc .vmem S64x5632 .bf16) (harg5 : arg5.IsWhole) (arg6 : Memref sig .tc .vmem S1x8x5632 .f32) (harg6 : arg6.IsWhole) (arg7 : Memref sig .tc .vmem S72x5632 .f32) (harg7 : arg7.IsWhole) (hc0 : ¬startsStream i) (hc1 : endsStream i)
    (x0 : Vec F S64x5632 .f32) (x1 : Vec F S64x5632 .f32) (x2 : Vec F S1x8x5632 .f32) (x3 : Vec F S3x5632 .f32) (xs : Vec F S72x5632 .f32) (f) :
    arg7.view.read (Elt F) (arg7.view.writes (Elt F) f (stores_last c i arg1 harg1 arg2 harg2 arg3 harg3 arg4 harg4 arg5 harg5 arg6 harg6 arg7 harg7 hc0 hc1 x0 x1 x2 x3 xs).2.2.1) = laid x0 := by
  unfold stores_last
  dsimp only
  simp only [stores_last.sl.HS_1, stores_last.sl.HS_2, stores_last.sl.r, stores_last.sl.r_1, stores_last.sl.r_2, stores_last.sl.v43, View.readCov, readAt_chunk, readAt_halo, readAt_rows _ _ 7 (by decide), readAt_rows _ _ 6 (by decide), readAt_few _ _ 0 (by decide), readAt_few _ _ 64 (by decide), read_body, read_head, few_ext, rows_ext, few_tail]
  simp only [harg1.read_unread, harg3.read_unread, harg7.read_unread]
  rfl

theorem stores_last_kept (c : Dev nD) (i : grid0.Coords) (arg1 : Memref sig .tc .vmem S64x5632 .f32) (harg1 : arg1.IsWhole) (arg2 : Memref sig .tc .vmem S64x5632 .f32) (harg2 : arg2.IsWhole) (arg3 : Memref sig .tc .vmem S1x8x5632 .f32) (harg3 : arg3.IsWhole) (arg4 : Memref sig .tc .vmem S3x5632 .f32) (harg4 : arg4.IsWhole) (arg5 : Memref sig .tc .vmem S64x5632 .bf16) (harg5 : arg5.IsWhole) (arg6 : Memref sig .tc .vmem S1x8x5632 .f32) (harg6 : arg6.IsWhole) (arg7 : Memref sig .tc .vmem S72x5632 .f32) (harg7 : arg7.IsWhole) (hc0 : ¬startsStream i) (hc1 : endsStream i)
    (x0 : Vec F S64x5632 .f32) (x1 : Vec F S64x5632 .f32) (x2 : Vec F S1x8x5632 .f32) (x3 : Vec F S3x5632 .f32) (xs : Vec F S72x5632 .f32) (f) :
    arg6.view.read (Elt F) (arg6.view.writes (Elt F) f (stores_last c i arg1 harg1 arg2 harg2 arg3 harg3 arg4 harg4 arg5 harg5 arg6 harg6 arg7 harg7 hc0 hc1 x0 x1 x2 x3 xs).2.1) = k0_pay1 (kept x0) := by
  unfold stores_last
  dsimp only
  refine (View.read_writes_full _ _ _ _ _).trans ?_
  simp only [stores_last.sl.v86, stores_last.sl.HS_1, stores_last.sl.HS_2, stores_last.sl.r, stores_last.sl.r_1, stores_last.sl.r_2, stores_last.sl.v43, View.readCov, readAt_chunk, readAt_halo, readAt_rows _ _ 7 (by decide), readAt_rows _ _ 6 (by decide), readAt_few _ _ 0 (by decide), readAt_few _ _ 64 (by decide), read_body, read_head, few_ext, rows_ext, few_tail]
  simp only [harg1.read_unread, harg3.read_unread, harg7.read_unread]
  rfl

/-- A sample's one chunk: its rows of the activation, the buffer after it, and the last rows it hands on. -/
theorem stores_only_rows (c : Dev nD) (i : grid0.Coords) (arg1 : Memref sig .tc .vmem S64x5632 .f32) (harg1 : arg1.IsWhole) (arg2 : Memref sig .tc .vmem S64x5632 .f32) (harg2 : arg2.IsWhole) (arg3 : Memref sig .tc .vmem S1x8x5632 .f32) (harg3 : arg3.IsWhole) (arg4 : Memref sig .tc .vmem S3x5632 .f32) (harg4 : arg4.IsWhole) (arg5 : Memref sig .tc .vmem S64x5632 .bf16) (harg5 : arg5.IsWhole) (arg6 : Memref sig .tc .vmem S1x8x5632 .f32) (harg6 : arg6.IsWhole) (arg7 : Memref sig .tc .vmem S72x5632 .f32) (harg7 : arg7.IsWhole) (hc0 : startsStream i) (hc1 : endsStream i)
    (x0 : Vec F S64x5632 .f32) (x1 : Vec F S64x5632 .f32) (x2 : Vec F S1x8x5632 .f32) (x3 : Vec F S3x5632 .f32) (xs : Vec F S72x5632 .f32) (f) :
    arg5.view.read (Elt F) (arg5.view.writes (Elt F) f (stores_only c i arg1 harg1 arg2 harg2 arg3 harg3 arg4 harg4 arg5 harg5 arg6 harg6 arg7 harg7 hc0 hc1 x0 x1 x2 x3 xs).1) = acted (k0_pay2 x2) x0 x1 x3 := by
  unfold stores_only
  dsimp only
  refine (read_chunk _ _ _ _).trans ?_
  simp only [stores_only.sl.HS_2, stores_only.sl.HS_3, stores_only.sl.r, stores_only.sl.v30, stores_only.sl.v31, stores_only.sl.v43, View.readCov, readAt_chunk, readAt_halo, readAt_rows _ _ 7 (by decide), readAt_rows _ _ 6 (by decide), readAt_few _ _ 0 (by decide), readAt_few _ _ 64 (by decide), read_body, read_head, few_ext, rows_ext, few_tail, readAt_tap _ _ 0 (by decide), readAt_tap _ _ 1 (by decide), readAt_tap _ _ 2 (by decide)]
  simp only [harg1.read_unread, harg2.read_unread, harg3.read_unread, harg4.read_unread, harg7.read_unread]
  rfl

theorem stores_only_laid (c : Dev nD) (i : grid0.Coords) (arg1 : Memref sig .tc .vmem S64x5632 .f32) (harg1 : arg1.IsWhole) (arg2 : Memref sig .tc .vmem S64x5632 .f32) (harg2 : arg2.IsWhole) (arg3 : Memref sig .tc .vmem S1x8x5632 .f32) (harg3 : arg3.IsWhole) (arg4 : Memref sig .tc .vmem S3x5632 .f32) (harg4 : arg4.IsWhole) (arg5 : Memref sig .tc .vmem S64x5632 .bf16) (harg5 : arg5.IsWhole) (arg6 : Memref sig .tc .vmem S1x8x5632 .f32) (harg6 : arg6.IsWhole) (arg7 : Memref sig .tc .vmem S72x5632 .f32) (harg7 : arg7.IsWhole) (hc0 : startsStream i) (hc1 : endsStream i)
    (x0 : Vec F S64x5632 .f32) (x1 : Vec F S64x5632 .f32) (x2 : Vec F S1x8x5632 .f32) (x3 : Vec F S3x5632 .f32) (xs : Vec F S72x5632 .f32) (f) :
    arg7.view.read (Elt F) (arg7.view.writes (Elt F) f (stores_only c i arg1 harg1 arg2 harg2 arg3 harg3 arg4 harg4 arg5 harg5 arg6 harg6 arg7 harg7 hc0 hc1 x0 x1 x2 x3 xs).2.2.1) = laid x0 := by
  unfold stores_only
  dsimp only
  simp only [stores_only.sl.HS_2, stores_only.sl.HS_3, stores_only.sl.r, stores_only.sl.v30, stores_only.sl.v31, stores_only.sl.v43, View.readCov, readAt_chunk, readAt_halo, readAt_rows _ _ 7 (by decide), readAt_rows _ _ 6 (by decide), readAt_few _ _ 0 (by decide), readAt_few _ _ 64 (by decide), read_body, read_head, few_ext, rows_ext, few_tail]
  simp only [harg1.read_unread, harg3.read_unread, harg7.read_unread]
  rfl

theorem stores_only_kept (c : Dev nD) (i : grid0.Coords) (arg1 : Memref sig .tc .vmem S64x5632 .f32) (harg1 : arg1.IsWhole) (arg2 : Memref sig .tc .vmem S64x5632 .f32) (harg2 : arg2.IsWhole) (arg3 : Memref sig .tc .vmem S1x8x5632 .f32) (harg3 : arg3.IsWhole) (arg4 : Memref sig .tc .vmem S3x5632 .f32) (harg4 : arg4.IsWhole) (arg5 : Memref sig .tc .vmem S64x5632 .bf16) (harg5 : arg5.IsWhole) (arg6 : Memref sig .tc .vmem S1x8x5632 .f32) (harg6 : arg6.IsWhole) (arg7 : Memref sig .tc .vmem S72x5632 .f32) (harg7 : arg7.IsWhole) (hc0 : startsStream i) (hc1 : endsStream i)
    (x0 : Vec F S64x5632 .f32) (x1 : Vec F S64x5632 .f32) (x2 : Vec F S1x8x5632 .f32) (x3 : Vec F S3x5632 .f32) (xs : Vec F S72x5632 .f32) (f) :
    arg6.view.read (Elt F) (arg6.view.writes (Elt F) f (stores_only c i arg1 harg1 arg2 harg2 arg3 harg3 arg4 harg4 arg5 harg5 arg6 harg6 arg7 harg7 hc0 hc1 x0 x1 x2 x3 xs).2.1) = k0_pay1 (kept x0) := by
  unfold stores_only
  dsimp only
  refine (View.read_writes_full _ _ _ _ _).trans ?_
  simp only [stores_only.sl.v86, stores_only.sl.HS_2, stores_only.sl.HS_3, stores_only.sl.r, stores_only.sl.v30, stores_only.sl.v31, stores_only.sl.v43, View.readCov, readAt_chunk, readAt_halo, readAt_rows _ _ 7 (by decide), readAt_rows _ _ 6 (by decide), readAt_few _ _ 0 (by decide), readAt_few _ _ 64 (by decide), read_body, read_head, few_ext, rows_ext, few_tail]
  simp only [harg1.read_unread, harg3.read_unread, harg7.read_unread]
  rfl

end Cert.Kernel8Ideal.Act

end
-- ==== Proof.Act.Frame.lean ====
/-
  The activation call runs: its arguments end unchanged, and its results are what the chunks leave one after another.
-/
module

public import proofs.«01_k».proof.Proof.Act.Laid
public import Idealize.ShloMosaic.Lib.Claim

@[expose] public section

set_option maxRecDepth 16384

noncomputable section

namespace Cert.Kernel8Ideal.Act

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold after each point -/

/-- The rows from before a chunk: its stream's own at the stream's start, else the last rows of the chunk before. -/
def before (c : Dev nD) (t : Fin cfg0.N) : Vec F S8x5632 .f32 :=
  if t.val % 128 = 0 ∨ 512 ≤ t.val then k0_pay2 (iblk m c 2 t)
  else kept (iblk m c 0 ⟨t.val - 1, Nat.lt_of_le_of_lt (Nat.sub_le _ _) t.isLt⟩)

/-- The block of the activation's rows, and of last rows. -/
def rowsAt (c : Dev nD) (t : Fin cfg0.N) : Vec F S64x5632 .bf16 := acted (before m c t) (iblk m c 0 t) (iblk m c 1 t) (iblk m c 3 t)
def keptAt (c : Dev nD) (t : Fin cfg0.N) : Vec F S1x8x5632 .f32 := k0_pay1 (kept (iblk m c 0 t))

/-- What the points share: nothing is known of the laying-out buffer before the first, and it is known exactly after each. -/
def Shared (c : Dev nD) : (n : ℕ) → n ≤ cfg0.N → sProp 𝕄
  | 0, _ => Pipeline.ΦA spec0 c
  | n + 1, hn => iprop(iprop(owns (c : Thread nD τ) lay fullShare (laid (iblk m c 0 ⟨n, hn⟩))) ∗ (∃ r, prngReg c r))

theorem Shared_zero (c : Dev nD) (n : ℕ) (h : n ≤ cfg0.N) (hz : n = 0) : Shared m c n h = Pipeline.ΦA spec0 c := by
  subst hz; rfl

theorem Shared_succ (c : Dev nD) (n : ℕ) (hn : n < cfg0.N) :
    Shared m c (n + 1) hn = iprop(iprop(owns (c : Thread nD τ) lay fullShare (laid (iblk m c 0 ⟨n, hn⟩))) ∗ (∃ r, prngReg c r)) := rfl

theorem Shared_pos (c : Dev nD) (n : ℕ) (h : n ≤ cfg0.N) (hz : n ≠ 0) :
    Shared m c n h = iprop(iprop(owns (c : Thread nD τ) lay fullShare (laid (iblk m c 0 ⟨n - 1, by omega⟩))) ∗ (∃ r, prngReg c r)) := by
  cases n with
  | zero => exact absurd rfl hz
  | succ n => rfl

theorem rest_eq (c : Dev nD) :
    (Pipeline.ΦA spec0 c : sProp 𝕄) = iprop(iprop((∃ d, owns (c : Thread nD τ) lay fullShare d)) ∗ (∃ r, prngReg c r)) := by
  unfold Pipeline.ΦA; rw [scopedRest0_eq]; simp only [lay, owns_whole]; try rfl

/-! ## The pipeline -/

/-- The pipeline's arrays, and what each buffer holds after each point: an input its block, an output what the chunk leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => rowsAt m c t
    | ⟨5, _⟩ => keptAt m c t
  Φ t := Shared m c t.val (Nat.le_of_lt_succ t.isLt)
  q w := Pipeline.shareOf spec0 w
  owed _ := 0

/-- The arrays are those the launch finds. -/
theorem A_eq (c : Dev nD) (w : Fin cfg0.W) : (dats m 0 c).A w = V m c (Pipeline.arrRef spec0 w) := by
  dsimp only [dats]

theorem Shared_castSucc (c : Dev nD) (t : Fin cfg0.N) :
    (dats m 0 c).Φ t.castSucc = Shared m c t.val (Nat.le_of_lt t.isLt) := by
  dsimp only [dats]; exact Pipeline.Dat.Φ_castSucc (Shared m c) t

/-- What each buffer holds after a point. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = rowsAt m c t := by dsimp only [dats]
theorem after0_5 (c : Dev nD) (t : Fin cfg0.N) : (dats m 0 c).after 5 t = keptAt m c t := by dsimp only [dats]

/-- Each input buffer holds its block before a point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body at a point -/

/-- What the body is given at a point, window by window. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- What it leaves. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves_0 (c : Dev nD) (t : Fin cfg0.N) :
    (dats m 0 c).leavesExact 0 t = owns (c : Thread nD τ) (ms0_0 t) fullShare ((dats m 0 c).after 0 t) := by
  unfold Dat.leavesExact; rw [show cfg0.idle 0 (cfg0.grid.coords t) = false from rfl]

theorem leaves_1 (c : Dev nD) (t : Fin cfg0.N) :
    (dats m 0 c).leavesExact 1 t = owns (c : Thread nD τ) (ms0_1 t) fullShare ((dats m 0 c).after 1 t) := by
  unfold Dat.leavesExact; rw [show cfg0.idle 1 (cfg0.grid.coords t) = false from rfl]

theorem leaves_2 (c : Dev nD) (t : Fin cfg0.N) :
    (dats m 0 c).leavesExact 2 t = owns (c : Thread nD τ) (ms0_2 t) fullShare ((dats m 0 c).after 2 t) := by
  unfold Dat.leavesExact; rw [show cfg0.idle 2 (cfg0.grid.coords t) = false from rfl]

theorem leaves_3 (c : Dev nD) (t : Fin cfg0.N) :
    (dats m 0 c).leavesExact 3 t = owns (c : Thread nD τ) (ms0_3 t) fullShare ((dats m 0 c).after 3 t) := by
  unfold Dat.leavesExact; rw [show cfg0.idle 3 (cfg0.grid.coords t) = false from rfl]

theorem leaves_4 (c : Dev nD) (t : Fin cfg0.N) :
    (dats m 0 c).leavesExact 4 t = owns (c : Thread nD τ) (ms0_4 t) fullShare ((dats m 0 c).after 4 t) := by
  unfold Dat.leavesExact; rw [show cfg0.idle 4 (cfg0.grid.coords t) = false from rfl]

theorem leaves_5 (c : Dev nD) (t : Fin cfg0.N) (h : endsStream (grid0.coords t)) :
    (dats m 0 c).leavesExact 5 t = owns (c : Thread nD τ) (ms0_5 t) fullShare ((dats m 0 c).after 5 t) := by
  unfold Dat.leavesExact; rw [show cfg0.idle 5 (cfg0.grid.coords t) = false from live_end t h]

set_option maxHeartbeats 4800000 in
/-- The body at any point: from what it is given to what it leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    show (dats m 0 c).Φ t.succ = Shared m c (t.val + 1) t.isLt from rfl, Shared_succ,
    leaves_0, leaves_1, leaves_2, leaves_3, leaves_4, after0_0, after0_1, after0_2, after0_3, after0_4]
  have hN : t.val < 528 := lt_of_lt_of_eq t.isLt (show cfg0.N = 528 from N_0)
  by_cases h0 : (t.val % 128 = 0 ∨ 512 ≤ t.val)
  · by_cases h1 : (t.val % 128 = 127 ∨ 512 ≤ t.val)
    · have hz : t.val ≠ 0 := by omega
      rw [leaves_5 m c t ((endsStream_iff t).mpr h1), after0_5]
      rw [Shared_castSucc m c t, Shared_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply ((stores_only c (grid0.coords t) _ _ _ _ _ _ _ _ _ _ _ _ _ _ ((startsStream_iff t).mpr h0) ((endsStream_iff t).mpr h1) (iblk m c 0 t) (iblk m c 1 t) (iblk m c 2 t) (iblk m c 3 t) _).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS]; · iexact HS
      iintro ⟨H0, H1, H2, H3, ⟨%e4, H4⟩, ⟨%e5, H5⟩, HS⟩
      isplitl [HS Hg]
      · isplitl [HS]
        · unfold owns; iexists _; isplitr
          swap; · iexact HS
          ipureintro; exact stores_only_laid c _ _ _ _ _ _ _ _ _ _ _ _ _ _ _ ((startsStream_iff t).mpr h0) ((endsStream_iff t).mpr h1) _ _ _ _ _ _
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact (stores_only_rows c _ _ _ _ _ _ _ _ _ _ _ _ _ _ _ ((startsStream_iff t).mpr h0) ((endsStream_iff t).mpr h1) _ _ _ _ _ _).trans (by unfold rowsAt before; rw [if_pos h0])
      unfold owns; iexists _; isplitr
      swap; · iexact H5
      ipureintro; exact stores_only_kept c _ _ _ _ _ _ _ _ _ _ _ _ _ _ _ ((startsStream_iff t).mpr h0) ((endsStream_iff t).mpr h1) _ _ _ _ _ _
    · by_cases hz : t.val = 0
      · rw [Dat.leavesExact_idle (dats m 0 c) 5 t (idle_end t (fun h => h1 ((endsStream_iff t).mp h))) (noFlush_end t (fun h => h1 ((endsStream_iff t).mp h)))]
        rw [Shared_castSucc m c t, Shared_zero m c _ _ hz, rest_eq]
        iintro ⟨⟨⟨%ds, HS⟩, Hg⟩, Ho, ⟨%d0, H0⟩, ⟨%d1, H1⟩, ⟨%d2, H2⟩, ⟨%d3, H3⟩, ⟨%d4, H4⟩, ⟨%d5, H5⟩⟩
        iapply ((stores_first c (grid0.coords t) _ _ _ _ _ _ _ _ _ _ _ _ _ _ ((startsStream_iff t).mpr h0) (fun h => h1 ((endsStream_iff t).mp h)) (iblk m c 0 t) (iblk m c 1 t) (iblk m c 2 t) (iblk m c 3 t) _).2.2 _ Set.univ _)
        isplitl [H0]; · iexact H0
        isplitl [H1]; · iexact H1
        isplitl [H2]; · iexact H2
        isplitl [H3]; · iexact H3
        isplitl [H4]; · iexists _; iexact H4
        isplitl [H5]; · iexact H5
        isplitl [HS]; · iexact HS
        iintro ⟨H0, H1, H2, H3, ⟨%e4, H4⟩, H5, HS⟩
        isplitl [HS Hg]
        · isplitl [HS]
          · unfold owns; iexists _; isplitr
            swap; · iexact HS
            ipureintro; exact stores_first_laid c _ _ _ _ _ _ _ _ _ _ _ _ _ _ _ ((startsStream_iff t).mpr h0) (fun h => h1 ((endsStream_iff t).mp h)) _ _ _ _ _ _
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact (stores_first_rows c _ _ _ _ _ _ _ _ _ _ _ _ _ _ _ ((startsStream_iff t).mpr h0) (fun h => h1 ((endsStream_iff t).mp h)) _ _ _ _ _ _).trans (by unfold rowsAt before; rw [if_pos h0])
        iexists _; iexact H5
      · rw [Dat.leavesExact_idle (dats m 0 c) 5 t (idle_end t (fun h => h1 ((endsStream_iff t).mp h))) (noFlush_end t (fun h => h1 ((endsStream_iff t).mp h)))]
        rw [Shared_castSucc m c t, Shared_pos m c _ _ hz]
        iintro ⟨⟨HS, Hg⟩, Ho, ⟨%d0, H0⟩, ⟨%d1, H1⟩, ⟨%d2, H2⟩, ⟨%d3, H3⟩, ⟨%d4, H4⟩, ⟨%d5, H5⟩⟩
        iapply ((stores_first c (grid0.coords t) _ _ _ _ _ _ _ _ _ _ _ _ _ _ ((startsStream_iff t).mpr h0) (fun h => h1 ((endsStream_iff t).mp h)) (iblk m c 0 t) (iblk m c 1 t) (iblk m c 2 t) (iblk m c 3 t) _).2.2 _ Set.univ _)
        isplitl [H0]; · iexact H0
        isplitl [H1]; · iexact H1
        isplitl [H2]; · iexact H2
        isplitl [H3]; · iexact H3
        isplitl [H4]; · iexists _; iexact H4
        isplitl [H5]; · iexact H5
        isplitl [HS]; · iexact HS
        iintro ⟨H0, H1, H2, H3, ⟨%e4, H4⟩, H5, HS⟩
        isplitl [HS Hg]
        · isplitl [HS]
          · unfold owns; iexists _; isplitr
            swap; · iexact HS
            ipureintro; exact stores_first_laid c _ _ _ _ _ _ _ _ _ _ _ _ _ _ _ ((startsStream_iff t).mpr h0) (fun h => h1 ((endsStream_iff t).mp h)) _ _ _ _ _ _
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact (stores_first_rows c _ _ _ _ _ _ _ _ _ _ _ _ _ _ _ ((startsStream_iff t).mpr h0) (fun h => h1 ((endsStream_iff t).mp h)) _ _ _ _ _ _).trans (by unfold rowsAt before; rw [if_pos h0])
        iexists _; iexact H5
  · by_cases h1 : (t.val % 128 = 127 ∨ 512 ≤ t.val)
    · have hz : t.val ≠ 0 := by omega
      rw [leaves_5 m c t ((endsStream_iff t).mpr h1), after0_5]
      rw [Shared_castSucc m c t, Shared_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply ((stores_last c (grid0.coords t) _ _ _ _ _ _ _ _ _ _ _ _ _ _ (fun h => h0 ((startsStream_iff t).mp h)) ((endsStream_iff t).mpr h1) (iblk m c 0 t) (iblk m c 1 t) (iblk m c 2 t) (iblk m c 3 t) _).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS]; · iexact HS
      iintro ⟨H0, H1, H2, H3, ⟨%e4, H4⟩, ⟨%e5, H5⟩, HS⟩
      isplitl [HS Hg]
      · isplitl [HS]
        · unfold owns; iexists _; isplitr
          swap; · iexact HS
          ipureintro; exact stores_last_laid c _ _ _ _ _ _ _ _ _ _ _ _ _ _ _ (fun h => h0 ((startsStream_iff t).mp h)) ((endsStream_iff t).mpr h1) _ _ _ _ _ _
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact (stores_last_rows c _ _ _ _ _ _ _ _ _ _ _ _ _ _ _ (fun h => h0 ((startsStream_iff t).mp h)) ((endsStream_iff t).mpr h1) _ _ _ _ _ _).trans (by unfold rowsAt before laid; rw [if_neg h0, few_ext])
      unfold owns; iexists _; isplitr
      swap; · iexact H5
      ipureintro; exact stores_last_kept c _ _ _ _ _ _ _ _ _ _ _ _ _ _ _ (fun h => h0 ((startsStream_iff t).mp h)) ((endsStream_iff t).mpr h1) _ _ _ _ _ _
    · have hz : t.val ≠ 0 := by omega
      rw [Dat.leavesExact_idle (dats m 0 c) 5 t (idle_end t (fun h => h1 ((endsStream_iff t).mp h))) (noFlush_end t (fun h => h1 ((endsStream_iff t).mp h)))]
      rw [Shared_castSucc m c t, Shared_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply ((stores_next c (grid0.coords t) _ _ _ _ _ _ _ _ _ _ _ _ _ _ (fun h => h0 ((startsStream_iff t).mp h)) (fun h => h1 ((endsStream_iff t).mp h)) (iblk m c 0 t) (iblk m c 1 t) (iblk m c 2 t) (iblk m c 3 t) _).2.2 _ Set.univ _)
      isplitl [H0]; · iexact H0
      isplitl [H1]; · iexact H1
      isplitl [H2]; · iexact H2
      isplitl [H3]; · iexact H3
      isplitl [H4]; · iexists _; iexact H4
      isplitl [H5]; · iexact H5
      isplitl [HS]; · iexact HS
      iintro ⟨H0, H1, H2, H3, ⟨%e4, H4⟩, H5, HS⟩
      isplitl [HS Hg]
      · isplitl [HS]
        · unfold owns; iexists _; isplitr
          swap; · iexact HS
          ipureintro; exact stores_next_laid c _ _ _ _ _ _ _ _ _ _ _ _ _ _ _ (fun h => h0 ((startsStream_iff t).mp h)) (fun h => h1 ((endsStream_iff t).mp h)) _ _ _ _ _ _
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact (stores_next_rows c _ _ _ _ _ _ _ _ _ _ _ _ _ _ _ (fun h => h0 ((startsStream_iff t).mp h)) (fun h => h1 ((endsStream_iff t).mp h)) _ _ _ _ _ _).trans (by unfold rowsAt before laid; rw [if_neg h0, few_ext])
      iexists _; iexact H5

/-- The body the launch calls at a point is the kernel's on that point's buffers. -/
theorem defs₀_row (t : Fin cfg0.N) :
    defs₀ (F := F) .tc cfg0.body (cfg0.bodyArgs t (cfg0.slots t)) = bodyAt0 t := by
  unfold defs₀; rw [Defs.onTc_tc]

/-- So the body meets what the launch asks of it, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- Before the first point nothing is known of the laying-out buffer, and after the last that is forgotten again. -/
theorem enters (c : Dev nD) : Pipeline.ΦA spec0 c ⊢ (dats m 0 c).Φ 0 := by
  rw [show (dats m 0 c).Φ 0 = Shared m c 0 (Nat.zero_le _) from rfl, Shared_zero m c 0 _ rfl]

theorem leaves (c : Dev nD) : (dats m 0 c).Φ (Fin.last cfg0.N) ⊢ Pipeline.ΦA spec0 c := by
  rw [show (dats m 0 c).Φ (Fin.last cfg0.N) = Shared m c (Fin.last cfg0.N).val (Nat.le_of_lt_succ (Fin.last cfg0.N).isLt) from rfl,
    Shared_pos m c _ _ (by rw [Fin.val_last]; have : cfg0.N = 528 := N_0; omega), rest_eq]
  iintro ⟨HS, Hg⟩
  isplitl [HS]
  · iexists _; iexact HS
  iexact Hg

/-! ## The run and the frame -/

set_option backward.isDefEq.respectTransparency.types false in
/-- Every run ends with the arrays the pipeline and the host's last slice compute, and every semaphore back at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl) (howed := fun _ _ => rfl) (V₀ := V0 m) (opss := [hostOps1])
    (hsub := sfx_sub) (hfresh := sfx_fresh) (hkeep := sfx_keeps) (hmain := hmain m Variants.none) (hA := A_eq m) (hin := enters m) (hout := leaves m)

/-- Every run ends with the arrays the pipeline and the host's last slice compute. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- Every run ends with the arguments unchanged and every semaphore back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Kernel8Ideal.Act

end
-- ==== Proof.Act.Rows.lean ====
/-
  The activation call: what each chunk stores, in plain formulas.
-/
module

public import proofs.«01_k».proof.Proof.Act.Spec
public import proofs.«01_k».proof.Proof.Act.Frame
public import proofs.«01_k».proof.Proof.Retention.Entry
public import Idealize.ShloMosaic.Lib.Pipeline.Value
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel8Ideal.Act

open Cert.Kernel8Ideal Cert.Kernel8Ideal.Gen

/-! ## The blocks a chunk works on -/

variable (m : (ℓ : Loc nD τ sig) → Buf (Elt Ideal) ℓ)

/-- The arguments. -/
abbrev upOf (c : Dev nD) : FVec Ideal S33792x11264 .f32 := m ((c : Thread nD τ).loc main_arg0)
abbrev stOf (c : Dev nD) : FVec Ideal S16x2x5632 .f32 := m ((c : Thread nD τ).loc main_arg1)
abbrev wOf (c : Dev nD) : FVec Ideal S3x5632 .f32 := m ((c : Thread nD τ).loc main_arg2)

theorem lt_points (t : Fin cfg0.N) : t.val < 528 := lt_of_lt_of_eq t.isLt N_0

/-- The stream of chunk `t`. -/
def seqOf (t : ℕ) : ℕ := if t < 512 then t / 128 else t - 508
theorem seqOf_lt (t : Fin cfg0.N) : seqOf t.val < 20 := by have := lt_points t; unfold seqOf; split <;> omega

theorem idx : ∀ t : Fin cfg0.N, win0_0.index t = ![t.val, 0] ∧ win0_1.index t = ![t.val, 1] ∧ win0_2.index t = ![seqOf t.val, 0, 0]
    ∧ win0_3.index t = ![0, 0] ∧ win0_4.index t = ![t.val, 0] ∧ win0_5.index t = ![seqOf t.val, 0, 0] :=
  (by decide +kernel : ∀ t : Fin grid0.N, _)

/-- The row an entry of a chunk's block stands in. -/
def row (t : Fin cfg0.N) (u : Fin 64) : Fin 33792 := ⟨64 * t.val + u.val, by have := lt_points t; omega⟩

theorem x0_apply (c : Dev nD) (t : Fin cfg0.N) (u : Fin 64) (j : Fin 5632) :
    (iblk m c 0 t : FVec Ideal S64x5632 .f32) (ix2 u j) = upOf m c (ix2 (row t u) ⟨j.val, by omega⟩) := by
  have hl := lt_points t
  unfold row
  refine Eq.trans ?_ (congrFun (V_main_arg0 m c) _)
  blk_simp [iblk]
  blk_ext [idx t]
theorem x1_apply (c : Dev nD) (t : Fin cfg0.N) (u : Fin 64) (j : Fin 5632) :
    (iblk m c 1 t : FVec Ideal S64x5632 .f32) (ix2 u j) = upOf m c (ix2 (row t u) ⟨5632 + j.val, by omega⟩) := by
  have hl := lt_points t
  unfold row
  refine Eq.trans ?_ (congrFun (V_main_arg0 m c) _)
  blk_simp [iblk]
  blk_ext [idx t]
theorem x3_apply (c : Dev nD) (t : Fin cfg0.N) (e : Fin 3) (j : Fin 5632) :
    (iblk m c 3 t : FVec Ideal S3x5632 .f32) (ix2 e j) = wOf m c (ix2 e j) := by
  refine Eq.trans ?_ (congrFun (V_main_arg2 m c) _)
  blk_simp [iblk]
  blk_ext [idx t]

theorem padded (x : FVec Ideal S16x2x5632 .f32) (b : Fin 20) (e : Fin 8) (j : Fin 5632) (he : 6 ≤ e.val) :
    (pad S20x8x5632 ![4, 6, 0] ![0, 0, 0] ![0, 0, 0] x (sitofp FTy.f32 (constantI S_ 32 0#32) : FVec Ideal S_ .f32)
        pads_S16x2x5632_S20x8x5632_400_600_000 h_S_ : FVec Ideal S20x8x5632 .f32) (ix3 b e j)
      = if hb : 4 ≤ b.val then x (ix3 ⟨b.val - 4, by omega⟩ ⟨e.val - 6, by omega⟩ j) else 0 := by
  pointwise
  by_cases hb : 4 ≤ b.val
  · rw [dif_pos hb]
    exact dif_pos ⟨⟨hb, by omega⟩, he, by omega⟩
  · rw [dif_neg (fun h => hb h.1.1), dif_neg hb, Cert.KernelIdeal.Retention.sitofp_nat 0 (by decide)]
    norm_num

/-- A stream's rows from before, where a chunk begins it. -/
theorem x2_apply (c : Dev nD) (t : Fin cfg0.N) (e : Fin 8) (j : Fin 5632) (he : 6 ≤ e.val) :
    (iblk m c 2 t : FVec Ideal S1x8x5632 .f32) (ix3 (0 : Fin 1) e j)
      = if hb : 512 ≤ t.val then stOf m c (ix3 ⟨t.val - 512, by have := lt_points t; omega⟩ ⟨e.val - 6, by omega⟩ j) else 0 := by
  have hs := seqOf_lt t
  have hl := lt_points t
  have e2 : (iblk m c 2 t : FVec Ideal S1x8x5632 .f32) (ix3 (0 : Fin 1) e j)
      = (V m c main_v0 : FVec Ideal S20x8x5632 .f32) (ix3 ⟨seqOf t.val, hs⟩ e j) := by
    blk_simp [iblk]
    blk_ext [idx t]
  have e3 : (V m c main_v0 : FVec Ideal S20x8x5632 .f32)
      = pad S20x8x5632 ![4, 6, 0] ![0, 0, 0] ![0, 0, 0] (stOf m c) (sitofp FTy.f32 (constantI S_ 32 0#32) : FVec Ideal S_ .f32)
          pads_S16x2x5632_S20x8x5632_400_600_000 h_S_ := by
    simp only [V, V0, hostOps0, hostOps0_1, List.flatten_cons, List.flatten_nil, List.append_nil, List.cons_append, List.nil_append]
    entry_read
    rfl
  rw [e2, e3, padded _ _ _ _ he]
  by_cases h5 : 512 ≤ t.val
  · have hq : seqOf t.val = t.val - 508 := by unfold seqOf; rw [if_neg (by omega)]
    rw [dif_pos h5, dif_pos (by show 4 ≤ seqOf t.val; omega)]
    congr 2
    exact Fin.ext (by show seqOf t.val - 4 = t.val - 512; omega)
  · have hq : seqOf t.val = t.val / 128 := by unfold seqOf; rw [if_pos (by omega)]
    rw [dif_neg h5, dif_neg (by show ¬ 4 ≤ seqOf t.val; omega)]

/-! ## What a chunk stores -/

/-- The rows from before a chunk, six and seven of eight. -/
theorem before_apply (c : Dev nD) (t : Fin cfg0.N) (k : ℕ) (u : Fin 64) (e : Fin 8) (he : e.val + k = 8 + u.val) (hk : k ≤ 2) (j : Fin 5632) :
    (before m c t : FVec Ideal S8x5632 .f32) (ix2 e j) = past (upOf m c) (stOf m c) k (row t u) j := by
  have hl := lt_points t
  have hu : u.val < k := by omega
  unfold before past place row
  by_cases h0 : t.val % 128 = 0 ∨ 512 ≤ t.val
  · rw [if_pos h0]
    have e1 : (k0_pay2 (F := Ideal) (iblk m c 2 t)) (ix2 e j) = (iblk m c 2 t : FVec Ideal S1x8x5632 .f32) (ix3 (0 : Fin 1) e j) := by
      pointwise [k0_pay2]
    rw [e1, x2_apply m c t e j (by omega)]
    by_cases h5 : 512 ≤ t.val
    · rw [dif_pos h5, if_neg (by simp only []; rw [if_neg (by omega)]; omega), if_neg (by simp only []; omega)]
      congr 1
      funext a
      match a with
      | 0 => exact Fin.ext (by show t.val - 512 = (64 * t.val + u.val - 32768) / 64; omega)
      | 1 => exact Fin.ext (by show e.val - 6 = (2 + (64 * t.val + u.val) % 64 - k) % 2; omega)
      | 2 => rfl
    · rw [dif_neg h5, if_neg (by simp only []; rw [if_pos (by omega)]; omega), if_pos (by simp only []; omega)]
  · rw [if_neg h0, if_pos (by simp only []; rw [if_pos (by omega)]; omega)]
    have e1 : (kept (F := Ideal) (iblk m c 0 ⟨t.val - 1, Nat.lt_of_le_of_lt (Nat.sub_le _ _) t.isLt⟩)) (ix2 e j)
        = (iblk m c 0 ⟨t.val - 1, Nat.lt_of_le_of_lt (Nat.sub_le _ _) t.isLt⟩ : FVec Ideal S64x5632 .f32) (ix2 ⟨56 + e.val, by omega⟩ j) := by
      pointwise [kept, tail, k0_pay3, k0_pay4]
    rw [e1, x0_apply]
    congr 1
    funext a
    match a with
    | 0 => exact Fin.ext (by show 64 * (t.val - 1) + (56 + e.val) = 64 * t.val + u.val - k; omega)
    | 1 => rfl

/-- The laid-out rows, `k` frames back. -/
theorem rows_apply (c : Dev nD) (t : Fin cfg0.N) (o k : ℕ) (ho : o + 64 ≤ 72) (hk : k ≤ 2) (h : o + k = 8) (u : Fin 64) (j : Fin 5632) :
    rows o ho (ext (before m c t) (k0_pay3 (F := Ideal) (iblk m c 0 t))) (ix2 u j) = past (upOf m c) (stOf m c) k (row t u) j := by
  have hl := lt_points t
  unfold rows ext
  by_cases hy : o + u.val < 8
  · refine (dif_pos hy).trans ?_
    exact before_apply m c t k u ⟨o + u.val, hy⟩ (by show o + u.val + k = 8 + u.val; omega) hk j
  · refine (dif_neg hy).trans ?_
    have e1 : (k0_pay3 (F := Ideal) (iblk m c 0 t)) (ix2 (⟨o + u.val - 8, by omega⟩ : Fin 64) j)
        = (iblk m c 0 t : FVec Ideal S64x5632 .f32) (ix2 (⟨o + u.val - 8, by omega⟩ : Fin 64) j) := by
      pointwise [k0_pay3]
    refine e1.trans ((x0_apply m c t _ j).trans ?_)
    unfold past place row
    rw [if_pos (by simp only []; split_ifs <;> omega)]
    congr 1
    funext a
    match a with
    | 0 => exact Fin.ext (by show 64 * t.val + (o + u.val - 8) = 64 * t.val + u.val - k; omega)
    | 1 => rfl

/-- The activation's rows. -/
theorem rowsAt_apply (c : Dev nD) (t : Fin cfg0.N) (u : Fin 64) (j : Fin 5632) :
    (rowsAt m c t : FVec Ideal S64x5632 .bf16) (ix2 u j) = active (upOf m c) (stOf m c) (wOf m c) (ix2 (row t u) j) := by
  have h0 : (iblk m c 0 t : FVec Ideal S64x5632 .f32) (ix2 u j) = past (upOf m c) (stOf m c) 0 (row t u) j := by
    rw [x0_apply]; unfold past; rw [if_pos (Nat.zero_le _)]; rfl
  unfold rowsAt acted
  pointwise [k0_pay5, active, conv, gelu, tap]
  rw [rows_apply m c t 7 1 (by decide) (by decide) rfl u j, rows_apply m c t 6 2 (by decide) (by decide) rfl u j, h0, x1_apply]
  simp only [x3_apply]
  rfl

/-- The last rows. -/
theorem keptAt_apply (c : Dev nD) (t : Fin cfg0.N) (ht : t.val % 128 = 127 ∨ 512 ≤ t.val) (e : Fin 8) (j : Fin 5632) :
    (keptAt m c t : FVec Ideal S1x8x5632 .f32) (ix3 (0 : Fin 1) e j) = eight (upOf m c) (ix3 ⟨seqOf t.val, seqOf_lt t⟩ e j) := by
  have hl := lt_points t
  have e1 : (keptAt m c t : FVec Ideal S1x8x5632 .f32) (ix3 (0 : Fin 1) e j)
      = (iblk m c 0 t : FVec Ideal S64x5632 .f32) (ix2 ⟨56 + e.val, by omega⟩ j) := by
    pointwise [keptAt, kept, tail, k0_pay1, k0_pay3, k0_pay4]
  rw [e1, x0_apply]
  unfold eight row
  congr 1
  funext a
  match a with
  | 0 => exact Fin.ext (by
      show 64 * t.val + (56 + e.val) = lastRow (seqOf t.val) + e.val - 7
      unfold lastRow seqOf; split_ifs <;> omega)
  | 1 => rfl

end Cert.Kernel8Ideal.Act

end
-- ==== Proof.Act.Final.lean ====
/-
  The activation call's two results after the run, and the run itself.
-/
module

public import proofs.«01_k».proof.Proof.Act.Rows

@[expose] public section

set_option maxRecDepth 16384

noncomputable section

open Idealize.ShloMosaic Idealize.ShloMosaic.TcCoe Idealize.SL.Sem
open Idealize.ShloMosaic.Pipeline (Dat)

namespace Cert.Kernel8Ideal.Act

open Cert.Kernel8Ideal Cert.Kernel8Ideal.Gen

variable (m : (ℓ : Loc nD τ sig) → Buf (Elt Ideal) ℓ)

/-- The first result's array after the run. -/
theorem final4 (c : Dev nD) : (dats m 0 c).arrAt 4 cfg0.N = active (upOf m c) (stOf m c) (wOf m c) := by
  refine (dats m 0 c).arrAt_eq_of_covers 4 _ (by decide +kernel) fun t hf y => ?_
  have hl := lt_points t
  blk_simp
  rw [after0_4]
  obtain ⟨u, j, rfl⟩ : ∃ (u : Fin 64) (j : Fin 5632), y = (ix2 u j : S64x5632.Idx) := ⟨y 0, y 1, by funext a; match a with | 0 => rfl | 1 => rfl⟩
  have e : active (upOf m c) (stOf m c) (wOf m c) (ix2 (row t u) j) = active (upOf m c) (stOf m c) (wOf m c) ((win0_4.blk t).view.emb (ix2 u j)) := by
    unfold row
    blk_ext [idx t]
  rw [← e]
  exact rowsAt_apply m c t u j

/-- Only a stream's last chunk writes the last rows back. -/
theorem flush_end : ∀ t : Fin cfg0.N, (cfg0.win 5).flush t = true → (t.val % 128 = 127 ∨ 512 ≤ t.val) :=
  (by decide +kernel : ∀ t : Fin cfg0.N, (cfg0.win 5).flush t = true → (t.val % 128 = 127 ∨ 512 ≤ t.val))

/-- The array of last rows after the run. -/
theorem final5 (c : Dev nD) : (dats m 0 c).arrAt 5 cfg0.N = eight (upOf m c) := by
  refine (dats m 0 c).arrAt_eq_of_covers 5 _ (by decide +kernel) fun t hf y => ?_
  have hl := lt_points t
  have h5 := flush_end t hf
  have hs := seqOf_lt t
  blk_simp
  rw [after0_5]
  obtain ⟨e, j, rfl⟩ : ∃ (e : Fin 8) (j : Fin 5632), y = (ix3 (0 : Fin 1) e j : S1x8x5632.Idx) :=
    ⟨y 1, y 2, by
      funext a
      match a with
      | 0 => exact Subsingleton.elim (α := Fin 1) _ _
      | 1 => rfl
      | 2 => rfl⟩
  have e' : eight (upOf m c) (ix3 (⟨seqOf t.val, hs⟩ : Fin 20) e j) = eight (upOf m c) ((win0_5.blk t).view.emb (ix3 (0 : Fin 1) e j)) := by
    blk_ext [idx t]
  rw [← e']
  exact keptAt_apply m c t h5 e j

/-- The host's last slice takes the last two of the eight rows. -/
theorem sliced (c : Dev nD) : Pipeline.afterTail₀ cfgs (dats m) 0 (V0 m) [hostOps1] c main_v2 = states (upOf m c) := by
  unfold Pipeline.afterTail₀
  have h : Pipeline.withArrays spec0 c (V0 m c) (fun w => (dats m 0 c).arrAt w cfg0.N) (Proc.devRef .tc main_v1_1) = eight (upOf m c) :=
    (Pipeline.withArrays_arr_shared spec0 c (V0 m c) _ ((dats m 0 c).arrAt_sharedIn sharedIn0 (V0 m c) (A_eq m c) cfg0.N) 5).trans (final5 m c)
  simp only [hostOps1, List.flatten_cons, List.flatten_nil, List.append_nil]
  refine (show _ = (extractStridedSlice S20x2x5632 ![0, 6, 0] (Pipeline.withArrays spec0 c (V0 m c) (fun w => (dats m 0 c).arrAt w cfg0.N) (Proc.devRef .tc main_v1_1)) slices_S20x8x5632_S20x2x5632_0_6_0 : FVec Ideal S20x2x5632 .f32) from by
    after_results_simp).trans ?_
  rw [h]
  funext i
  obtain ⟨b, e, j, rfl⟩ : ∃ (b : Fin 20) (e : Fin 2) (j : Fin 5632), i = (ix3 b e j : S20x2x5632.Idx) :=
    ⟨i 0, i 1, i 2, by funext a; match a with | 0 => rfl | 1 => rfl | 2 => rfl⟩
  pointwise [states, eight]
  congr 1
  funext a
  have := le_lastRow b.val
  match a with
  | 0 => exact Fin.ext (by show lastRow b.val + (6 + e.val) - 7 = lastRow b.val + e.val - 1; omega)
  | 1 => rfl

/-- Every run of the kernel ends with the two results so, and its arguments unchanged. -/
theorem run (ρ : Dev nD → PrngReg) : θ_run defs (onTc (τ := τ) (main (F := Ideal))) ⟨m, fun _ => 0, ρ⟩ fun r => ∀ c : Dev nD,
      r.2.mem ((c : Thread nD τ).loc main_v1_0) = active (upOf m c) (stOf m c) (wOf m c)
      ∧ r.2.mem ((c : Thread nD τ).loc main_v2) = states (upOf m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 4).trans (final4 m c),
      ((h c).2 main_v2 (Pipeline.mem_restRefs_of main_v2 (by decide) (by decide))).trans (sliced m c),
      ((h c).1 1).trans (((dats m 0 c).arrAt_in 1 rfl _).trans ((A_eq m c 1).trans (V_main_arg0 m c))),
      ((h c).2 main_arg1 (Pipeline.mem_restRefs_of main_arg1 (by decide) (by decide))).trans (W_main_arg1 m (dats m) c),
      ((h c).1 3).trans (((dats m 0 c).arrAt_in 3 rfl _).trans ((A_eq m c 3).trans (V_main_arg2 m c)))⟩)
    (run_main m ρ)

end Cert.Kernel8Ideal.Act

end
-- ==== Proof.Act.Host.lean ====
/-
  The activation call's reference ends with the same two results.
-/
module

public import proofs.«01_k».proof.Proof.Act.Spec
public import proofs.«01_k».proof.Proof.Gen.Reference8Ideal.Run

@[expose] public section

set_option maxRecDepth 65536

noncomputable section

open Idealize.ShloMosaic Idealize.ShloMosaic.TcCoe Idealize.SL.Sem

namespace Cert.Reference8Ideal.Act

open Cert.Reference8Ideal Cert.Reference8Ideal.Gen
open Cert.Kernel8Ideal.Act (past conv gelu active states lastRow place)

/-- The first half of the columns. -/
def half (up : FVec Ideal S33792x11264 .f32) : FVec Ideal S33792x5632 .f32 :=
  extractStridedSlice S33792x5632 ![0, 0] up slices_S33792x11264_S33792x5632_0_0

/-- The prompts' rows, stream by stream, two zero rows before each. -/
def prompts (up : FVec Ideal S33792x11264 .f32) : FVec Ideal S4x8194x5632 .f32 :=
  concatenate S4x8194x5632 1
    [⟨S4x2x5632, (broadcastInDim S4x2x5632 ![] bcast_S_S4x2x5632 (constant S_ .f32 0x00000000#32))⟩,
      ⟨S4x8192x5632, (shapeCast _ (extractStridedSlice S32768x5632 ![0, 0] (half up) slices_S33792x5632_S32768x5632_0_0)
        shapeCasts_S32768x5632_S4x8192x5632)⟩] concatenates_S4x2x5632_S4x8192x5632_S4x8194x5632_d1

/-- The samples' rows, stream by stream, the stream's state before each. -/
def samples (up : FVec Ideal S33792x11264 .f32) (st : FVec Ideal S16x2x5632 .f32) : FVec Ideal S16x66x5632 .f32 :=
  concatenate S16x66x5632 1
    [⟨S16x2x5632, st⟩,
      ⟨S16x64x5632, (shapeCast _ (extractStridedSlice S1024x5632 ![32768, 0] (half up) slices_S33792x5632_S1024x5632_32768_0)
        shapeCasts_S1024x5632_S16x64x5632)⟩] concatenates_S16x2x5632_S16x64x5632_S16x66x5632_d1

/-- The weights' three rows. -/
def weight0 (w : FVec Ideal S3x5632 .f32) : FVec Ideal S1x1x5632 .f32 :=
  broadcastInDim S1x1x5632 ![2] bcast_S5632_S1x1x5632_2
    (shapeCast _ (extractStridedSlice S1x5632 ![0, 0] w slices_S3x5632_S1x5632_0_0) shapeCasts_S1x5632_S5632)
def weight1 (w : FVec Ideal S3x5632 .f32) : FVec Ideal S1x1x5632 .f32 :=
  broadcastInDim S1x1x5632 ![2] bcast_S5632_S1x1x5632_2
    (shapeCast _ (extractStridedSlice S1x5632 ![1, 0] w slices_S3x5632_S1x5632_1_0) shapeCasts_S1x5632_S5632)
def weight2 (w : FVec Ideal S3x5632 .f32) : FVec Ideal S1x1x5632 .f32 :=
  broadcastInDim S1x1x5632 ![2] bcast_S5632_S1x1x5632_2
    (shapeCast _ (extractStridedSlice S1x5632 ![2, 0] w slices_S3x5632_S1x5632_2_0) shapeCasts_S1x5632_S5632)

/-- The convolution along a prompt's rows, and along a sample's. -/
def overPrompts (x : FVec Ideal S4x8194x5632 .f32) (w : FVec Ideal S3x5632 .f32) : FVec Ideal S4x8192x5632 .f32 :=
  addf (addf
      (mulf (extractStridedSlice S4x8192x5632 ![0, 0, 0] x slices_S4x8194x5632_S4x8192x5632_0_0_0)
        (broadcastInDim S4x8192x5632 ![0, 1, 2] bcast_S1x1x5632_S4x8192x5632_0_1_2 (weight0 w)))
      (mulf (extractStridedSlice S4x8192x5632 ![0, 1, 0] x slices_S4x8194x5632_S4x8192x5632_0_1_0)
        (broadcastInDim S4x8192x5632 ![0, 1, 2] bcast_S1x1x5632_S4x8192x5632_0_1_2 (weight1 w))))
    (mulf (extractStridedSlice S4x8192x5632 ![0, 2, 0] x slices_S4x8194x5632_S4x8192x5632_0_2_0)
      (broadcastInDim S4x8192x5632 ![0, 1, 2] bcast_S1x1x5632_S4x8192x5632_0_1_2 (weight2 w)))
def overSamples (x : FVec Ideal S16x66x5632 .f32) (w : FVec Ideal S3x5632 .f32) : FVec Ideal S16x64x5632 .f32 :=
  addf (addf
      (mulf (extractStridedSlice S16x64x5632 ![0, 0, 0] x slices_S16x66x5632_S16x64x5632_0_0_0)
        (broadcastInDim S16x64x5632 ![0, 1, 2] bcast_S1x1x5632_S16x64x5632_0_1_2 (weight0 w)))
      (mulf (extractStridedSlice S16x64x5632 ![0, 1, 0] x slices_S16x66x5632_S16x64x5632_0_1_0)
        (broadcastInDim S16x64x5632 ![0, 1, 2] bcast_S1x1x5632_S16x64x5632_0_1_2 (weight1 w))))
    (mulf (extractStridedSlice S16x64x5632 ![0, 2, 0] x slices_S16x66x5632_S16x64x5632_0_2_0)
      (broadcastInDim S16x64x5632 ![0, 1, 2] bcast_S1x1x5632_S16x64x5632_0_1_2 (weight2 w)))

/-- All rows' convolutions, in the rows' order. -/
def joined (p : FVec Ideal S4x8192x5632 .f32) (s : FVec Ideal S16x64x5632 .f32) : FVec Ideal S33792x5632 .f32 :=
  concatenate S33792x5632 0
    [⟨S32768x5632, (shapeCast _ p shapeCasts_S4x8192x5632_S32768x5632)⟩,
      ⟨S1024x5632, (shapeCast _ s shapeCasts_S16x64x5632_S1024x5632)⟩] concatenates_S32768x5632_S1024x5632_S33792x5632_d0

/-- The rows' Gaussian error linear units, times the second half of the columns. -/
def finished (x : FVec Ideal S33792x5632 .f32) (up : FVec Ideal S33792x11264 .f32) : FVec Ideal S33792x5632 .bf16 :=
  truncf .bf16
    (mulf
      (mulf (mulf (broadcastInDim S33792x5632 ![] bcast_S_S33792x5632 (constant S_ .f32 0x3F000000#32)) x)
        (Host.erfc (mulf (Host.negf x) (broadcastInDim S33792x5632 ![] bcast_S_S33792x5632 (constant S_ .f32 0x3F3504F3#32)))))
      (extractStridedSlice S33792x5632 ![0, 5632] up slices_S33792x11264_S33792x5632_0_5632)) bitsLt_bf16_f32

/-- The last two rows of each stream. -/
def ends (x : FVec Ideal S4x8194x5632 .f32) (y : FVec Ideal S16x66x5632 .f32) : FVec Ideal S20x2x5632 .f32 :=
  concatenate S20x2x5632 0
    [⟨S4x2x5632, (extractStridedSlice S4x2x5632 ![0, 8192, 0] x slices_S4x8194x5632_S4x2x5632_0_8192_0)⟩,
      ⟨S16x2x5632, (extractStridedSlice S16x2x5632 ![0, 64, 0] y slices_S16x66x5632_S16x2x5632_0_64_0)⟩]
    concatenates_S4x2x5632_S16x2x5632_S20x2x5632_d0

/-- Each array entry by entry. -/
theorem prompts_apply (up : FVec Ideal S33792x11264 .f32) (b : Fin 4) (e : Fin 8194) (j : Fin 5632) :
    prompts up (ix3 b e j) =
      if h : e.val < 2 then 0 else up (ix2 ⟨b.val * 8192 + (e.val - 2), by omega⟩ ⟨j.val, by omega⟩) := by
  pointwise [prompts, half]

theorem samples_apply (up : FVec Ideal S33792x11264 .f32) (st : FVec Ideal S16x2x5632 .f32) (b : Fin 16) (e : Fin 66) (j : Fin 5632) :
    samples up st (ix3 b e j) =
      if h : e.val < 2 then st (ix3 b ⟨e.val, h⟩ j)
      else up (ix2 ⟨32768 + (b.val * 64 + (e.val - 2)), by omega⟩ ⟨j.val, by omega⟩) := by
  pointwise [samples, half]

theorem overPrompts_apply (x : FVec Ideal S4x8194x5632 .f32) (w : FVec Ideal S3x5632 .f32) (b : Fin 4) (e : Fin 8192) (j : Fin 5632) :
    overPrompts x w (ix3 b e j) =
      x (ix3 b ⟨e.val, by omega⟩ j) * w (ix2 0 j) + x (ix3 b ⟨1 + e.val, by omega⟩ j) * w (ix2 1 j)
        + x (ix3 b ⟨2 + e.val, by omega⟩ j) * w (ix2 2 j) := by
  pointwise [overPrompts, weight0, weight1, weight2]

theorem overSamples_apply (x : FVec Ideal S16x66x5632 .f32) (w : FVec Ideal S3x5632 .f32) (b : Fin 16) (e : Fin 64) (j : Fin 5632) :
    overSamples x w (ix3 b e j) =
      x (ix3 b ⟨e.val, by omega⟩ j) * w (ix2 0 j) + x (ix3 b ⟨1 + e.val, by omega⟩ j) * w (ix2 1 j)
        + x (ix3 b ⟨2 + e.val, by omega⟩ j) * w (ix2 2 j) := by
  pointwise [overSamples, weight0, weight1, weight2]

theorem joined_apply (p : FVec Ideal S4x8192x5632 .f32) (s : FVec Ideal S16x64x5632 .f32) (r : Fin 33792) (j : Fin 5632) :
    joined p s (ix2 r j) =
      if h : r.val < 32768 then p (ix3 ⟨r.val / 8192, by omega⟩ ⟨r.val % 8192, by omega⟩ j)
      else s (ix3 ⟨(r.val - 32768) / 64, by omega⟩ ⟨(r.val - 32768) % 64, by omega⟩ j) := by
  pointwise [joined]

theorem finished_apply (x : FVec Ideal S33792x5632 .f32) (up : FVec Ideal S33792x11264 .f32) (r : Fin 33792) (j : Fin 5632) :
    finished x up (ix2 r j) = gelu (x (ix2 r j)) * up (ix2 r ⟨5632 + j.val, by omega⟩) := by
  pointwise [finished, gelu]
  rw [neg_mul, Ideal.erfc_neg]

theorem ends_apply (x : FVec Ideal S4x8194x5632 .f32) (y : FVec Ideal S16x66x5632 .f32) (b : Fin 20) (e : Fin 2) (j : Fin 5632) :
    ends x y (ix3 b e j) =
      if h : b.val < 4 then x (ix3 ⟨b.val, h⟩ ⟨8192 + e.val, by omega⟩ j)
      else y (ix3 ⟨b.val - 4, by omega⟩ ⟨64 + e.val, by omega⟩ j) := by
  pointwise [ends]

/-- The padded rows are the rows some frames back. -/
theorem prompts_past (up : FVec Ideal S33792x11264 .f32) (st : FVec Ideal S16x2x5632 .f32) (k d : ℕ) (hkd : k + d = 2)
    (r : Fin 33792) (hr : r.val < 32768) (j : Fin 5632) :
    prompts up (ix3 ⟨r.val / 8192, by omega⟩ ⟨d + r.val % 8192, by omega⟩ j) = past up st k r j := by
  rw [prompts_apply]
  unfold past place
  simp only [if_pos hr]
  by_cases h : k ≤ r.val % 8192
  · rw [if_pos h, dif_neg (show ¬(d + r.val % 8192 < 2) by omega)]
    congr 2
    exact Fin.ext (by show r.val / 8192 * 8192 + (d + r.val % 8192 - 2) = r.val - k; omega)
  · rw [if_neg h, dif_pos (show d + r.val % 8192 < 2 by omega)]

theorem samples_past (up : FVec Ideal S33792x11264 .f32) (st : FVec Ideal S16x2x5632 .f32) (k d : ℕ) (hkd : k + d = 2)
    (r : Fin 33792) (hr : ¬r.val < 32768) (j : Fin 5632) :
    samples up st (ix3 ⟨(r.val - 32768) / 64, by omega⟩ ⟨d + (r.val - 32768) % 64, by omega⟩ j) = past up st k r j := by
  have hm : (r.val - 32768) % 64 = r.val % 64 := by omega
  rw [samples_apply]
  unfold past place
  simp only [if_neg hr]
  by_cases h : k ≤ r.val % 64
  · rw [if_pos h, dif_neg (show ¬(d + (r.val - 32768) % 64 < 2) by omega)]
    refine congrArg (fun x : Fin 33792 => up (ix2 x (⟨j.val, by omega⟩ : Fin 11264))) ?_
    exact Fin.ext (by show 32768 + ((r.val - 32768) / 64 * 64 + (d + (r.val - 32768) % 64 - 2)) = r.val - k; omega)
  · rw [if_neg h, dif_pos (show d + (r.val - 32768) % 64 < 2 by omega)]
    refine congrArg (fun x : Fin 2 => st (ix3 (⟨(r.val - 32768) / 64, by omega⟩ : Fin 16) x j)) ?_
    exact Fin.ext (by show d + (r.val - 32768) % 64 = (2 + r.val % 64 - k) % 2; omega)

/-- All rows' convolutions. -/
theorem joined_conv (up : FVec Ideal S33792x11264 .f32) (st : FVec Ideal S16x2x5632 .f32) (w : FVec Ideal S3x5632 .f32)
    (r : Fin 33792) (j : Fin 5632) :
    joined (overPrompts (prompts up) w) (overSamples (samples up st) w) (ix2 r j) = conv up st w r j := by
  rw [joined_apply]
  unfold conv
  by_cases hr : r.val < 32768
  · rw [dif_pos hr, overPrompts_apply, ← prompts_past up st 2 0 (by omega) r hr j, ← prompts_past up st 1 1 (by omega) r hr j,
      ← prompts_past up st 0 2 (by omega) r hr j]
    simp only [Nat.zero_add]
  · rw [dif_neg hr, overSamples_apply, ← samples_past up st 2 0 (by omega) r hr j, ← samples_past up st 1 1 (by omega) r hr j,
      ← samples_past up st 0 2 (by omega) r hr j]
    simp only [Nat.zero_add]

/-- The first result. -/
theorem finished_eq (up : FVec Ideal S33792x11264 .f32) (st : FVec Ideal S16x2x5632 .f32) (w : FVec Ideal S3x5632 .f32) :
    finished (joined (overPrompts (prompts up) w) (overSamples (samples up st) w)) up = active up st w := by
  funext y
  obtain ⟨r, j, rfl⟩ : ∃ (r : Fin 33792) (j : Fin 5632), y = (ix2 r j : S33792x5632.Idx) := ⟨y 0, y 1, by funext a; match a with | 0 => rfl | 1 => rfl⟩
  rw [finished_apply, joined_conv]
  rfl

/-- The second result. -/
theorem ends_eq (up : FVec Ideal S33792x11264 .f32) (st : FVec Ideal S16x2x5632 .f32) :
    ends (prompts up) (samples up st) = states up := by
  funext y
  obtain ⟨b, e, j, rfl⟩ : ∃ (b : Fin 20) (e : Fin 2) (j : Fin 5632), y = (ix3 b e j : S20x2x5632.Idx) :=
    ⟨y 0, y 1, y 2, by funext a; match a with | 0 => rfl | 1 => rfl | 2 => rfl⟩
  rw [ends_apply]
  show _ = up (ix2 ⟨lastRow b.val + e.val - 1, _⟩ ⟨j.val, _⟩)
  by_cases hb : b.val < 4
  · have hl : lastRow b.val = 8192 * b.val + 8191 := if_pos hb
    rw [dif_pos hb, prompts_apply, dif_neg (show ¬(8192 + e.val < 2) by omega)]
    congr 2
    exact Fin.ext (by show b.val * 8192 + (8192 + e.val - 2) = lastRow b.val + e.val - 1; omega)
  · have hl : lastRow b.val = 32768 + 64 * (b.val - 4) + 63 := if_neg hb
    rw [dif_neg hb, samples_apply, dif_neg (show ¬(64 + e.val < 2) by omega)]
    congr 2
    exact Fin.ext (by show 32768 + ((b.val - 4) * 64 + (64 + e.val - 2)) = lastRow b.val + e.val - 1; omega)

variable (m : (ℓ : Loc nD τ sig) → Buf (Elt Ideal) ℓ) (c : Dev nD)

abbrev upOf : FVec Ideal S33792x11264 .f32 := m ((c.tc : Thread nD τ).loc main_arg0)
abbrev stOf : FVec Ideal S16x2x5632 .f32 := m ((c.tc : Thread nD τ).loc main_arg1)
abbrev wOf : FVec Ideal S3x5632 .f32 := m ((c.tc : Thread nD τ).loc main_arg2)

theorem first_eq : (Value.res_main_v62 m c : FVec Ideal S33792x5632 .bf16) =
    finished (joined (overPrompts (prompts (upOf m c)) (wOf m c)) (overSamples (samples (upOf m c) (stOf m c)) (wOf m c))) (upOf m c) := by
  unfold Value.res_main_v62
  rfl

/-- The run. -/
theorem run (ρ : Dev nD → PrngReg) :
    θ_run defs (onTc (τ := τ) (main (F := Ideal))) ⟨m, fun _ => 0, ρ⟩ fun r => ∀ c : Dev nD,
      r.2.mem ((c.tc : Thread nD τ).loc main_v62) = active (upOf m c) (stOf m c) (wOf m c)
      ∧ r.2.mem ((c.tc : Thread nD τ).loc main_v63) = states (upOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨(h c).1.trans ((first_eq m c).trans (finished_eq (upOf m c) (stOf m c) (wOf m c))),
      (h c).2.1.trans (ends_eq (upOf m c) (stOf m c)), (h c).2.2⟩)
    (Value.run (F := Ideal) m ρ)

end Cert.Reference8Ideal.Act

end
-- ==== Proof.lean ====
/-
  The certificate: the programs of the retention, of the layer's matrix products and of its activation run, so do their idealizations, and every
  idealized kernel's results are its reference's. The retention's kernel is under `Proof/Retention` (and its frame at machine
  words under `Proof/Machine`), its reference under `Proof/Reference`; both meet in the plain formulas of
  `Proof/Retention/Streams.lean`. Each matrix product has a folder of its own: `In`, `Up`, `Down`, `Merge`, `Ple`, `Embed`.
  The activation is under `Act`, its frame at machine words under `ActMachine`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.ReferenceIdeal
public import proofs.«01_k».proof.Proof.Gen.ReferenceIdeal.Run
public import proofs.«01_k».proof.Proof.Machine.Frame
public import proofs.«01_k».proof.Proof.Retention.Final
public import proofs.«01_k».proof.Proof.Reference.Trips
public import proofs.«01_k».proof.Proof.Reference.Result
public import proofs.«01_k».proof.Proof.In.Final
public import proofs.«01_k».proof.Proof.Up.Final
public import proofs.«01_k».proof.Proof.Down.Final
public import proofs.«01_k».proof.Proof.Merge.Final
public import proofs.«01_k».proof.Proof.Ple.Final
public import proofs.«01_k».proof.Proof.Embed.Final
public import proofs.«01_k».proof.Proof.Act.Final
public import proofs.«01_k».proof.Proof.Act.Host
public import proofs.«01_k».proof.Proof.ActMachine.Frame
public import Idealize.ShloMosaic.Adequacy
public import Idealize.ShloMosaic.Init

@[expose] public section

noncomputable section

namespace Cert.Proof

open Idealize.ShloMosaic Idealize.SL.Sem

/-- The kernel's frame, over machine floats. -/
theorem frame_kernel : Cert.quiescent_Kernel (hKernel := Cert.Kernel.Gen.facts) := fun m g _ =>
  Cert.Kernel.Machine.frame m g

/-- The idealized kernel's frame. -/
theorem frame_ideal : Cert.quiescent_KernelIdeal (hKernelIdeal := Cert.KernelIdeal.Gen.facts) := fun m g _ =>
  Cert.KernelIdeal.Retention.frame m g

/-- The reference's frame; it declares no semaphore. -/
theorem frame_reference : Cert.quiescent_ReferenceIdeal (hReferenceIdeal := Cert.ReferenceIdeal.Gen.facts) := fun m g _ =>
  (θ_run _ _ _).mono (fun r h => ⟨fun c => (h c).2.2, sem_eq_zero_of_no_sems (by decide) r.2⟩) (Cert.ReferenceIdeal.Trips.run m g)

/-- Every named constant's word is the float nearest to the number it is named for. -/
theorem preserves : Cert.preserves_Kernel_KernelIdeal :=
  ⟨IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl, IdealRules.named_const.statement _ _ _ _ _ rfl⟩

/-- Over the extended reals the kernel's two results are the reference's. -/
theorem algebraic : Cert.algebraic_KernelIdeal_ReferenceIdeal (hKernelIdeal := Cert.KernelIdeal.Gen.facts)
    (hReferenceIdeal := Cert.ReferenceIdeal.Gen.facts) := fun m g m' g' _ he =>
  ⟨fun c => Cert.KernelIdeal.Retention.rowsOf m c, fun c => Cert.KernelIdeal.Retention.statesOf m c,
    Cert.KernelIdeal.Retention.run m g, (θ_run _ _ _).mono (fun r h c => by
      have hs := Cert.ReferenceIdeal.Loop.carries_all (m' ((c.tc : Thread Cert.ReferenceIdeal.nD Cert.ReferenceIdeal.τ).loc Cert.ReferenceIdeal.main_arg0))
        (Cert.ReferenceIdeal.Result.own (m' ((c.tc : Thread Cert.ReferenceIdeal.nD Cert.ReferenceIdeal.τ).loc Cert.ReferenceIdeal.main_arg1)))
        (Cert.ReferenceIdeal.Trips.carried m' c) rfl (fun _ => rfl) 128 le_rfl
      have h1 := (h c).1.trans (Cert.ReferenceIdeal.Result.first_eq hs)
      have h2 := (h c).2.1.trans (Cert.ReferenceIdeal.Result.second_eq hs)
      rw [(he c).1, (he c).2] at h1 h2
      exact ⟨h1, h2, (h c).2.2⟩) (Cert.ReferenceIdeal.Trips.run m' g')⟩

/-- The input projection: the kernel's frame, the idealized kernel's, the reference's. -/
theorem frame_kernel2 : Cert.quiescent_Kernel2 (hKernel2 := Cert.Kernel2.Gen.facts) := fun m g _ =>
  Cert.Kernel2.Gen.frame m g
theorem frame_ideal2 : Cert.quiescent_Kernel2Ideal (hKernel2Ideal := Cert.Kernel2Ideal.Gen.facts) := fun m g _ =>
  Cert.Kernel2Ideal.Gen.frame m g
theorem frame_reference2 : Cert.quiescent_Reference2Ideal (hReference2Ideal := Cert.Reference2Ideal.Gen.facts) := fun m g _ =>
  (θ_run _ _ _).mono (fun r h => ⟨fun c => (h c).2, sem_eq_zero_of_no_sems (by decide) r.2⟩) (Cert.Reference2Ideal.Rows.run m g)

/-- Nothing of the input projection is rewritten by its idealization. -/
theorem preserves2 : Cert.preserves_Kernel2_Kernel2Ideal := trivial

/-- Over the extended reals the result of the input projection is the reference's. -/
theorem algebraic2 : Cert.algebraic_Kernel2Ideal_Reference2Ideal (hKernel2Ideal := Cert.Kernel2Ideal.Gen.facts)
    (hReference2Ideal := Cert.Reference2Ideal.Gen.facts) := fun m g m' g' _ he =>
  ⟨fun c => Cert.Kernel2Ideal.Rows.productOf m c, Cert.Kernel2Ideal.Rows.run m g, (θ_run _ _ _).mono (fun r h c =>
    ⟨(h c).1.trans (by rw [(he c).1, (he c).2.1, (he c).2.2]; rfl), (h c).2⟩)
    (Cert.Reference2Ideal.Rows.run m' g')⟩

/-- The up-projection: the kernel's frame, the idealized kernel's, the reference's. -/
theorem frame_kernel3 : Cert.quiescent_Kernel3 (hKernel3 := Cert.Kernel3.Gen.facts) := fun m g _ =>
  Cert.Kernel3.Gen.frame m g
theorem frame_ideal3 : Cert.quiescent_Kernel3Ideal (hKernel3Ideal := Cert.Kernel3Ideal.Gen.facts) := fun m g _ =>
  Cert.Kernel3Ideal.Gen.frame m g
theorem frame_reference3 : Cert.quiescent_Reference3Ideal (hReference3Ideal := Cert.Reference3Ideal.Gen.facts) := fun m g _ =>
  (θ_run _ _ _).mono (fun r h => ⟨fun c => (h c).2, sem_eq_zero_of_no_sems (by decide) r.2⟩) (Cert.Reference3Ideal.Rows.run m g)

/-- Nothing of the up-projection is rewritten by its idealization. -/
theorem preserves3 : Cert.preserves_Kernel3_Kernel3Ideal := trivial

/-- Over the extended reals the result of the up-projection is the reference's. -/
theorem algebraic3 : Cert.algebraic_Kernel3Ideal_Reference3Ideal (hKernel3Ideal := Cert.Kernel3Ideal.Gen.facts)
    (hReference3Ideal := Cert.Reference3Ideal.Gen.facts) := fun m g m' g' _ he =>
  ⟨fun c => Cert.Kernel3Ideal.Rows.productOf m c, Cert.Kernel3Ideal.Rows.run m g, (θ_run _ _ _).mono (fun r h c =>
    ⟨(h c).1.trans (by rw [(he c).1, (he c).2.1, (he c).2.2]; rfl), (h c).2⟩)
    (Cert.Reference3Ideal.Rows.run m' g')⟩

/-- The down-projection: the kernel's frame, the idealized kernel's, the reference's. -/
theorem frame_kernel4 : Cert.quiescent_Kernel4 (hKernel4 := Cert.Kernel4.Gen.facts) := fun m g _ =>
  Cert.Kernel4.Gen.frame m g
theorem frame_ideal4 : Cert.quiescent_Kernel4Ideal (hKernel4Ideal := Cert.Kernel4Ideal.Gen.facts) := fun m g _ =>
  Cert.Kernel4Ideal.Gen.frame m g
theorem frame_reference4 : Cert.quiescent_Reference4Ideal (hReference4Ideal := Cert.Reference4Ideal.Gen.facts) := fun m g _ =>
  (θ_run _ _ _).mono (fun r h => ⟨fun c => (h c).2, sem_eq_zero_of_no_sems (by decide) r.2⟩) (Cert.Reference4Ideal.Sums.run m g)

/-- Nothing of the down-projection is rewritten by its idealization. -/
theorem preserves4 : Cert.preserves_Kernel4_Kernel4Ideal := trivial

/-- Over the extended reals the result of the down-projection is the reference's. -/
theorem algebraic4 : Cert.algebraic_Kernel4Ideal_Reference4Ideal (hKernel4Ideal := Cert.Kernel4Ideal.Gen.facts)
    (hReference4Ideal := Cert.Reference4Ideal.Gen.facts) := fun m g m' g' _ he =>
  ⟨fun c => Cert.Kernel4Ideal.Sums.downOf m c, Cert.Kernel4Ideal.Sums.run m g, (θ_run _ _ _).mono (fun r h c =>
    ⟨(h c).1.trans (by rw [(he c).1, (he c).2.1, (he c).2.2]; rfl), (h c).2⟩)
    (Cert.Reference4Ideal.Sums.run m' g')⟩

/-- The merge: the kernel's frame, the idealized kernel's, the reference's. -/
theorem frame_kernel5 : Cert.quiescent_Kernel5 (hKernel5 := Cert.Kernel5.Gen.facts) := fun m g _ =>
  Cert.Kernel5.Gen.frame m g
theorem frame_ideal5 : Cert.quiescent_Kernel5Ideal (hKernel5Ideal := Cert.Kernel5Ideal.Gen.facts) := fun m g _ =>
  Cert.Kernel5Ideal.Gen.frame m g
theorem frame_reference5 : Cert.quiescent_Reference5Ideal (hReference5Ideal := Cert.Reference5Ideal.Gen.facts) := fun m g _ =>
  (θ_run _ _ _).mono (fun r h => ⟨fun c => (h c).2, sem_eq_zero_of_no_sems (by decide) r.2⟩) (Cert.Reference5Ideal.Rows.run m g)

/-- Nothing of the merge is rewritten by its idealization. -/
theorem preserves5 : Cert.preserves_Kernel5_Kernel5Ideal := trivial

/-- Over the extended reals the result of the merge is the reference's. -/
theorem algebraic5 : Cert.algebraic_Kernel5Ideal_Reference5Ideal (hKernel5Ideal := Cert.Kernel5Ideal.Gen.facts)
    (hReference5Ideal := Cert.Reference5Ideal.Gen.facts) := fun m g m' g' _ he =>
  ⟨fun c => Cert.Kernel5Ideal.Rows.mergedOf m c, Cert.Kernel5Ideal.Rows.run m g, (θ_run _ _ _).mono (fun r h c =>
    ⟨(h c).1.trans (by rw [(he c).1, (he c).2.1, (he c).2.2.1, (he c).2.2.2.1, (he c).2.2.2.2.1, (he c).2.2.2.2.2.1, (he c).2.2.2.2.2.2]; rfl), (h c).2⟩)
    (Cert.Reference5Ideal.Rows.run m' g')⟩

/-- The gated embedding: the kernel's frame, the idealized kernel's, the reference's. -/
theorem frame_kernel6 : Cert.quiescent_Kernel6 (hKernel6 := Cert.Kernel6.Gen.facts) := fun m g _ =>
  Cert.Kernel6.Gen.frame m g
theorem frame_ideal6 : Cert.quiescent_Kernel6Ideal (hKernel6Ideal := Cert.Kernel6Ideal.Gen.facts) := fun m g _ =>
  Cert.Kernel6Ideal.Gen.frame m g
theorem frame_reference6 : Cert.quiescent_Reference6Ideal (hReference6Ideal := Cert.Reference6Ideal.Gen.facts) := fun m g _ =>
  (θ_run _ _ _).mono (fun r h => ⟨fun c => (h c).2, sem_eq_zero_of_no_sems (by decide) r.2⟩) (Cert.Reference6Ideal.Rows.run m g)

/-- Nothing of the gated embedding is rewritten by its idealization. -/
theorem preserves6 : Cert.preserves_Kernel6_Kernel6Ideal := trivial

/-- Over the extended reals the result of the gated embedding is the reference's. -/
theorem algebraic6 : Cert.algebraic_Kernel6Ideal_Reference6Ideal (hKernel6Ideal := Cert.Kernel6Ideal.Gen.facts)
    (hReference6Ideal := Cert.Reference6Ideal.Gen.facts) := fun m g m' g' _ he =>
  ⟨fun c => Cert.Kernel6Ideal.Rows.endedOf m c, Cert.Kernel6Ideal.Rows.run m g, (θ_run _ _ _).mono (fun r h c =>
    ⟨(h c).1.trans (by rw [(he c).1, (he c).2.1, (he c).2.2.1, (he c).2.2.2.1, (he c).2.2.2.2.1, (he c).2.2.2.2.2]; rfl), (h c).2⟩)
    (Cert.Reference6Ideal.Rows.run m' g')⟩

/-- The gated embedding of a layer before the last: the kernel's frame, the idealized kernel's, the reference's. -/
theorem frame_kernel7 : Cert.quiescent_Kernel7 (hKernel7 := Cert.Kernel7.Gen.facts) := fun m g _ =>
  Cert.Kernel7.Gen.frame m g
theorem frame_ideal7 : Cert.quiescent_Kernel7Ideal (hKernel7Ideal := Cert.Kernel7Ideal.Gen.facts) := fun m g _ =>
  Cert.Kernel7Ideal.Gen.frame m g
theorem frame_reference7 : Cert.quiescent_Reference7Ideal (hReference7Ideal := Cert.Reference7Ideal.Gen.facts) := fun m g _ =>
  (θ_run _ _ _).mono (fun r h => ⟨fun c => (h c).2, sem_eq_zero_of_no_sems (by decide) r.2⟩) (Cert.Reference7Ideal.Rows.run m g)

/-- Nothing of the gated embedding of a layer before the last is rewritten by its idealization. -/
theorem preserves7 : Cert.preserves_Kernel7_Kernel7Ideal := trivial

/-- Over the extended reals the result of the gated embedding of a layer before the last is the reference's. -/
theorem algebraic7 : Cert.algebraic_Kernel7Ideal_Reference7Ideal (hKernel7Ideal := Cert.Kernel7Ideal.Gen.facts)
    (hReference7Ideal := Cert.Reference7Ideal.Gen.facts) := fun m g m' g' _ he =>
  ⟨fun c => Cert.Kernel7Ideal.Rows.mixedOf m c, Cert.Kernel7Ideal.Rows.run m g, (θ_run _ _ _).mono (fun r h c =>
    ⟨(h c).1.trans (by rw [(he c).1, (he c).2.1, (he c).2.2.1, (he c).2.2.2.1, (he c).2.2.2.2.1]; rfl), (h c).2⟩)
    (Cert.Reference7Ideal.Rows.run m' g')⟩

/-- The activation: the kernel's frame, the idealized kernel's, the reference's. -/
theorem frame_kernel8 : Cert.quiescent_Kernel8 (hKernel8 := Cert.Kernel8.Gen.facts) := fun m g _ =>
  Cert.Kernel8.Act.frame m g
theorem frame_ideal8 : Cert.quiescent_Kernel8Ideal (hKernel8Ideal := Cert.Kernel8Ideal.Gen.facts) := fun m g _ =>
  Cert.Kernel8Ideal.Act.frame m g
theorem frame_reference8 : Cert.quiescent_Reference8Ideal (hReference8Ideal := Cert.Reference8Ideal.Gen.facts) := fun m g _ =>
  (θ_run _ _ _).mono (fun r h => ⟨fun c => (h c).2.2, sem_eq_zero_of_no_sems (by decide) r.2⟩) (Cert.Reference8Ideal.Act.run m g)

/-- Nothing of the activation is rewritten by its idealization. -/
theorem preserves8 : Cert.preserves_Kernel8_Kernel8Ideal := trivial

/-- Over the extended reals the two results of the activation are the reference's. -/
theorem algebraic8 : Cert.algebraic_Kernel8Ideal_Reference8Ideal (hKernel8Ideal := Cert.Kernel8Ideal.Gen.facts)
    (hReference8Ideal := Cert.Reference8Ideal.Gen.facts) := fun m g m' g' _ he =>
  ⟨fun c => Cert.Kernel8Ideal.Act.active (Cert.Kernel8Ideal.Act.upOf m c) (Cert.Kernel8Ideal.Act.stOf m c) (Cert.Kernel8Ideal.Act.wOf m c),
    fun c => Cert.Kernel8Ideal.Act.states (Cert.Kernel8Ideal.Act.upOf m c), Cert.Kernel8Ideal.Act.run m g, (θ_run _ _ _).mono (fun r h c =>
      ⟨(h c).1.trans (by
          unfold Cert.Reference8Ideal.Act.upOf Cert.Reference8Ideal.Act.stOf Cert.Reference8Ideal.Act.wOf
          rw [(he c).1, (he c).2.1, (he c).2.2]),
        (h c).2.1.trans (by unfold Cert.Reference8Ideal.Act.upOf; rw [(he c).1]), (h c).2.2⟩)
    (Cert.Reference8Ideal.Act.run m' g')⟩

/-- All claims of the certificate. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    frame_kernel, frame_ideal, frame_reference,
    frame_kernel2, frame_ideal2, frame_reference2,
    frame_kernel3, frame_ideal3, frame_reference3,
    frame_kernel4, frame_ideal4, frame_reference4,
    frame_kernel5, frame_ideal5, frame_reference5,
    frame_kernel6, frame_ideal6, frame_reference6,
    frame_kernel7, frame_ideal7, frame_reference7,
    frame_kernel8, frame_ideal8, frame_reference8,
    preserves, algebraic, preserves2, algebraic2, preserves3, algebraic3, preserves4, algebraic4, preserves5, algebraic5, preserves6, algebraic6, preserves7, algebraic7,
    preserves8, algebraic8⟩

end Cert.Proof

end
